-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S4x8192x1x32 : Shape := ⟨4, ![4, 8192, 1, 32]⟩
abbrev S4x8192x8x256 : Shape := ⟨4, ![4, 8192, 8, 256]⟩
abbrev S_ : Shape := ⟨0, ![]⟩

class Facts : Prop where
  bcast_S4x8192x32_S4x8192x1x32_0_1_3 : S4x8192x32.BroadcastsInDim S4x8192x1x32 (![0, 1, 3] : Fin 3 → Fin S4x8192x1x32.rank)
  bcast_S4x8192x1x32_S4x8192x8x32_0_1_2_3 : S4x8192x1x32.BroadcastsInDim S4x8192x8x32 (![0, 1, 2, 3] : Fin 4 → Fin S4x8192x8x32.rank)
  concatenates_S4x8192x8x64_S4x8192x8x32_S4x8192x8x64_S4x8192x8x32_S4x8192x8x64_S4x8192x8x256_d3 : Shape.Concatenates [S4x8192x8x64, S4x8192x8x32, S4x8192x8x64, S4x8192x8x32, S4x8192x8x64] S4x8192x8x256 3
  bcast_S_S4x8192x8x256 : S_.BroadcastsInDim S4x8192x8x256 (![] : Fin 0 → Fin S4x8192x8x256.rank)

variable [Facts]

def fn {F : FTy → Type} [FloatOps F] (main_arg0 : FVec F S4x8192x8x64 .f32) (main_arg1 : FVec F S4x8192x8x32 .f32) (main_arg2 : FVec F S4x8192x8x64 .f32) (main_arg3 : FVec F S4x8192x32 .f32) (main_arg4 : FVec F S4x8192x8x64 .f32) : IVec S4x8192x8x256 1 :=
  let main_v0 : FVec F S4x8192x1x32 .f32 := broadcastInDim S4x8192x1x32 ![0, 1, 3] bcast_S4x8192x32_S4x8192x1x32_0_1_3 main_arg3
  let main_v1 : FVec F S4x8192x8x32 .f32 := broadcastInDim S4x8192x8x32 ![0, 1, 2, 3] bcast_S4x8192x1x32_S4x8192x8x32_0_1_2_3 main_v0
  let main_v2 : FVec F S4x8192x8x256 .f32 := concatenate S4x8192x8x256 3 [⟨S4x8192x8x64, main_arg0⟩, ⟨S4x8192x8x32, main_arg1⟩, ⟨S4x8192x8x64, main_arg2⟩, ⟨S4x8192x8x32, main_v1⟩, ⟨S4x8192x8x64, main_arg4⟩] concatenates_S4x8192x8x64_S4x8192x8x32_S4x8192x8x64_S4x8192x8x32_S4x8192x8x64_S4x8192x8x256_d3
  let main_v3 : FVec F S4x8192x8x256 .f32 := Host.absf main_v2
  let main_cst : FVec F S_ .f32 := constant S_ .f32 0x7F800000#32
  let main_v4 : FVec F S4x8192x8x256 .f32 := broadcastInDim S4x8192x8x256 ![] bcast_S_S4x8192x8x256 main_cst
  let main_v5 : IVec S4x8192x8x256 1 := cmpf .olt main_v3 main_v4
  main_v5
-- ==== Kernel.lean ====
abbrev S4x8192x1024 : Shape := ⟨3, ![4, 8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S1x1024 : Shape := ⟨2, ![1, 1024]⟩
abbrev S_ : Shape := ⟨0, ![]⟩
abbrev S5x2816 : Shape := ⟨2, ![5, 2816]⟩
abbrev S8x2816 : Shape := ⟨2, ![8, 2816]⟩
abbrev S1x2816 : Shape := ⟨2, ![1, 2816]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S8x1408 : Shape := ⟨2, ![8, 1408]⟩
abbrev S1x1408 : Shape := ⟨2, ![1, 1408]⟩
abbrev S1408x1024 : Shape := ⟨2, ![1408, 1024]⟩

abbrev nBuf : Space → Nat
  | .hbm => 17
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S32768x1024, .f32⟩
  | .hbm, ⟨8, _⟩ => ⟨S1x1024, .f32⟩
  | .hbm, ⟨9, _⟩ => ⟨S1024x5632, .bf16⟩
  | .hbm, ⟨10, _⟩ => ⟨S_, .f32⟩
  | .hbm, ⟨11, _⟩ => ⟨S5x2816, .f32⟩
  | .hbm, ⟨12, _⟩ => ⟨S8x2816, .f32⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S8x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x8192x1024 : Shape := ⟨3, ![4, 8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x5632, .f32⟩
  | .hbm, ⟨24, _⟩ => ⟨S4x8192x2816, .f32⟩
  | .hbm, ⟨25, _⟩ => ⟨S4x8192x2816, .f32⟩
  | .hbm, ⟨26, _⟩ => ⟨S_, .i32⟩
  | .hbm, ⟨27, _⟩ => ⟨S_, .f32⟩
  | .hbm, ⟨28, _⟩ => ⟨S4x8194x2816, .f32⟩
  | .hbm, ⟨29, _⟩ => ⟨S4x8192x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S_, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S_, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S_, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S4x8192x2816, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x1024, .f32⟩
  | .hbm, ⟨83, _⟩ => ⟨S4x8192x1024, .f32⟩
  | .hbm, ⟨84, _⟩ => ⟨S1x1x1024, .f32⟩
  | .hbm, ⟨85, _⟩ => ⟨S4x8192x1024, .f32⟩
  | .hbm, ⟨86, _⟩ => ⟨S4x8192x1024, .f32⟩
  | .hbm, ⟨87, _⟩ => ⟨S4x8192x1024, .f32⟩
  | .hbm, ⟨88, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x6584 : Shape := ⟨2, ![1024, 6584]⟩
abbrev S3x512 : Shape := ⟨2, ![3, 512]⟩
abbrev S32768x512 : Shape := ⟨2, ![32768, 512]⟩
abbrev S4x8192x24 : Shape := ⟨3, ![4, 8192, 24]⟩
abbrev S512x1024 : Shape := ⟨2, ![512, 1024]⟩
abbrev S1024x1024 : Shape := ⟨2, ![1024, 1024]⟩
abbrev S32768x1024 : Shape := ⟨2, ![32768, 1024]⟩
abbrev S32768x24 : Shape := ⟨2, ![32768, 24]⟩
abbrev S_ : Shape := ⟨0, ![]⟩
abbrev S32768x104 : Shape := ⟨2, ![32768, 104]⟩
abbrev S32768x128 : Shape := ⟨2, ![32768, 128]⟩
abbrev S1x1024 : Shape := ⟨2, ![1, 1024]⟩
abbrev S1024x4608 : Shape := ⟨2, ![1024, 4608]⟩
abbrev S5x512 : Shape := ⟨2, ![5, 512]⟩
abbrev S8x512 : Shape := ⟨2, ![8, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x4608 : Shape := ⟨2, ![512, 4608]⟩
abbrev S1x512 : Shape := ⟨2, ![1, 512]⟩

abbrev nBuf : Space → Nat
  | .hbm => 31
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S1024x6584, .f32⟩
  | .hbm, ⟨4, _⟩ => ⟨S3x512, .f32⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S4x8192x24, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S32768x1024, .f32⟩
  | .hbm, ⟨15, _⟩ => ⟨S32768x24, .f32⟩
  | .hbm, ⟨16, _⟩ => ⟨S_, .f32⟩
  | .hbm, ⟨17, _⟩ => ⟨S32768x104, .f32⟩
  | .hbm, ⟨18, _⟩ => ⟨S32768x128, .f32⟩
  | .hbm, ⟨19, _⟩ => ⟨S1x1024, .f32⟩
  | .hbm, ⟨20, _⟩ => ⟨S1024x4608, .f32⟩
  | .hbm, ⟨21, _⟩ => ⟨S1024x4608, .bf16⟩
  | .hbm, ⟨22, _⟩ => ⟨S_, .f32⟩
  | .hbm, ⟨23, _⟩ => ⟨S5x512, .f32⟩
  | .hbm, ⟨24, _⟩ => ⟨S8x512, .f32⟩
  | .hbm, ⟨25, _⟩ => ⟨S512x1024, .bf16⟩
  | .hbm, ⟨26, _⟩ => ⟨S512x1024, .bf16⟩
  | .hbm, ⟨27, _⟩ => ⟨S512x1024, .bf16⟩
  | .hbm, ⟨28, _⟩ => ⟨S1024x1024, .bf16⟩
  | .hbm, ⟨29, _⟩ => ⟨S1x1024, .f32⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S8x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x8192x1024 : Shape := ⟨3, ![4, 8192, 1024]⟩
abbrev S1024 : Shape := ⟨1, ![1024]⟩
abbrev S1024x6584 : Shape := ⟨2, ![1024, 6584]⟩
abbrev S3x512 : Shape := ⟨2, ![3, 512]⟩
abbrev S32768x512 : Shape := ⟨2, ![32768, 512]⟩
abbrev S4x8192x24 : Shape := ⟨3, ![4, 8192, 24]⟩
abbrev S512x1024 : Shape := ⟨2, ![512, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6584 : Shape := ⟨3, ![4, 8192, 6584]⟩
abbrev S4x8192x512 : Shape := ⟨3, ![4, 8192, 512]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S4x8192x8x3 : Shape := ⟨4, ![4, 8192, 8, 3]⟩
abbrev S4x8192x8x1 : Shape := ⟨4, ![4, 8192, 8, 1]⟩
abbrev S4x8192x8x64 : Shape := ⟨4, ![4, 8192, 8, 64]⟩
abbrev S32768x1024 : Shape := ⟨2, ![32768, 1024]⟩

abbrev nBuf : Space → Nat
  | .hbm => 142
  | .vmem => 0
  | .smem => 0
  | _ => 0

abbrev hbmTy0_0 (i : Nat) : BufTy := match i % 128 with
  | 0 => ⟨S4x8192x1024, .f32⟩
  | 1 => ⟨S1024, .f32⟩
  | 2 => ⟨S1024, .f32⟩
  | 3 => ⟨S1024x6584, .f32⟩
  | 4 => ⟨S3x512, .f32⟩
  | 5 => ⟨S32768x512, .bf16⟩
  | 6 => ⟨S32768x512, .bf16⟩
  | 7 => ⟨S32768x512, .bf16⟩
  | 8 => ⟨S32768x512, .bf16⟩
  | 9 => ⟨S4x8192x24, .f32⟩
  | 10 => ⟨S512x1024, .f32⟩
  | 11 => ⟨S512x1024, .f32⟩
  | 12 => ⟨S512x1024, .f32⟩
  | 13 => ⟨S1024x1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S4x8192x6584, .f32⟩
  | 31 => ⟨S4x8192x1024, .f32⟩
  | 32 => ⟨S4x8192x1024, .f32⟩
  | 33 => ⟨S4x8192x1024, .f32⟩
  | 34 => ⟨S4x8192x512, .f32⟩
  | 35 => ⟨S4x8192x512, .f32⟩
  | 36 => ⟨S4x8192x512, .f32⟩
  | 37 => ⟨S4x8192x512, .f32⟩
  | 38 => ⟨S_, .i32⟩
  | 39 => ⟨S_, .f32⟩
  | 40 => ⟨S4x8194x512, .f32⟩
  | 41 => ⟨S4x8192x512, .f32⟩
  | 42 => ⟨S1x512, .f32⟩
  | 43 => ⟨S512, .f32⟩
  | 44 => ⟨S1x1x512, .f32⟩
  | 45 => ⟨S4x8192x512, .f32⟩
  | 46 => ⟨S4x8192x512, .f32⟩
  | 47 => ⟨S4x8192x512, .f32⟩
  | 48 => ⟨S1x512, .f32⟩
  | 49 => ⟨S512, .f32⟩
  | 50 => ⟨S1x1x512, .f32⟩
  | 51 => ⟨S4x8192x512, .f32⟩
  | 52 => ⟨S4x8192x512, .f32⟩
  | 53 => ⟨S4x8192x512, .f32⟩
  | 54 => ⟨S4x8192x512, .f32⟩
  | 55 => ⟨S1x512, .f32⟩
  | 56 => ⟨S512, .f32⟩
  | 57 => ⟨S1x1x512, .f32⟩
  | 58 => ⟨S4x8192x512, .f32⟩
  | 59 => ⟨S4x8192x512, .f32⟩
  | 60 => ⟨S4x8192x512, .f32⟩
  | 61 => ⟨S4x8192x512, .f32⟩
  | 62 => ⟨S4x8192x8x3, .f32⟩
  | 63 => ⟨S4x8192x8x3, .f32⟩
  | 64 => ⟨S4x8192x8x3, .f32⟩
  | 65 => ⟨S_, .f32⟩
  | 66 => ⟨S4x8192x8x3, .f32⟩
  | 67 => ⟨S4x8192x8x3, .f32⟩
  | 68 => ⟨S_, .f32⟩
  | 69 => ⟨S4x8192x8x3, .f32⟩
  | 70 => ⟨S4x8192x8x3, .f32⟩
  | 71 => ⟨S4x8192x8x1, .f32⟩
  | 72 => ⟨S32768x512, .f32⟩
  | 73 => ⟨S4x8192x8x64, .f32⟩
  | 74 => ⟨S4x8192x8x64, .f32⟩
  | 75 => ⟨S4x8192x8x64, .f32⟩
  | 76 => ⟨S4x8192x8x1, .f32⟩
  | 77 => ⟨S32768x512, .f32⟩
  | 78 => ⟨S4x8192x8x64, .f32⟩
  | 79 => ⟨S4x8192x8x64, .f32⟩
  | 80 => ⟨S4x8192x8x64, .f32⟩
  | 81 => ⟨S4x8192x8x64, .f32⟩
  | 82 => ⟨S4x8192x8x1, .f32⟩
  | 83 => ⟨S32768x512, .f32⟩
  | 84 => ⟨S4x8192x8x64, .f32⟩
  | 85 => ⟨S4x8192x8x64, .f32⟩
  | 86 => ⟨S4x8192x8x64, .f32⟩
  | 87 => ⟨S4x8192x8x64, .f32⟩
  | 88 => ⟨S4x8192x512, .f32⟩
  | 89 => ⟨S32768x512, .f32⟩
  | 90 => ⟨S4x8192x512, .f32⟩
  | 91 => ⟨S4x8192x1024, .f32⟩
  | 92 => ⟨S4x8192x1024, .f32⟩
  | 93 => ⟨S_, .f32⟩
  | 94 => ⟨S4x8192x1024, .f32⟩
  | 95 => ⟨S4x8192x1024, .f32⟩
  | 96 => ⟨S_, .f32⟩
  | 97 => ⟨S4x8192x1024, .f32⟩
  | 98 => ⟨S4x8192x1024, .f32⟩
  | 99 => ⟨S4x8192x1024, .f32⟩
  | 100 => ⟨S4x8192x1024, .f32⟩
  | 101 => ⟨S4x8192x1024, .f32⟩
  | 102 => ⟨S4x8192x1024, .f32⟩
  | 103 => ⟨S_, .f32⟩
  | 104 => ⟨S4x8192x1024, .f32⟩
  | 105 => ⟨S4x8192x1024, .f32⟩
  | 106 => ⟨S_, .f32⟩
  | 107 => ⟨S4x8192x1024, .f32⟩
  | 108 => ⟨S4x8192x1024, .f32⟩
  | 109 => ⟨S4x8192x1024, .f32⟩
  | 110 => ⟨S4x8192x1024, .f32⟩
  | 111 => ⟨S4x8192x1024, .f32⟩
  | 112 => ⟨S4x8192x1024, .f32⟩
  | 113 => ⟨S4x8192x1024, .f32⟩
  | 114 => ⟨S_, .f32⟩
  | 115 => ⟨S4x8192x1024, .f32⟩
  | 116 => ⟨S4x8192x1024, .f32⟩
  | 117 => ⟨S_, .f32⟩
  | 118 => ⟨S4x8192x1024, .f32⟩
  | 119 => ⟨S4x8192x1024, .f32⟩
  | 120 => ⟨S4x8192x1024, .f32⟩
  | 121 => ⟨S4x8192x1024, .f32⟩
  | 122 => ⟨S4x8192x1024, .f32⟩
  | 123 => ⟨S4x8192x1024, .f32⟩
  | 124 => ⟨S4x8192x1024, .f32⟩
  | 125 => ⟨S_, .f32⟩
  | 126 => ⟨S4x8192, .f32⟩
  | 127 => ⟨S4x8192x1, .f32⟩
  | _ => ⟨S4x8192x1024, .f32⟩

abbrev hbmTy0_1 (i : Nat) : BufTy := match i % 128 with
  | 0 => ⟨S_, .f32⟩
  | 1 => ⟨S4x8192x1, .f32⟩
  | 2 => ⟨S4x8192x1, .f32⟩
  | 3 => ⟨S_, .f32⟩
  | 4 => ⟨S4x8192x1, .f32⟩
  | 5 => ⟨S4x8192x1, .f32⟩
  | 6 => ⟨S4x8192x1, .f32⟩
  | 7 => ⟨S4x8192x1024, .f32⟩
  | 8 => ⟨S4x8192x1024, .f32⟩
  | 9 => ⟨S1x1x1024, .f32⟩
  | 10 => ⟨S4x8192x1024, .f32⟩
  | 11 => ⟨S4x8192x1024, .f32⟩
  | 12 => ⟨S4x8192x1024, .f32⟩
  | 13 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_v72 : Ref sig .tc := ⟨.hbm, 94, rfl⟩
abbrev main_v73 : Ref sig .tc := ⟨.hbm, 95, rfl⟩
abbrev main_cst_5 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_v80 : Ref sig .tc := ⟨.hbm, 104, rfl⟩
abbrev main_v81 : Ref sig .tc := ⟨.hbm, 105, rfl⟩
abbrev main_cst_7 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_8 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_10 : Ref sig .tc := ⟨.hbm, 125, rfl⟩
abbrev main_v98 : Ref sig .tc := ⟨.hbm, 126, rfl⟩
abbrev main_v99 : Ref sig .tc := ⟨.hbm, 127, rfl⟩
abbrev main_cst_11 : Ref sig .tc := ⟨.hbm, 128, rfl⟩
abbrev main_v100 : Ref sig .tc := ⟨.hbm, 129, rfl⟩
abbrev main_v101 : Ref sig .tc := ⟨.hbm, 130, rfl⟩
abbrev main_cst_12 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩

abbrev nD : Nat := 1
abbrev τ : Topo := Topo.v7x

variable {F : FTy → Type} [FloatOps F]
-- ==== Kernel3.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S136 : Shape := ⟨1, ![136]⟩
abbrev S_ : Shape := ⟨0, ![]⟩
abbrev S4x8192x8x128 : Shape := ⟨4, ![4, 8192, 8, 128]⟩
abbrev S4x8x128x8192 : Shape := ⟨4, ![4, 8, 128, 8192]⟩
abbrev S4x8192x1x32 : Shape := ⟨4, ![4, 8192, 1, 32]⟩
abbrev S4x8x8192x128 : Shape := ⟨4, ![4, 8, 8192, 128]⟩
abbrev S4x8x1x8192 : Shape := ⟨4, ![4, 8, 1, 8192]⟩
abbrev S4x8x15x8192 : Shape := ⟨4, ![4, 8, 15, 8192]⟩
abbrev S4x8x64x8192 : Shape := ⟨4, ![4, 8, 64, 8192]⟩
abbrev S4x8x80x8192 : Shape := ⟨4, ![4, 8, 80, 8192]⟩
abbrev S4x8192x512 : Shape := ⟨3, ![4, 8192, 512]⟩
abbrev S4x8x128x512 : Shape := ⟨4, ![4, 8, 128, 512]⟩
abbrev S1 : Shape := ⟨1, ![1]⟩
abbrev S4x8x512x128 : Shape := ⟨4, ![4, 8, 512, 128]⟩
abbrev S4x8x80x512 : Shape := ⟨4, ![4, 8, 80, 512]⟩
abbrev S4x512x512 : Shape := ⟨3, ![4, 512, 512]⟩
abbrev S2x32x1x512 : Shape := ⟨4, ![2, 32, 1, 512]⟩
abbrev S2x32x80x512 : Shape := ⟨4, ![2, 32, 80, 512]⟩
abbrev S256x256 : Shape := ⟨2, ![256, 256]⟩
abbrev S512x256 : Shape := ⟨2, ![512, 256]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S1x1x80x512 : Shape := ⟨4, ![1, 1, 80, 512]⟩
abbrev S80x512 : Shape := ⟨2, ![80, 512]⟩
abbrev S80x256 : Shape := ⟨2, ![80, 256]⟩
abbrev S1x32x1x512 : Shape := ⟨4, ![1, 32, 1, 512]⟩
abbrev S32x1x512 : Shape := ⟨3, ![32, 1, 512]⟩
abbrev S1x1x256 : Shape := ⟨3, ![1, 1, 256]⟩
abbrev S1x32x80x512 : Shape := ⟨4, ![1, 32, 80, 512]⟩
abbrev S32x80x512 : Shape := ⟨3, ![32, 80, 512]⟩
abbrev S1x80x256 : Shape := ⟨3, ![1, 80, 256]⟩
abbrev S1x1 : Shape := ⟨2, ![1, 1]⟩
abbrev S1x1x1 : Shape := ⟨3, ![1, 1, 1]⟩
abbrev S8x64x512 : Shape := ⟨3, ![8, 64, 512]⟩
abbrev S8x1x512 : Shape := ⟨3, ![8, 1, 512]⟩
abbrev S512x512 : Shape := ⟨2, ![512, 512]⟩
abbrev S1x512x512 : Shape := ⟨3, ![1, 512, 512]⟩

abbrev nBuf : Space → Nat
  | .hbm => 32
  | .vmem => 10
  | .smem => 3
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S4x8192x8x32, .f32⟩
  | .hbm, ⟨7, _⟩ => ⟨S4x8192x8x128, .f32⟩
  | .hbm, ⟨8, _⟩ => ⟨S_, .f32⟩
  | .hbm, ⟨9, _⟩ => ⟨S4x8192x8x128, .f32⟩
  | .hbm, ⟨10, _⟩ => ⟨S4x8192x8x128, .f32⟩
  | .hbm, ⟨11, _⟩ => ⟨S_, .f32⟩
  | .hbm, ⟨12, _⟩ => ⟨S_, .f32⟩
  | .hbm, ⟨13, _⟩ => ⟨S4x8192x8x128, .f32⟩
  | .hbm, ⟨14, _⟩ => ⟨S4x8192x8x128, .f32⟩
  | .hbm, ⟨15, _⟩ => ⟨S4x8x128x8192, .f32⟩
  | .hbm, ⟨16, _⟩ => ⟨S4x8x128x8192, .bf16⟩
  | .hbm, ⟨17, _⟩ => ⟨S4x8192x1x32, .f32⟩
  | .hbm, ⟨18, _⟩ => ⟨S4x8192x8x32, .f32⟩
  | .hbm, ⟨19, _⟩ => ⟨S_, .f32⟩
  | .hbm, ⟨20, _⟩ => ⟨S4x8192x8x32, .f32⟩
  | .hbm, ⟨21, _⟩ => ⟨S4x8192x8x128, .f32⟩
  | .hbm, ⟨22, _⟩ => ⟨S4x8x8192x128, .f32⟩
  | .hbm, ⟨23, _⟩ => ⟨S4x8x8192x128, .bf16⟩
  | .hbm, ⟨24, _⟩ => ⟨S_, .f32⟩
  | .hbm, ⟨25, _⟩ => ⟨S4x8x1x8192, .f32⟩
  | .hbm, ⟨26, _⟩ => ⟨S_, .f32⟩
  | .hbm, ⟨27, _⟩ => ⟨S4x8x15x8192, .f32⟩
  | .hbm, ⟨28, _⟩ => ⟨S4x8x64x8192, .f32⟩
  | .hbm, ⟨29, _⟩ => ⟨S4x8x80x8192, .f32⟩
  | .hbm, ⟨30, _⟩ => ⟨S4x8x80x8192, .bf16⟩
  | .hbm, ⟨31, _⟩ => ⟨S4x8192x512, .bf16⟩
  | .local _ .vmem, ⟨0, _⟩ => ⟨S4x8x128x512, .bf16⟩
  | .local _ .vmem, ⟨1, _⟩ => ⟨S4x8x128x512, .bf16⟩
  | .local _ .vmem, ⟨2, _⟩ => ⟨S4x8x512x128, .bf16⟩
  | .local _ .vmem, ⟨3, _⟩ => ⟨S4x8x512x128, .bf16⟩
  | .local _ .vmem, ⟨4, _⟩ => ⟨S4x8x80x512, .bf16⟩
  | .local _ .vmem, ⟨5, _⟩ => ⟨S4x8x80x512, .bf16⟩
  | .local _ .vmem, ⟨6, _⟩ => ⟨S4x512x512, .bf16⟩
  | .local _ .vmem, ⟨7, _⟩ => ⟨S4x512x512, .bf16⟩
  | .local _ .vmem, ⟨8, _⟩ => ⟨S2x32x1x512, .f32⟩
  | .local _ .vmem, ⟨9, _⟩ => ⟨S2x32x80x512, .f32⟩
  | .local _ .smem, ⟨0, _⟩ => ⟨S136, .i32⟩
  | .local _ .smem, ⟨1, _⟩ => ⟨S136, .i32⟩
  | .local _ .smem, ⟨2, _⟩ => ⟨S1, .i32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v16 : BitVec 32) : Fin 4 → Nat :=
  let c0_i32_63 : BitVec 32 := 0#32
  let c0_i32_64 : BitVec 32 := 0#32
  let c0_i32_65 : BitVec 32 := 0#32
  ![v16.toNat, 0, 0, 0]
def k0_cond2 (v1 : BitVec 32) (v3 : BitVec 32) : BitVec 1 :=
  let v7 : BitVec 1 := Scalar.cmpi .slt v3 v1
  let v8 : BitVec 32 := Scalar.extui v7
  let c0_i32_0 : BitVec 32 := 0#32
  let v9 : BitVec 1 := Scalar.cmpi .ne v8 c0_i32_0
  v9

def k0_off3 (v16 : BitVec 32) : Fin 4 → Nat :=
  let c0_i32_69 : BitVec 32 := 0#32
  let c0_i32_70 : BitVec 32 := 0#32
  let c0_i32_71 : BitVec 32 := 0#32
  ![v16.toNat, 0, 0, 0]
def k0_off4 (v16 : BitVec 32) : Fin 4 → Nat :=
  let c1_i32_3 : BitVec 32 := 1#32
  let v17 : BitVec 32 := Scalar.subi c1_i32_3 v16
  let c0_i32_77 : BitVec 32 := 0#32
  let c0_i32_78 : BitVec 32 := 0#32
  let c0_i32_79 : BitVec 32 := 0#32
  ![v17.toNat, 0, 0, 0]
def k0_off5 (v16 : BitVec 32) : Fin 4 → Nat :=
  let c1_i32_4 : BitVec 32 := 1#32
  let v18 : BitVec 32 := Scalar.subi c1_i32_4 v16
  let c0_i32_83 : BitVec 32 := 0#32
  let c0_i32_84 : BitVec 32 := 0#32
  let c0_i32_85 : BitVec 32 := 0#32
  ![v18.toNat, 0, 0, 0]

def k0_chk1 (v1 : BitVec 32) (v3 : BitVec 32) (v16 : BitVec 32) : Prop :=
  (∀ (k0_h2 : k0_cond2 v1 v3 = 1#1), ∀ a, (k0_off2 v16) a + S1x32x1x512.size a ≤ S2x32x1x512.size a) ∧
  (∀ (k0_h2 : k0_cond2 v1 v3 = 1#1), ∀ a, (k0_off3 v16) a + S1x32x80x512.size a ≤ S2x32x80x512.size a) ∧
  (∀ (k0_h2 : k0_cond2 v1 v3 = 1#1), ∀ a, (k0_off4 v16) a + S1x32x1x512.size a ≤ S2x32x1x512.size a) ∧
  (∀ (k0_h2 : k0_cond2 v1 v3 = 1#1), ∀ a, (k0_off5 v16) a + S1x32x80x512.size a ≤ S2x32x80x512.size a)
theorem k0_off2_inb : ∀ (v1 : BitVec 32) (v3 : BitVec 32) (v16 : BitVec 32) (k0_hw1 : k0_chk1 v1 v3 v16), ∀ (k0_h2 : k0_cond2 v1 v3 = 1#1), ∀ a, (k0_off2 v16) a + S1x32x1x512.size a ≤ S2x32x1x512.size a := fun v1 v3 v16 k0_hw1 k0_h2 => k0_hw1.1 k0_h2
theorem k0_off3_inb : ∀ (v1 : BitVec 32) (v3 : BitVec 32) (v16 : BitVec 32) (k0_hw1 : k0_chk1 v1 v3 v16), ∀ (k0_h2 : k0_cond2 v1 v3 = 1#1), ∀ a, (k0_off3 v16) a + S1x32x80x512.size a ≤ S2x32x80x512.size a := fun v1 v3 v16 k0_hw1 k0_h2 => k0_hw1.2.1 k0_h2
theorem k0_off4_inb : ∀ (v1 : BitVec 32) (v3 : BitVec 32) (v16 : BitVec 32) (k0_hw1 : k0_chk1 v1 v3 v16), ∀ (k0_h2 : k0_cond2 v1 v3 = 1#1), ∀ a, (k0_off4 v16) a + S1x32x1x512.size a ≤ S2x32x1x512.size a := fun v1 v3 v16 k0_hw1 k0_h2 => k0_hw1.2.2.1 k0_h2
theorem k0_off5_inb : ∀ (v1 : BitVec 32) (v3 : BitVec 32) (v16 : BitVec 32) (k0_hw1 : k0_chk1 v1 v3 v16), ∀ (k0_h2 : k0_cond2 v1 v3 = 1#1), ∀ a, (k0_off5 v16) a + S1x32x80x512.size a ≤ S2x32x80x512.size a := fun v1 v3 v16 k0_hw1 k0_h2 => k0_hw1.2.2.2 k0_h2

@[reducible] def k0_t1_loop : Scf.Loop 32 :=
  let c0_i32_3178 : BitVec 32 := 0#32
  let c32_i32 : BitVec 32 := 32#32
  let v3869 : BitVec 32 := Scalar.addi c0_i32_3178 c32_i32
  let c1_i32_3179 : BitVec 32 := 1#32
  ⟨c0_i32_3178, v3869, c1_i32_3179⟩
def k0_off6 (k0_t1 : Fin k0_t1_loop.trips) : Fin 4 → Nat :=
  let c0_i32_3178 : BitVec 32 := 0#32
  let c1_i32_3179 : BitVec 32 := 1#32
  let arg10 : BitVec 32 := Scf.iv c0_i32_3178 c1_i32_3179 k0_t1
  let c8_i32 : BitVec 32 := 8#32
  let v3870 : BitVec 32 := Scalar.divsi arg10 c8_i32
  let v3872 : Index := Scalar.indexCast v3870
  let c8_i32_3181 : BitVec 32 := 8#32
  let v3871 : BitVec 32 := Scalar.remsi arg10 c8_i32_3181
  let v3873 : Index := Scalar.indexCast v3871
  let c0_3182 : Index := 0#32
  let c0_3183 : Index := 0#32
  ![v3872.toNat, v3873.toNat, 0, 0]
def k0_off7 (k0_t1 : Fin k0_t1_loop.trips) : Fin 4 → Nat :=
  let c0_i32_3178 : BitVec 32 := 0#32
  let c1_i32_3179 : BitVec 32 := 1#32
  let arg10 : BitVec 32 := Scf.iv c0_i32_3178 c1_i32_3179 k0_t1
  let c8_i32 : BitVec 32 := 8#32
  let v3870 : BitVec 32 := Scalar.divsi arg10 c8_i32
  let v3876 : Index := Scalar.indexCast v3870
  let c8_i32_3181 : BitVec 32 := 8#32
  let v3871 : BitVec 32 := Scalar.remsi arg10 c8_i32_3181
  let v3877 : Index := Scalar.indexCast v3871
  let c0_3184 : Index := 0#32
  let c0_3185 : Index := 0#32
  ![v3876.toNat, v3877.toNat, 0, 0]
def k0_off8 (k0_t1 : Fin k0_t1_loop.trips) : Fin 4 → Nat :=
  let c0_i32_3178 : BitVec 32 := 0#32
  let c1_i32_3179 : BitVec 32 := 1#32
  let arg10 : BitVec 32 := Scf.iv c0_i32_3178 c1_i32_3179 k0_t1
  let c8_i32_3196 : BitVec 32 := 8#32
  let v3901 : BitVec 32 := Scalar.divsi arg10 c8_i32_3196
  let v3903 : Index := Scalar.indexCast v3901
  let c8_i32_3197 : BitVec 32 := 8#32
  let v3902 : BitVec 32 := Scalar.remsi arg10 c8_i32_3197
  let v3904 : Index := Scalar.indexCast v3902
  let c0_3198 : Index := 0#32
  let c0_3199 : Index := 0#32
  ![v3903.toNat, v3904.toNat, 0, 0]
def k0_off9 (v16 : BitVec 32) : Fin 4 → Nat :=
  let c0_i32_3200 : BitVec 32 := 0#32
  let c0_i32_3201 : BitVec 32 := 0#32
  let c0_i32_3202 : BitVec 32 := 0#32
  ![v16.toNat, 0, 0, 0]
def k0_cond3 (v3864 : BitVec 1) : BitVec 1 :=
  let v3865 : BitVec 32 := Scalar.extui v3864
  let c0_i32_3175 : BitVec 32 := 0#32
  let v3866 : BitVec 1 := Scalar.cmpi .ne v3865 c0_i32_3175
  v3866

def k0_off10 (k0_t1 : Fin k0_t1_loop.trips) : Fin 3 → Nat :=
  let c0_i32_3178 : BitVec 32 := 0#32
  let c1_i32_3179 : BitVec 32 := 1#32
  let arg10 : BitVec 32 := Scf.iv c0_i32_3178 c1_i32_3179 k0_t1
  let v3909 : Index := Scalar.indexCast arg10
  let c0_3203 : Index := 0#32
  let c0_3204 : Index := 0#32
  ![v3909.toNat, 0, 0]
def k0_off11 (v16 : BitVec 32) : Fin 4 → Nat :=
  let c0_i32_3205 : BitVec 32 := 0#32
  let c0_i32_3206 : BitVec 32 := 0#32
  let c0_i32_3207 : BitVec 32 := 0#32
  ![v16.toNat, 0, 0, 0]
def k0_off12 (k0_t1 : Fin k0_t1_loop.trips) : Fin 3 → Nat :=
  let c0_i32_3178 : BitVec 32 := 0#32
  let c1_i32_3179 : BitVec 32 := 1#32
  let arg10 : BitVec 32 := Scf.iv c0_i32_3178 c1_i32_3179 k0_t1
  let v3917 : Index := Scalar.indexCast arg10
  let c0_3208 : Index := 0#32
  let c0_3209 : Index := 0#32
  ![v3917.toNat, 0, 0]
def k0_off13 (v16 : BitVec 32) : Fin 4 → Nat :=
  let c1_i32_3 : BitVec 32 := 1#32
  let v17 : BitVec 32 := Scalar.subi c1_i32_3 v16
  let c0_i32_3212 : BitVec 32 := 0#32
  let c0_i32_3213 : BitVec 32 := 0#32
  let c0_i32_3214 : BitVec 32 := 0#32
  ![v17.toNat, 0, 0, 0]
def k0_off14 (v16 : BitVec 32) : Fin 4 → Nat :=
  let c1_i32_4 : BitVec 32 := 1#32
  let v18 : BitVec 32 := Scalar.subi c1_i32_4 v16
  let c0_i32_3217 : BitVec 32 := 0#32
  let c0_i32_3218 : BitVec 32 := 0#32
  let c0_i32_3219 : BitVec 32 := 0#32
  ![v18.toNat, 0, 0, 0]

def k0_chk2 (v1 : BitVec 32) (v3 : BitVec 32) (v16 : BitVec 32) (v3864 : BitVec 1) : Prop :=
  (∀ (k0_h2 : k0_cond2 v1 v3 = 1#1), ∀ (k0_h3 : k0_cond3 v3864 = 1#1), ∀ a, (k0_off9 v16) a + S1x32x1x512.size a ≤ S2x32x1x512.size a) ∧
  (∀ (k0_h2 : k0_cond2 v1 v3 = 1#1), ∀ (k0_h3 : k0_cond3 v3864 = 1#1), ∀ a, (k0_off11 v16) a + S1x32x80x512.size a ≤ S2x32x80x512.size a) ∧
  (∀ (k0_h2 : k0_cond2 v1 v3 = 1#1), ∀ (k0_h3 : k0_cond3 v3864 = 1#1), ∀ a, (k0_off13 v16) a + S1x32x1x512.size a ≤ S2x32x1x512.size a) ∧
  (∀ (k0_h2 : k0_cond2 v1 v3 = 1#1), ∀ (k0_h3 : k0_cond3 v3864 = 1#1), ∀ a, (k0_off14 v16) a + S1x32x80x512.size a ≤ S2x32x80x512.size a)
theorem k0_off9_inb : ∀ (v1 : BitVec 32) (v3 : BitVec 32) (v16 : BitVec 32) (v3864 : BitVec 1) (k0_hw2 : k0_chk2 v1 v3 v16 v3864), ∀ (k0_h2 : k0_cond2 v1 v3 = 1#1), ∀ (k0_h3 : k0_cond3 v3864 = 1#1), ∀ a, (k0_off9 v16) a + S1x32x1x512.size a ≤ S2x32x1x512.size a := fun v1 v3 v16 v3864 k0_hw2 k0_h2 k0_h3 => k0_hw2.1 k0_h2 k0_h3
theorem k0_off11_inb : ∀ (v1 : BitVec 32) (v3 : BitVec 32) (v16 : BitVec 32) (v3864 : BitVec 1) (k0_hw2 : k0_chk2 v1 v3 v16 v3864), ∀ (k0_h2 : k0_cond2 v1 v3 = 1#1), ∀ (k0_h3 : k0_cond3 v3864 = 1#1), ∀ a, (k0_off11 v16) a + S1x32x80x512.size a ≤ S2x32x80x512.size a := fun v1 v3 v16 v3864 k0_hw2 k0_h2 k0_h3 => k0_hw2.2.1 k0_h2 k0_h3
theorem k0_off13_inb : ∀ (v1 : BitVec 32) (v3 : BitVec 32) (v16 : BitVec 32) (v3864 : BitVec 1) (k0_hw2 : k0_chk2 v1 v3 v16 v3864), ∀ (k0_h2 : k0_cond2 v1 v3 = 1#1), ∀ (k0_h3 : k0_cond3 v3864 = 1#1), ∀ a, (k0_off13 v16) a + S1x32x1x512.size a ≤ S2x32x1x512.size a := fun v1 v3 v16 v3864 k0_hw2 k0_h2 k0_h3 => k0_hw2.2.2.1 k0_h2 k0_h3
theorem k0_off14_inb : ∀ (v1 : BitVec 32) (v3 : BitVec 32) (v16 : BitVec 32) (v3864 : BitVec 1) (k0_hw2 : k0_chk2 v1 v3 v16 v3864), ∀ (k0_h2 : k0_cond2 v1 v3 = 1#1), ∀ (k0_h3 : k0_cond3 v3864 = 1#1), ∀ a, (k0_off14 v16) a + S1x32x80x512.size a ≤ S2x32x80x512.size a := fun v1 v3 v16 v3864 k0_hw2 k0_h2 k0_h3 => k0_hw2.2.2.2 k0_h2 k0_h3

def k0_off15 (k0_t1 : Fin k0_t1_loop.trips) : Fin 3 → Nat :=
  let c0_i32_3178 : BitVec 32 := 0#32
  let c1_i32_3179 : BitVec 32 := 1#32
  let arg10 : BitVec 32 := Scf.iv c0_i32_3178 c1_i32_3179 k0_t1
  let v3987 : Index := Scalar.indexCast arg10
  let c0_3245 : Index := 0#32
  let c256_3246 : Index := 256#32
  ![v3987.toNat, 0, 256]
def k0_off16 (k0_t1 : Fin k0_t1_loop.trips) : Fin 3 → Nat :=
  let c0_i32_3178 : BitVec 32 := 0#32
  let c1_i32_3179 : BitVec 32 := 1#32
  let arg10 : BitVec 32 := Scf.iv c0_i32_3178 c1_i32_3179 k0_t1
  let v3995 : Index := Scalar.indexCast arg10
  let c0_3250 : Index := 0#32
  let c256_3251 : Index := 256#32
  ![v3995.toNat, 0, 256]
def k0_off17 (v16 : BitVec 32) : Fin 4 → Nat :=
  let c0_i32_3 : BitVec 32 := 0#32
  let c0_i32_4 : BitVec 32 := 0#32
  let c0_i32_5 : BitVec 32 := 0#32
  ![v16.toNat, 0, 0, 0]
def k0_cond4 (v1 : BitVec 32) (v3 : BitVec 32) : BitVec 1 :=
  let c1_i32 : BitVec 32 := 1#32
  let v10 : BitVec 32 := Scalar.subi v1 c1_i32
  let v11 : BitVec 1 := Scalar.cmpi .eq v3 v10
  let c0_i32_1 : BitVec 32 := 0#32
  let v12 : BitVec 1 := Scalar.cmpi .eq v1 c0_i32_1
  let v13 : BitVec 1 := Scalar.ori v11 v12
  let v14 : BitVec 32 := Scalar.extui v13
  let c0_i32_2 : BitVec 32 := 0#32
  let v15 : BitVec 1 := Scalar.cmpi .ne v14 c0_i32_2
  v15

def k0_chk3 (v1 : BitVec 32) (v3 : BitVec 32) (v16 : BitVec 32) : Prop :=
  (∀ (k0_h4 : k0_cond4 v1 v3 = 1#1), ∀ a, (k0_off17 v16) a + S1x32x80x512.size a ≤ S2x32x80x512.size a)
theorem k0_off17_inb : ∀ (v1 : BitVec 32) (v3 : BitVec 32) (v16 : BitVec 32) (k0_hw3 : k0_chk3 v1 v3 v16), ∀ (k0_h4 : k0_cond4 v1 v3 = 1#1), ∀ a, (k0_off17 v16) a + S1x32x80x512.size a ≤ S2x32x80x512.size a := fun v1 v3 v16 k0_hw3 k0_h4 => k0_hw3 k0_h4

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S4x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S4x8x8192x8192 : Shape := ⟨4, ![4, 8, 8192, 8192]⟩
abbrev S4x8192x8192x8 : Shape := ⟨4, ![4, 8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S4x8x8192x8192, .f32⟩
  | .hbm, ⟨6, _⟩ => ⟨S4x8192x8192x8, .f32⟩
  | .hbm, ⟨7, _⟩ => ⟨S4x8x8192x8192, .f32⟩
  | .hbm, ⟨8, _⟩ => ⟨S4x8x8192x8192, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S4x8x8192x8192, .i1⟩
  | .hbm, ⟨21, _⟩ => ⟨S4x8x8192x8192, .f32⟩
  | .hbm, ⟨22, _⟩ => ⟨S4x8x8192x8192, .f32⟩
  | .hbm, ⟨23, _⟩ => ⟨S_, .f32⟩
  | .hbm, ⟨24, _⟩ => ⟨S4x8x8192, .f32⟩
  | .hbm, ⟨25, _⟩ => ⟨S_, .f32⟩
  | .hbm, ⟨26, _⟩ => ⟨S4x8x8192, .f32⟩
  | .hbm, ⟨27, _⟩ => ⟨S4x8x8192, .f32⟩
  | .hbm, ⟨28, _⟩ => ⟨S4x8x8192x1, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S_, .f32⟩
  | .hbm, ⟨33, _⟩ => ⟨S4x8x8192, .f32⟩
  | .hbm, ⟨34, _⟩ => ⟨S4x8x8192x1, .f32⟩
  | .hbm, ⟨35, _⟩ => ⟨S4x8x8192x8192, .f32⟩
  | .hbm, ⟨36, _⟩ => ⟨S4x8x8192x8192, .f32⟩
  | .hbm, ⟨37, _⟩ => ⟨S4x8x64x8192, .f32⟩
  | .hbm, ⟨38, _⟩ => ⟨S4x8192x8x64, .f32⟩
  | .hbm, ⟨39, _⟩ => ⟨S4x8192x512, .f32⟩
  | .hbm, ⟨40, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Spec.lean ====
module
public import Idealize.ShloMosaic.Lib.Pointwise

/-! The mathematics both sides compute, over extended reals: RMS norm of a row, the causal
    three-tap convolution along the sequence, the tanh form of GELU, and how a row looks at the
    rows before it inside one tile of 512 tokens. -/

@[expose] public section
noncomputable section
namespace Cert.Layer
open Idealize.ShloMosaic

/-- Entry `d` of the RMS norm of the row `x`, scaled by `g`. -/
def rms (x g : Fin 1024 → EReal) (d : Fin 1024) : EReal :=
  x d * Ideal.rsqrt (Ideal.div (∑ k, x k * x k) (Ideal.ofBits .f32 0x44800000#32) +
    Ideal.ofBits .f32 0x358637BD#32) * g d

/-- GELU in its tanh form. -/
def gelu (v : EReal) : EReal :=
  v * (Ideal.ofBits .f32 0x3F000000#32 * (1 + Ideal.tanh (Ideal.ofBits .f32 0x3F4C422A#32 *
    (v + Ideal.ofBits .f32 0x3D372713#32 * (v * (v * v))))))

/-- Three weights over the row two back, the row one back and the row itself. -/
def taps (w : Fin 3 → EReal) (u2 u1 u0 : EReal) : EReal := w 0 * u2 + w 1 * u1 + w 2 * u0

/-- The row `k` before row `r` of a tile of 512 rows, the last eight rows before the tile standing
    in `carry`. -/
def prev (k : ℕ) (hk : k ≤ 8) (carry : Fin 8 → EReal) (a : Fin 512 → EReal) (r : Fin 512) : EReal :=
  if h : r.val < k then carry ⟨8 + r.val - k, by omega⟩ else a ⟨r.val - k, by omega⟩

/-- The value `k` tokens before token `t` of its sequence of 8192 tokens, zero before the start. -/
def back (k : ℕ) (a : Fin 32768 → EReal) (t : Fin 32768) : EReal :=
  if t.val % 8192 < k then 0 else a ⟨t.val - k, by omega⟩

/-- Token `r` of tile `n`. -/
def tok (n : Fin 64) (r : Fin 512) : Fin 32768 := ⟨512 * n.val + r.val, by omega⟩

/-- One hidden unit of the gated network: the activation of its convolved rows times its gate. -/
def unit (w : Fin 3 → EReal) (b u2 u1 u0 m : EReal) : EReal := gelu (taps w u2 u1 u0 + b) * m

/-- Column `f` of the up projection of the normed rows, as a function of the token. -/
def ffnUp (x : Fin 32768 → Fin 1024 → EReal) (g : Fin 1024 → EReal) (w : Fin 1024 → Fin 5632 → EReal)
    (f : Fin 5632) (t : Fin 32768) : EReal := ∑ k, rms (x t) g k * w k f

/-- The feed-forward network's result at token `t`, entry `d`. -/
def ffn (x : Fin 32768 → Fin 1024 → EReal) (g gp : Fin 1024 → EReal) (w : Fin 1024 → Fin 5632 → EReal)
    (cw : Fin 3 → Fin 2816 → EReal) (b : Fin 2816 → EReal) (wd : Fin 2816 → Fin 1024 → EReal)
    (t : Fin 32768) (d : Fin 1024) : EReal :=
  x t d + rms (fun d => ∑ f : Fin 2816,
    unit (fun k => cw k f) (b f) (back 2 (ffnUp x g w ⟨f.val, by omega⟩) t)
      (back 1 (ffnUp x g w ⟨f.val, by omega⟩) t) (ffnUp x g w ⟨f.val, by omega⟩ t)
      (ffnUp x g w ⟨2816 + f.val, by omega⟩ t) * wd f d) gp d

/-- The rows a tile leaves for the next one: its last eight. -/
def lastRows (a : Fin 512 → EReal) (j : Fin 8) : EReal := a ⟨504 + j.val, by omega⟩

/-- At the first tile of a sequence the carried rows are zero: looking back inside the tile is
    looking back in the sequence. -/
theorem prev_first (k : ℕ) (hk : k ≤ 8) (a : Fin 32768 → EReal) (n : Fin 64) (hn : n.val % 16 = 0)
    (r : Fin 512) : prev k hk (fun _ => 0) (fun r => a (tok n r)) r = back k a (tok n r) := by
  unfold prev back
  by_cases h : r.val < k
  · rw [dif_pos h, if_pos (by simp only [tok]; omega)]
  · rw [dif_neg h, if_neg (by simp only [tok]; omega)]
    exact congrArg a (Fin.ext (by simp only [tok]; omega))

/-- At a later tile the carried rows are the last of the tile before. -/
theorem prev_next (k : ℕ) (hk : k ≤ 8) (a : Fin 32768 → EReal) (p n : Fin 64)
    (hp : n.val = p.val + 1) (hn : n.val % 16 ≠ 0) (r : Fin 512) :
    prev k hk (lastRows fun r => a (tok p r)) (fun r => a (tok n r)) r = back k a (tok n r) := by
  unfold prev back lastRows
  by_cases h : r.val < k
  · rw [dif_pos h, if_neg (by simp only [tok]; omega)]
    exact congrArg a (Fin.ext (by simp only [tok]; omega))
  · rw [dif_neg h, if_neg (by simp only [tok]; omega)]
    exact congrArg a (Fin.ext (by simp only [tok]; omega))

/-- Whether a row of a tile is row `0`, as the comparison with an iota decides it. -/
theorem row_zero (r : Fin 512) : IntOp.cmpi CmpIPredicate.eq (BitVec.ofNat 32 r.val) 0#32 =
    if r.val = 0 then 1#1 else 0#1 := by
  revert r; decide +kernel

/-- Whether a row of a tile is row `1`. -/
theorem row_one (r : Fin 512) : IntOp.cmpi CmpIPredicate.eq (BitVec.ofNat 32 r.val) 1#32 =
    if r.val = 1 then 1#1 else 0#1 := by
  revert r; decide +kernel

/-- The select between the last carried row and the tile rotated by one row. -/
theorem select_one (c : Fin 8 → EReal) (a : Fin 512 → EReal) (r : Fin 512) (h) :
    Scalar.select (IntOp.cmpi CmpIPredicate.eq (BitVec.ofNat 32 r.val) 0#32) (c 7)
      (a ⟨(r.val + 512 - 1) % 512, h⟩) = prev 1 (by omega) c a r := by
  unfold prev
  rw [row_zero r]
  by_cases h0 : r.val = 0
  · rw [if_pos h0, dif_pos (by omega)]
    exact congrArg c (Fin.ext (by show 7 = 8 + r.val - 1; omega))
  · rw [if_neg h0, dif_neg (by omega)]
    exact congrArg a (Fin.ext (by show (r.val + 512 - 1) % 512 = r.val - 1; omega))

/-- The selects between the last two carried rows and the tile rotated by two rows. -/
theorem select_two (c : Fin 8 → EReal) (a : Fin 512 → EReal) (r : Fin 512) (h) :
    Scalar.select (IntOp.cmpi CmpIPredicate.eq (BitVec.ofNat 32 r.val) 0#32) (c 6)
      (Scalar.select (IntOp.cmpi CmpIPredicate.eq (BitVec.ofNat 32 r.val) 1#32) (c 7)
        (a ⟨(r.val + 512 - 2) % 512, h⟩)) = prev 2 (by omega) c a r := by
  unfold prev
  rw [row_zero r, row_one r]
  by_cases h0 : r.val = 0
  · rw [if_pos h0, dif_pos (by omega)]
    exact congrArg c (Fin.ext (by show 6 = 8 + r.val - 2; omega))
  · rw [if_neg h0]
    by_cases h1 : r.val = 1
    · rw [if_pos h1, dif_pos (by omega)]
      exact congrArg c (Fin.ext (by show 7 = 8 + r.val - 2; omega))
    · rw [if_neg h1, dif_neg (by omega)]
      exact congrArg a (Fin.ext (by show (r.val + 512 - 2) % 512 = r.val - 2; omega))

end Cert.Layer
-- ==== Proof.FfnPay.lean ====
module
public import proofs.«01_k».proof.Proof.Gen.KernelIdeal.Skeleton
public import proofs.«01_k».proof.Proof.Spec
public import Idealize.ShloMosaic.Lib.Pipeline.ValueKit

/-! The feed-forward kernel's stored expressions at an index: each of its stages on a tile of 512
    rows, read as the mathematics of `Spec`. -/

@[expose] public section
set_option maxRecDepth 16384
noncomputable section
namespace Cert.Ffn
open Idealize.ShloMosaic Cert.KernelIdeal Cert.KernelIdeal.Gen Cert.Layer

theorem pay2_apply (j : Fin 8) (f : Fin 2816) : k0_pay2 (F := Ideal) (ix2 j f) = 0 := by
  pointwise [k0_pay2]

theorem pay3_eq (x : Vec Ideal S512x1024 .f32) : k0_pay3 (F := Ideal) x = x := by
  unfold k0_pay3; exact shapeCast_self _ _

theorem pay8_eq (x : Vec Ideal S1x1408 .f32) : k0_pay8 (F := Ideal) x = x := by
  unfold k0_pay8; exact shapeCast_self _ _

/-- The normed rows. -/
theorem pay4_apply (x : Vec Ideal S512x1024 .f32) (g : Vec Ideal S1x1024 .f32) (r : Fin 512) (d : Fin 1024) :
    k0_pay4 (F := Ideal) x g (ix2 r d) = rms (fun k => x (ix2 r k)) (fun k => g (ix2 0 k)) d := by
  pointwise [k0_pay4, k0_pay3]
  rfl

/-- One product of the normed rows with a band of columns. -/
theorem pay5_apply (x : Vec Ideal S512x1024 .f32) (g : Vec Ideal S1x1024 .f32) (w : Vec Ideal S1024x1408 .bf16)
    (r : Fin 512) (f : Fin 1408) :
    k0_pay5 (F := Ideal) x g w (ix2 r f) = ∑ k, rms (fun k => x (ix2 r k)) (fun k => g (ix2 0 k)) k * w (ix2 k f) := by
  pointwise [k0_pay5]
  simp only [pay4_apply]

theorem pay6_eq (x : Vec Ideal S512x1024 .f32) (g : Vec Ideal S1x1024 .f32) (w : Vec Ideal S1024x1408 .bf16) :
    k0_pay6 (F := Ideal) x g w = k0_pay5 x g w := rfl

theorem pay11_eq (x : Vec Ideal S512x1024 .f32) (g : Vec Ideal S1x1024 .f32) (w : Vec Ideal S1024x1408 .bf16) :
    k0_pay11 (F := Ideal) (k0_pay4 x g) w = k0_pay5 x g w := rfl

theorem pay12_eq (x : Vec Ideal S512x1024 .f32) (g : Vec Ideal S1x1024 .f32) (w : Vec Ideal S1024x1408 .bf16) :
    k0_pay12 (F := Ideal) (k0_pay4 x g) w = k0_pay5 x g w := rfl

/-- The three taps of the first band. -/
theorem pay7_apply (a : Vec Ideal S512x1408 .f32) (c : Vec Ideal S8x1408 .f32) (w0 w1 w2 : Vec Ideal S1x1408 .f32)
    (r : Fin 512) (f : Fin 1408) :
    k0_pay7 (F := Ideal) a c w0 w1 w2 (ix2 r f) =
      taps ![w0 (ix2 0 f), w1 (ix2 0 f), w2 (ix2 0 f)]
        (prev 2 (by omega) (fun j => c (ix2 j f)) (fun r => a (ix2 r f)) r)
        (prev 1 (by omega) (fun j => c (ix2 j f)) (fun r => a (ix2 r f)) r) (a (ix2 r f)) := by
  pointwise [k0_pay7]
  rw [← select_two (fun j => c (ix2 j f)) (fun r => a (ix2 r f)) r (by omega),
    ← select_one (fun j => c (ix2 j f)) (fun r => a (ix2 r f)) r (by omega)]
  rfl

/-- The three taps of the second band, the bias added. -/
theorem pay16_apply (x : Vec Ideal S512x1024 .f32) (g : Vec Ideal S1x1024 .f32) (w : Vec Ideal S1024x1408 .bf16)
    (c : Vec Ideal S8x1408 .f32) (w0 w1 w2 b : Vec Ideal S1x1408 .f32)
    (r : Fin 512) (f : Fin 1408) :
    k0_pay16 (F := Ideal) (k0_pay11 (k0_pay4 x g) w) (iota Kind.tc S512x1408 32 [0] iota_S512x1408_d0_w32)
        (k0_pay13 c) (k0_pay14 c) (k0_pay15 (k0_pay4 x g) w c) w0 w1 w2 b (ix2 r f) =
      taps ![w0 (ix2 0 f), w1 (ix2 0 f), w2 (ix2 0 f)]
        (prev 2 (by omega) (fun j => c (ix2 j f)) (fun r => k0_pay5 x g w (ix2 r f)) r)
        (prev 1 (by omega) (fun j => c (ix2 j f)) (fun r => k0_pay5 x g w (ix2 r f)) r) (k0_pay5 x g w (ix2 r f)) +
      b (ix2 0 f) := by
  pointwise [k0_pay16, k0_pay15, k0_pay14, k0_pay13]
  rw [← select_two (fun j => c (ix2 j f)) (fun r => k0_pay5 x g w (ix2 r f)) r (by omega),
    ← select_one (fun j => c (ix2 j f)) (fun r => k0_pay5 x g w (ix2 r f)) r (by omega)]
  rfl

/-- The first band's product with its rows of the down projection. -/
theorem pay10_apply (m v : Vec Ideal S512x1408 .f32) (b : Vec Ideal S1x1408 .f32)
    (w : Vec Ideal S1408x1024 .bf16) (r : Fin 512) (d : Fin 1024) :
    k0_pay10 (F := Ideal) m v b w (ix2 r d) =
      ∑ f, gelu (v (ix2 r f) + b (ix2 0 f)) * m (ix2 r f) * w (ix2 f d) := by
  pointwise [k0_pay10]
  rfl

/-- The stored value: the row plus the norm of the two bands' sum. -/
theorem pay1_apply (x p : Vec Ideal S512x1024 .f32) (m v : Vec Ideal S512x1408 .f32)
    (w : Vec Ideal S1408x1024 .bf16) (g : Vec Ideal S1x1024 .f32) (v3 : Vec Ideal S512x1408 .f32)
    (hv : ∀ r f, v3 (ix2 r f) = v (ix2 r f) * (v (ix2 r f) * v (ix2 r f))) (r : Fin 512) (d : Fin 1024) :
    k0_pay1 (F := Ideal) x p m v v3 k0_pay19 w g (ix2 r d) =
      x (ix2 r d) + rms (fun d => p (ix2 r d) + ∑ f, gelu (v (ix2 r f)) * m (ix2 r f) * w (ix2 f d))
        (fun d => g (ix2 0 d)) d := by
  pointwise [k0_pay1, k0_pay19]
  simp only [hv]
  rfl

/-- The rows left for the next tile. -/
theorem pay9_apply (a : Vec Ideal S512x1408 .f32) (j : Fin 8) (f : Fin 1408) :
    k0_pay9 (F := Ideal) a (ix2 j f) = lastRows (fun r => a (ix2 r f)) j := by
  pointwise [k0_pay9]
  rfl

theorem pay17_eq (a : Vec Ideal S512x1408 .f32) : k0_pay17 (F := Ideal) a = k0_pay9 a := rfl

theorem pay18_apply (v102 : FVec Ideal S512x1408 .f32) (v107 : IVec S512x1408 32) (v108 v109 : FVec Ideal S1x1408 .f32) (v115 : FVec Ideal S512x1408 .f32) (v128 v133 v139 v144 : Vec Ideal S1x1408 .f32) (r : Fin 512) (f : Fin 1408) :
    k0_pay18 (F := Ideal) v102 v107 v108 v109 v115 v128 v133 v139 v144 (ix2 r f) =
      k0_pay16 v102 v107 v108 v109 v115 v128 v133 v139 v144 (ix2 r f) *
        (k0_pay16 v102 v107 v108 v109 v115 v128 v133 v139 v144 (ix2 r f) *
          k0_pay16 v102 v107 v108 v109 v115 v128 v133 v139 v144 (ix2 r f)) := by
  unfold k0_pay18; rfl

end Cert.Ffn
-- ==== Proof.FfnTile.lean ====
module
public import proofs.«01_k».proof.Proof.Gen.KernelIdeal.Frame
public import proofs.«01_k».proof.Proof.FfnPay
public import Idealize.ShloMosaic.Lib.Pipeline.ReadBack

/-! One point of the feed-forward kernel as mathematics: the tile it stores and the rows it leaves
    in its scratch, from the tile's rows, the weights, and the rows carried in. -/

@[expose] public section
set_option maxRecDepth 16384
noncomputable section
namespace Cert.Ffn
open Idealize.ShloMosaic Cert.KernelIdeal Cert.KernelIdeal.Gen Cert.Layer

/-- The up projection of row `r` of a tile, column `f`. -/
def up (x : Vec Ideal S512x1024 .f32) (g : Vec Ideal S1x1024 .f32) (w : Vec Ideal S1024x5632 .bf16)
    (f : Fin 5632) (r : Fin 512) : EReal :=
  ∑ k, rms (fun k => x (ix2 r k)) (fun k => g (ix2 0 k)) k * w (ix2 k f)

/-- The hidden unit `f` of row `r` of a tile, the carried rows in `c`. -/
def hid (x : Vec Ideal S512x1024 .f32) (g : Vec Ideal S1x1024 .f32) (w : Vec Ideal S1024x5632 .bf16)
    (cw : Vec Ideal S8x2816 .f32) (b : Vec Ideal S1x2816 .f32) (c : Fin 8 → Fin 2816 → EReal)
    (r : Fin 512) (f : Fin 2816) : EReal :=
  unit (fun k => cw (ix2 ⟨k.val, by omega⟩ f)) (b (ix2 0 f))
    (prev 2 (by omega) (fun j => c j f) (up x g w ⟨f.val, by omega⟩) r)
    (prev 1 (by omega) (fun j => c j f) (up x g w ⟨f.val, by omega⟩) r)
    (up x g w ⟨f.val, by omega⟩ r) (up x g w ⟨2816 + f.val, by omega⟩ r)

/-- The tile a point stores. -/
def tile (x : Vec Ideal S512x1024 .f32) (g : Vec Ideal S1x1024 .f32) (w : Vec Ideal S1024x5632 .bf16)
    (cw : Vec Ideal S8x2816 .f32) (b : Vec Ideal S1x2816 .f32) (wd : Vec Ideal S2816x1024 .bf16)
    (gp : Vec Ideal S1x1024 .f32) (c : Fin 8 → Fin 2816 → EReal) (r : Fin 512) (d : Fin 1024) : EReal :=
  x (ix2 r d) + rms (fun d => ∑ f, hid x g w cw b c r f * wd (ix2 f d)) (fun d => gp (ix2 0 d)) d

/-- A row of the convolution's weights, loaded through a band of its columns. -/
theorem ld_row {arg4 : Memref sig .tc .vmem S8x2816 .f32} (h : arg4.IsWhole) (X : Vec Ideal S8x2816 .f32)
    (o k : ℕ) (i1) (i2) (h0) (f : Fin 1408) (ho : o + f.val < 2816) (hk : k < 8) :
    View.readAt (Elt Ideal) arg4.view
      ((Rect.unit (s := S8x2816) ![0, o] ![8, 1408] i1).withinL
        (Rect.unit (s := S8x1408) ![k, 0] ![1, 1408] i2).toLoadRect h0) (h.unread X) (ix2 0 f) =
      X (ix2 ⟨k, hk⟩ ⟨o + f.val, ho⟩) := by
  have e : View.read (Elt Ideal) arg4.view (h.unread X) = X := h.read_unread X
  show View.read (Elt Ideal) arg4.view (h.unread X) _ = _
  rw [e]
  congr 1
  funext a
  apply Fin.ext
  fin_cases a
  · show 0 + k + 1 * 0 = k; omega
  · show o + 0 + 1 * f.val = o + f.val; omega

/-- The expression a point stores, over loads `wa0 … gp` that stand for bands of the weights, of the
    convolution's rows and of the carried rows. -/
theorem stored_apply (x : Vec Ideal S512x1024 .f32) (g : Vec Ideal S1x1024 .f32) (w : Vec Ideal S1024x5632 .bf16)
    (cw : Vec Ideal S8x2816 .f32) (b : Vec Ideal S1x2816 .f32) (wd : Vec Ideal S2816x1024 .bf16)
    (gp : Vec Ideal S1x1024 .f32) (c : Fin 8 → Fin 2816 → EReal)
    (wa0 wb0 wa1 wb1 : Vec Ideal S1024x1408 .bf16) (c0 c1 : Vec Ideal S8x1408 .f32)
    (u0 u1 u2 v0 v1 v2 b0 b1 : Vec Ideal S1x1408 .f32) (d0 d1 : Vec Ideal S1408x1024 .bf16)
    (hwa0 : ∀ k (f : Fin 1408), wa0 (ix2 k f) = w (ix2 k ⟨f.val, by omega⟩))
    (hwb0 : ∀ k (f : Fin 1408), wb0 (ix2 k f) = w (ix2 k ⟨2816 + f.val, by omega⟩))
    (hwa1 : ∀ k (f : Fin 1408), wa1 (ix2 k f) = w (ix2 k ⟨1408 + f.val, by omega⟩))
    (hwb1 : ∀ k (f : Fin 1408), wb1 (ix2 k f) = w (ix2 k ⟨2816 + (1408 + f.val), by omega⟩))
    (hc0 : ∀ j (f : Fin 1408), c0 (ix2 j f) = c j ⟨f.val, by omega⟩)
    (hc1 : ∀ j (f : Fin 1408), c1 (ix2 j f) = c j ⟨1408 + f.val, by omega⟩)
    (hu0 : ∀ f : Fin 1408, u0 (ix2 0 f) = cw (ix2 0 ⟨f.val, by omega⟩))
    (hu1 : ∀ f : Fin 1408, u1 (ix2 0 f) = cw (ix2 1 ⟨f.val, by omega⟩))
    (hu2 : ∀ f : Fin 1408, u2 (ix2 0 f) = cw (ix2 2 ⟨f.val, by omega⟩))
    (hv0 : ∀ f : Fin 1408, v0 (ix2 0 f) = cw (ix2 0 ⟨1408 + f.val, by omega⟩))
    (hv1 : ∀ f : Fin 1408, v1 (ix2 0 f) = cw (ix2 1 ⟨1408 + f.val, by omega⟩))
    (hv2 : ∀ f : Fin 1408, v2 (ix2 0 f) = cw (ix2 2 ⟨1408 + f.val, by omega⟩))
    (hb0 : ∀ f : Fin 1408, b0 (ix2 0 f) = b (ix2 0 ⟨f.val, by omega⟩))
    (hb1 : ∀ f : Fin 1408, b1 (ix2 0 f) = b (ix2 0 ⟨1408 + f.val, by omega⟩))
    (hd0 : ∀ (f : Fin 1408) d, d0 (ix2 f d) = wd (ix2 ⟨f.val, by omega⟩ d))
    (hd1 : ∀ (f : Fin 1408) d, d1 (ix2 f d) = wd (ix2 ⟨1408 + f.val, by omega⟩ d))
    (r : Fin 512) (d : Fin 1024) :
    k0_pay1 (F := Ideal) (k0_pay3 x)
      (k0_pay10 (k0_pay6 x g wb0) (k0_pay7 (k0_pay5 x g wa0) c0 u0 u1 u2) (k0_pay8 b0) d0)
      (k0_pay12 (k0_pay4 x g) wb1)
      (k0_pay16 (k0_pay11 (k0_pay4 x g) wa1) (iota Kind.tc S512x1408 32 [0] iota_S512x1408_d0_w32)
        (k0_pay13 c1) (k0_pay14 c1) (k0_pay15 (k0_pay4 x g) wa1 c1) v0 v1 v2 b1)
      (k0_pay18 (k0_pay11 (k0_pay4 x g) wa1) (iota Kind.tc S512x1408 32 [0] iota_S512x1408_d0_w32)
        (k0_pay13 c1) (k0_pay14 c1) (k0_pay15 (k0_pay4 x g) wa1 c1) v0 v1 v2 b1)
      k0_pay19 d1 gp (ix2 r d) = tile x g w cw b wd gp c r d := by
  rw [pay1_apply (hv := fun r f => pay18_apply ..)]
  have e16 := pay16_apply x g wa1 c1 v0 v1 v2 b1
  generalize k0_pay16 (F := Ideal) (k0_pay11 (k0_pay4 x g) wa1) (iota Kind.tc S512x1408 32 [0] iota_S512x1408_d0_w32)
        (k0_pay13 c1) (k0_pay14 c1) (k0_pay15 (k0_pay4 x g) wa1 c1) v0 v1 v2 b1 = V at e16 ⊢
  simp only [pay3_eq, pay6_eq, pay8_eq, pay12_eq, pay10_apply, e16, pay7_apply, pay5_apply,
    hwa0, hwb0, hwa1, hwb1, hc0, hc1, hu0, hu1, hu2, hv0, hv1, hv2, hb0, hb1, hd0, hd1]
  unfold tile
  refine congrArg (fun q => x (ix2 r d) + rms q (fun d => gp (ix2 0 d)) d) (funext fun d => ?_)
  rw [Fin.sum_univ_two_halves 1408 1408 rfl (fun f => hid x g w cw b c r f * wd (ix2 f d))]
  refine congrArg₂ (· + ·) (Finset.sum_congr rfl fun f _ => ?_) (Finset.sum_congr rfl fun f _ => ?_)
  · rfl
  · rfl

/-- Two bands of columns stored side by side are one array, whatever was stored before. -/
theorem bands (G : S8x2816.Idx → EReal) (a0 a1 : Vec Ideal S8x1408 .f32) (i0) (i1)
    (L : List (View.Piece (Elt Ideal) S8x2816 .f32))
    (h0 : ∀ j (f : Fin 1408), a0 (ix2 j f) = G (ix2 j ⟨f.val, by omega⟩))
    (h1 : ∀ j (f : Fin 1408), a1 (ix2 j f) = G (ix2 j ⟨1408 + f.val, by omega⟩)) (j : Fin 8) (f : Fin 2816) :
    View.canon ((⟨Rect.unit (s := S8x2816) ![0, 1408] ![8, 1408] i1, a1⟩ : View.Piece (Elt Ideal) S8x2816 .f32) ::
      ⟨Rect.unit (s := S8x2816) ![0, 0] ![8, 1408] i0, a0⟩ :: L) (ix2 j f) = G (ix2 j f) := by
  by_cases hf : f.val < 1408
  · have e : (ix2 j f : S8x2816.Idx) = (Rect.unit (s := S8x2816) ![0, 0] ![8, 1408] i0).emb (ix2 j ⟨f.val, hf⟩) := by
      funext a; apply Fin.ext; fin_cases a
      · show j.val = 0 + 1 * j.val; omega
      · show f.val = 0 + 1 * f.val; omega
    refine (View.canon_cons_of_not_mem _ _ ?_).trans ?_
    · intro hm
      obtain ⟨hm, -⟩ := (Rect.mem_set_unit (s := S8x2816) (inb := i1)).1 hm 1
      have : 1408 ≤ f.val := hm
      omega
    · have q := View.canon_cons_emb (Val := Elt Ideal) (e := .f32) (Rect.unit (s := S8x2816) ![0, 0] ![8, 1408] i0) a0 L (ix2 j ⟨f.val, hf⟩)
      rw [← e] at q
      rw [q]
      exact h0 j ⟨f.val, hf⟩
  · have hf' : f.val - 1408 < 1408 := by omega
    have e : (ix2 j f : S8x2816.Idx) = (Rect.unit (s := S8x2816) ![0, 1408] ![8, 1408] i1).emb (ix2 j ⟨f.val - 1408, hf'⟩) := by
      funext a; apply Fin.ext; fin_cases a
      · show j.val = 0 + 1 * j.val; omega
      · show f.val = 1408 + 1 * (f.val - 1408); omega
    have e' : (⟨1408 + (f.val - 1408), by omega⟩ : Fin 2816) = f := Fin.ext (by show 1408 + (f.val - 1408) = f.val; omega)
    have q := View.canon_cons_emb (Val := Elt Ideal) (e := .f32) (Rect.unit (s := S8x2816) ![0, 1408] ![8, 1408] i1) a1
      (⟨Rect.unit (s := S8x2816) ![0, 0] ![8, 1408] i0, a0⟩ :: L) (ix2 j ⟨f.val - 1408, hf'⟩)
    rw [← e] at q
    rw [q]
    refine (h1 j ⟨f.val - 1408, hf'⟩).trans ?_
    exact congrArg (fun f => G (ix2 j f)) e'

/-- What a point at the start of a sequence stores. -/
theorem out0_A_7_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x2816 .f32) (harg9 : arg9.IsWhole) (hc0 : cond0_0 i)
    (x0 : Vec Ideal S512x1024 .f32) (x1 : Vec Ideal S1x1024 .f32) (x2 : Vec Ideal S1024x5632 .bf16) (x3 : Vec Ideal S8x2816 .f32) (x4 : Vec Ideal S1x2816 .f32) (x5 : Vec Ideal S2816x1024 .bf16) (x6 : Vec Ideal S1x1024 .f32) (r : Fin 512) (d : Fin 1024) :
    out0_A_7 (F := Ideal) c i arg1 harg1 arg2 harg2 arg3 harg3 arg4 harg4 arg5 harg5 arg6 harg6 arg7 harg7 arg8 harg8 arg9 harg9 hc0 x0 x1 x2 x3 x4 x5 x6 (ix2 r d) = tile x0 x1 x2 x3 x4 x5 x6 (fun _ _ => 0) r d := by
  unfold out0_A_7
  frame_open
  simp (disch := decide) only [↓ View.readCov_skip, ↓ View.readCov_cons_toLoadRect, ↓ View.readCov_fill]
  frame_out
  refine stored_apply x0 x1 x2 x3 x4 x5 x6 _ _ _ _ _ _ _ _ _ _ _ _ _ _ _ _ _ ?_ ?_ ?_ ?_ ?_ ?_ ?_ ?_ ?_ ?_ ?_ ?_ ?_ ?_ ?_ ?_ r d
  · intro k f; pointwise
  · intro k f; pointwise
  · intro k f; pointwise
  · intro k f; pointwise; exact congrArg _ (congrArg _ (Fin.ext (by show 4224 + f.val = 2816 + (1408 + f.val); omega)))
  · intro k f; pointwise [k0_pay2]
  · intro k f; pointwise [k0_pay2]
  · intro f; refine (ld_row harg4 x3 0 0 _ _ _ f (by omega) (by omega)).trans ?_; congr 2; apply Fin.ext; exact Nat.zero_add _
  · intro f; refine (ld_row harg4 x3 0 1 _ _ _ f (by omega) (by omega)).trans ?_; congr 2; apply Fin.ext; exact Nat.zero_add _
  · intro f; refine (ld_row harg4 x3 0 2 _ _ _ f (by omega) (by omega)).trans ?_; congr 2; apply Fin.ext; exact Nat.zero_add _
  · intro f; exact ld_row harg4 x3 1408 0 _ _ _ f (by omega) (by omega)
  · intro f; exact ld_row harg4 x3 1408 1 _ _ _ f (by omega) (by omega)
  · intro f; exact ld_row harg4 x3 1408 2 _ _ _ f (by omega) (by omega)
  · intro f; pointwise
  · intro f; pointwise
  · intro k f; pointwise
  · intro k f; pointwise

/-- What a point within a sequence stores. -/
theorem out0_B_7_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x2816 .f32) (harg9 : arg9.IsWhole) (hc0 : ¬cond0_0 i)
    (x0 : Vec Ideal S512x1024 .f32) (x1 : Vec Ideal S1x1024 .f32) (x2 : Vec Ideal S1024x5632 .bf16) (x3 : Vec Ideal S8x2816 .f32) (x4 : Vec Ideal S1x2816 .f32) (x5 : Vec Ideal S2816x1024 .bf16) (x6 : Vec Ideal S1x1024 .f32) (xs0 : Vec Ideal S8x2816 .f32) (r : Fin 512) (d : Fin 1024) :
    out0_B_7 (F := Ideal) c i arg1 harg1 arg2 harg2 arg3 harg3 arg4 harg4 arg5 harg5 arg6 harg6 arg7 harg7 arg8 harg8 arg9 harg9 hc0 x0 x1 x2 x3 x4 x5 x6 xs0 (ix2 r d) = tile x0 x1 x2 x3 x4 x5 x6 (fun j f => xs0 (ix2 j f)) r d := by
  unfold out0_B_7
  frame_open
  simp (disch := decide) only [↓ View.readCov_skip, ↓ View.readCov_cons_toLoadRect, ↓ View.readCov_fill]
  frame_out
  refine stored_apply x0 x1 x2 x3 x4 x5 x6 _ _ _ _ _ _ _ _ _ _ _ _ _ _ _ _ _ ?_ ?_ ?_ ?_ ?_ ?_ ?_ ?_ ?_ ?_ ?_ ?_ ?_ ?_ ?_ ?_ r d
  · intro k f; pointwise
  · intro k f; pointwise
  · intro k f; pointwise
  · intro k f; pointwise; exact congrArg _ (congrArg _ (Fin.ext (by show 4224 + f.val = 2816 + (1408 + f.val); omega)))
  · intro k f; pointwise [k0_pay2]
  · intro k f; pointwise [k0_pay2]
  · intro f; refine (ld_row harg4 x3 0 0 _ _ _ f (by omega) (by omega)).trans ?_; congr 2; apply Fin.ext; exact Nat.zero_add _
  · intro f; refine (ld_row harg4 x3 0 1 _ _ _ f (by omega) (by omega)).trans ?_; congr 2; apply Fin.ext; exact Nat.zero_add _
  · intro f; refine (ld_row harg4 x3 0 2 _ _ _ f (by omega) (by omega)).trans ?_; congr 2; apply Fin.ext; exact Nat.zero_add _
  · intro f; exact ld_row harg4 x3 1408 0 _ _ _ f (by omega) (by omega)
  · intro f; exact ld_row harg4 x3 1408 1 _ _ _ f (by omega) (by omega)
  · intro f; exact ld_row harg4 x3 1408 2 _ _ _ f (by omega) (by omega)
  · intro f; pointwise
  · intro f; pointwise
  · intro k f; pointwise
  · intro k f; pointwise

/-- The rows such a point leaves in its scratch. -/
theorem sout0_A_0_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x2816 .f32) (harg9 : arg9.IsWhole) (hc0 : cond0_0 i)
    (x0 : Vec Ideal S512x1024 .f32) (x1 : Vec Ideal S1x1024 .f32) (x2 : Vec Ideal S1024x5632 .bf16) (x3 : Vec Ideal S8x2816 .f32) (x4 : Vec Ideal S1x2816 .f32) (x5 : Vec Ideal S2816x1024 .bf16) (x6 : Vec Ideal S1x1024 .f32) (j : Fin 8) (f : Fin 2816) :
    sout0_A_0 (F := Ideal) c i arg1 harg1 arg2 harg2 arg3 harg3 arg4 harg4 arg5 harg5 arg6 harg6 arg7 harg7 arg8 harg8 arg9 harg9 hc0 x0 x1 x2 x3 x4 x5 x6 (ix2 j f) = lastRows (up x0 x1 x2 ⟨f.val, by omega⟩) j := by
  unfold sout0_A_0
  frame_open
  simp (disch := decide) only [↓ View.readCov_skip, ↓ View.readCov_cons_toLoadRect, ↓ View.readCov_fill]
  frame_out
  refine bands (fun y => lastRows (up x0 x1 x2 ⟨(y 1).val, by have := (y 1).isLt; have : S8x2816.size 1 = 2816 := rfl; omega⟩) (y 0)) _ _ _ _ _ ?_ ?_ j f
  · intro j f; rw [pay9_apply]; simp only [pay5_apply]; pointwise; rfl
  · intro j f; rw [pay17_eq, pay11_eq, pay9_apply]; simp only [pay5_apply]; pointwise; rfl

/-- The rows such a point leaves in its scratch. -/
theorem sout0_B_0_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x2816 .f32) (harg9 : arg9.IsWhole) (hc0 : ¬cond0_0 i)
    (x0 : Vec Ideal S512x1024 .f32) (x1 : Vec Ideal S1x1024 .f32) (x2 : Vec Ideal S1024x5632 .bf16) (x3 : Vec Ideal S8x2816 .f32) (x4 : Vec Ideal S1x2816 .f32) (x5 : Vec Ideal S2816x1024 .bf16) (x6 : Vec Ideal S1x1024 .f32) (xs0 : Vec Ideal S8x2816 .f32) (j : Fin 8) (f : Fin 2816) :
    sout0_B_0 (F := Ideal) c i arg1 harg1 arg2 harg2 arg3 harg3 arg4 harg4 arg5 harg5 arg6 harg6 arg7 harg7 arg8 harg8 arg9 harg9 hc0 x0 x1 x2 x3 x4 x5 x6 xs0 (ix2 j f) = lastRows (up x0 x1 x2 ⟨f.val, by omega⟩) j := by
  unfold sout0_B_0
  frame_open
  simp (disch := decide) only [↓ View.readCov_skip, ↓ View.readCov_cons_toLoadRect, ↓ View.readCov_fill]
  frame_out
  refine bands (fun y => lastRows (up x0 x1 x2 ⟨(y 1).val, by have := (y 1).isLt; have : S8x2816.size 1 = 2816 := rfl; omega⟩) (y 0)) _ _ _ _ _ ?_ ?_ j f
  · intro j f; rw [pay9_apply]; simp only [pay5_apply]; pointwise; rfl
  · intro j f; rw [pay17_eq, pay11_eq, pay9_apply]; simp only [pay5_apply]; pointwise; rfl

end Cert.Ffn
-- ==== Proof.FfnArray.lean ====
module
public import proofs.«01_k».proof.Proof.Gen.KernelIdeal.Value
public import proofs.«01_k».proof.Proof.FfnTile

/-! The feed-forward kernel's result array as mathematics: every point's blocks read from the
    arguments, the rows carried between points, and the array the points' tiles make up. -/

@[expose] public section
set_option maxRecDepth 16384
noncomputable section
namespace Cert.Ffn
open Cert.KernelIdeal Cert.KernelIdeal.Gen Idealize.ShloMosaic Idealize.ShloMosaic.TcCoe Idealize.SL.Sem
open Idealize.ShloMosaic.Pipeline (Dat)
open Cert.KernelIdeal Cert.KernelIdeal.Gen Cert.Layer

variable (m : (ℓ : Loc nD τ sig) → Buf (Elt Ideal) ℓ) (c : Dev nD)

/-- The windows' blocks, decided over the grid: the rows' and the result's move, the weights' stay. -/
theorem idx : ∀ t : Fin cfg0.N, win0_0.index t = ![t.val, 0] ∧ win0_1.index t = ![0, 0] ∧
    win0_2.index t = ![0, 0] ∧ win0_3.index t = ![0, 0] ∧ win0_4.index t = ![0, 0] ∧
    win0_5.index t = ![0, 0] ∧ win0_6.index t = ![0, 0] :=
  (by decide +kernel : ∀ t : Fin grid0.N, _)

theorem blk_x (t : Fin cfg0.N) (r : Fin 512) (d : Fin 1024) :
    iblk m c 0 t (ix2 r d) = m ((c : Thread nD τ).loc main_arg0) (ix3 ⟨(512 * t.val + r.val) / 8192, by have := t.isLt; have : cfg0.N = 64 := N_0; omega⟩ ⟨(512 * t.val + r.val) % 8192, by omega⟩ d) := by
  blk_point [iblk, V, idx t]
theorem blk_g (t : Fin cfg0.N) (d : Fin 1024) :
    iblk m c 1 t (ix2 0 d) = m ((c : Thread nD τ).loc main_arg1) (ix1 d) := by
  blk_point [iblk, V, idx t]
theorem blk_w (t : Fin cfg0.N) (k : Fin 1024) (f : Fin 5632) :
    iblk m c 2 t (ix2 k f) = m ((c : Thread nD τ).loc main_arg3) (ix2 k f) := by
  blk_point [iblk, V, idx t]
theorem blk_cw (t : Fin cfg0.N) (k : Fin 3) (f : Fin 2816) :
    iblk m c 3 t (ix2 ⟨k.val, by omega⟩ f) = m ((c : Thread nD τ).loc main_arg4) (ix2 k f) := by
  have e : iblk m c 3 t (ix2 ⟨k.val, by omega⟩ f) = V m c main_v4 (ix2 ⟨k.val, by omega⟩ f) := by
    blk_ext [iblk, idx t]
  rw [e]
  entry_read
  pointwise

theorem blk_b (t : Fin cfg0.N) (f : Fin 2816) :
    iblk m c 4 t (ix2 0 f) = m ((c : Thread nD τ).loc main_arg5) (ix1 f) := by
  blk_point [iblk, V, idx t]

theorem blk_wd (t : Fin cfg0.N) (f : Fin 2816) (d : Fin 1024) :
    iblk m c 5 t (ix2 f d) = m ((c : Thread nD τ).loc main_arg6) (ix2 f d) := by
  blk_point [iblk, V, idx t]

theorem blk_gp (t : Fin cfg0.N) (d : Fin 1024) :
    iblk m c 6 t (ix2 0 d) = m ((c : Thread nD τ).loc main_arg2) (ix1 d) := by
  blk_point [iblk, V, idx t]

/-- The kernel's input rows, by token. -/
def inX (t : Fin 32768) (d : Fin 1024) : EReal :=
  m ((c : Thread nD τ).loc main_arg0) (ix3 ⟨t.val / 8192, by omega⟩ ⟨t.val % 8192, by omega⟩ d)

/-- The mathematics at the kernel's arguments. -/
def want (t : Fin 32768) (d : Fin 1024) : EReal :=
  ffn (inX m c) (fun d => m ((c : Thread nD τ).loc main_arg1) (ix1 d)) (fun d => m ((c : Thread nD τ).loc main_arg2) (ix1 d))
    (fun k f => m ((c : Thread nD τ).loc main_arg3) (ix2 k f)) (fun k f => m ((c : Thread nD τ).loc main_arg4) (ix2 k f))
    (fun f => m ((c : Thread nD τ).loc main_arg5) (ix1 f)) (fun f d => m ((c : Thread nD τ).loc main_arg6) (ix2 f d)) t d

/-- The up projection's column at the kernel's arguments. -/
def upArr (f : Fin 5632) : Fin 32768 → EReal :=
  ffnUp (inX m c) (fun d => m ((c : Thread nD τ).loc main_arg1) (ix1 d)) (fun k f => m ((c : Thread nD τ).loc main_arg3) (ix2 k f)) f

/-- Point `t` as a tile's number. -/
abbrev tileNo (t : Fin cfg0.N) : Fin 64 := ⟨t.val, lt_of_lt_of_eq t.isLt N_0⟩

/-- A tile's up projection is the tokens'. -/
theorem up_eq (t : Fin cfg0.N) (f : Fin 5632) :
    up (iblk m c 0 t) (iblk m c 1 t) (iblk m c 2 t) f = fun r => upArr m c f (tok (tileNo t) r) := by
  funext r
  unfold up upArr ffnUp inX
  refine Finset.sum_congr rfl fun k _ => ?_
  rw [blk_w]
  congr 1
  simp only [blk_x, blk_g]
  rfl

/-- The tile a point stores is its tokens' rows of the result, when the carried rows are those before it. -/
theorem tile_eq (t : Fin cfg0.N) (cr : Fin 8 → Fin 2816 → EReal)
    (hc : ∀ (k : ℕ) (hk : k ≤ 8) (f : Fin 2816) (r : Fin 512),
      prev k hk (fun j => cr j f) (fun r => upArr m c ⟨f.val, by omega⟩ (tok (tileNo t) r)) r =
        back k (upArr m c ⟨f.val, by omega⟩) (tok (tileNo t) r)) (r : Fin 512) (d : Fin 1024) :
    tile (iblk m c 0 t) (iblk m c 1 t) (iblk m c 2 t) (iblk m c 3 t) (iblk m c 4 t) (iblk m c 5 t)
      (iblk m c 6 t) cr r d = want m c (tok (tileNo t) r) d := by
  unfold tile hid want ffn
  simp only [up_eq, hc, blk_cw, blk_b, blk_wd, blk_gp]
  congr 1
  exact blk_x m c t r d

/-- The rows a point leaves in the scratch: the last of its tile's up projection. -/
theorem carry_eq (t : Fin cfg0.N) (j : Fin 8) (f : Fin 2816) :
    (outsAt0 m c t.val t.isLt).2 (ix2 j f) =
      lastRows (fun r => upArr m c ⟨f.val, by omega⟩ (tok (tileNo t) r)) j := by
  by_cases h : t.val % 16 = 0
  · rw [outsAt0_A m c t h]
    dsimp only
    rw [sout0_A_0_apply]
    rw [up_eq]
  · rw [outsAt0_B m c t h]
    dsimp only
    rw [sout0_B_0_apply]
    rw [up_eq]

/-- What a point stores: its tokens' rows of the result. -/
theorem out_eq (t : Fin cfg0.N) (r : Fin 512) (d : Fin 1024) :
    (outsAt0 m c t.val t.isLt).1 (ix2 r d) = want m c (tok (tileNo t) r) d := by
  by_cases h : t.val % 16 = 0
  · rw [outsAt0_A m c t h]
    dsimp only
    rw [out0_A_7_apply]
    exact tile_eq m c t _ (fun k hk f r => prev_first k hk _ _ h r) r d
  · rw [outsAt0_B m c t h]
    dsimp only
    rw [out0_B_7_apply]
    refine tile_eq m c t _ (fun k hk f r => ?_) r d
    have hp : t.val - 1 < cfg0.N := by have := t.isLt; omega
    have e := carry_eq m c ⟨t.val - 1, hp⟩
    simp only at e
    simp only [e]
    exact prev_next k hk _ _ _ (by show t.val = t.val - 1 + 1; omega) h r

/-- The kernel's result array. -/
theorem G7_eq (t : Fin 32768) (d : Fin 1024) : Value.G7 m c (ix2 t d) = want m c t d := by
  have hN : cfg0.N = 64 := N_0
  have hp : Value.pt7Of (ix2 t d) = t.val / 512 := by
    show 1 * (t.val / 512 - 0) + 1 * (d.val / 1024 - 0) = _
    omega
  have hlt : Value.pt7Of (ix2 t d) < cfg0.N := by rw [hp]; omega
  unfold Value.G7
  rw [dif_pos hlt, Value.fold0_congr m c _ _ (t.val / 512) (by omega) hp, ← Value.outsAt0_sweep]
  have hl : Value.loc7Of (ix2 t d) = ix2 ⟨t.val % 512, by omega⟩ d := by
    funext a; apply Fin.ext; fin_cases a
    · rfl
    · show d.val % 1024 = d.val; omega
  rw [hl]
  refine (out_eq m c ⟨t.val / 512, by omega⟩ ⟨t.val % 512, by omega⟩ d).trans ?_
  congr 1
  exact Fin.ext (by show 512 * (t.val / 512) + t.val % 512 = t.val; omega)

end Cert.Ffn
-- ==== Proof.FfnRef.lean ====
module
public import proofs.«01_k».proof.Proof.Gen.ReferenceIdeal.Read
public import proofs.«01_k».proof.Proof.Spec

/-! The reference's feed-forward network, stage by stage, as the mathematics of `Spec`. -/

@[expose] public section
set_option maxRecDepth 16384
noncomputable section
namespace Cert.Ffn.Ref
open Idealize.ShloMosaic Cert.ReferenceIdeal Cert.ReferenceIdeal.Gen Cert.ReferenceIdeal.Read Cert.Layer

variable (x : Vec Ideal S4x8192x1024 .f32) (g gp : Vec Ideal S1024 .f32) (w : Vec Ideal S1024x5632 .f32)
  (cw : Vec Ideal S3x2816 .f32) (b : Vec Ideal S2816 .f32) (wd : Vec Ideal S2816x1024 .f32)

/-- The normed rows. -/
theorem norm_apply (i : Fin 4) (s : Fin 8192) (d : Fin 1024) :
    val_main_v12 (F := Ideal) x g (ix3 i s d) = rms (fun k => x (ix3 i s k)) (fun k => g (ix1 k)) d := by
  pointwise [val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The up projection. -/
theorem up_apply (i : Fin 4) (s : Fin 8192) (f : Fin 5632) :
    val_main_v13 (F := Ideal) x g w (ix3 i s f) =
      ∑ k, rms (fun k => x (ix3 i s k)) (fun k => g (ix1 k)) k * w (ix2 k f) := by
  pointwise [val_main_v13]
  simp only [norm_apply]

/-- The two zero rows in front of each sequence. -/
theorem pad_apply (i : Fin 4) (p : Fin 8194) (f : Fin 2816) :
    val_main_v16 (F := Ideal) x g w (ix3 i p f) =
      if h : p.val < 2 then 0 else val_main_v13 (F := Ideal) x g w (ix3 i ⟨p.val - 2, by omega⟩ ⟨f.val, by omega⟩) := by
  pointwise [val_main_v16]
  by_cases h : p.val < 2
  · rw [dif_pos h, dif_neg (by omega)]
    pointwise [val_main_call0_v0, val_main_c]
    simp [FloatOps.sitofp]
  · rw [dif_neg h, dif_pos (by omega)]
    pointwise [val_main_v14]

/-- Column `f` of the up projection, by token. -/
def upRef (f : Fin 5632) (t : Fin 32768) : EReal :=
  val_main_v13 (F := Ideal) x g w (ix3 ⟨t.val / 8192, by omega⟩ ⟨t.val % 8192, by omega⟩ f)

/-- A row `k` above in the padded array is a row `k` back in the sequence. -/
theorem pad_back (k : ℕ) (hk : k ≤ 2) (t : Fin 32768) (f : Fin 2816) (h1) (h2) :
    val_main_v16 (F := Ideal) x g w (ix3 ⟨t.val / 8192, h1⟩ ⟨2 - k + t.val % 8192, h2⟩ f) =
      back k (upRef x g w ⟨f.val, by omega⟩) t := by
  rw [pad_apply]
  unfold back upRef
  by_cases h : t.val % 8192 < k
  · rw [if_pos h, dif_pos (by show 2 - k + t.val % 8192 < 2; omega)]
  · rw [if_neg h, dif_neg (by show ¬ 2 - k + t.val % 8192 < 2; omega)]
    have e1 : t.val / 8192 = (t.val - k) / 8192 := by omega
    have e2 : 2 - k + t.val % 8192 - 2 = (t.val - k) % 8192 := by omega
    simp only [e1, e2]

/-- The convolution with its bias. -/
theorem conv_apply (t : Fin 32768) (f : Fin 2816) (h1) (h2) :
    val_main_v39 (F := Ideal) x g w cw b (ix3 ⟨t.val / 8192, h1⟩ ⟨t.val % 8192, h2⟩ f) =
      taps (fun k => cw (ix2 k f)) (back 2 (upRef x g w ⟨f.val, by omega⟩) t)
        (back 1 (upRef x g w ⟨f.val, by omega⟩) t) (upRef x g w ⟨f.val, by omega⟩ t) + b (ix1 f) := by
  have e0 : upRef x g w ⟨f.val, by omega⟩ t = back 0 (upRef x g w ⟨f.val, by omega⟩) t := rfl
  rw [e0, ← pad_back x g w 0 (by omega) t f h1 (by omega), ← pad_back x g w 1 (by omega) t f h1 (by omega),
    ← pad_back x g w 2 (by omega) t f h1 (by omega)]
  pointwise [val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17]
  unfold taps
  simp only [mul_comm (cw _)]

/-- The hidden units. -/
theorem hid_apply (t : Fin 32768) (f : Fin 2816) (h1) (h2) :
    val_main_v53 (F := Ideal) x g w cw b (ix3 ⟨t.val / 8192, h1⟩ ⟨t.val % 8192, h2⟩ f) =
      unit (fun k => cw (ix2 k f)) (b (ix1 f)) (back 2 (upRef x g w ⟨f.val, by omega⟩) t)
        (back 1 (upRef x g w ⟨f.val, by omega⟩) t) (upRef x g w ⟨f.val, by omega⟩ t) (upRef x g w ⟨2816 + f.val, by omega⟩ t) := by
  pointwise [val_main_v53, val_main_v52, val_main_v51, val_main_v50, val_main_v49, val_main_v48, val_main_v47,
    val_main_v46, val_main_v45, val_main_v44, val_main_v43, val_main_v42, val_main_v41, val_main_v40, val_main_v15,
    val_main_cst_2, val_main_cst_3, val_main_cst_4, val_main_cst_5]
  rw [conv_apply]
  unfold unit gelu
  generalize taps (fun k => cw (ix2 k f)) (back 2 (upRef x g w ⟨f.val, by omega⟩) t)
    (back 1 (upRef x g w ⟨f.val, by omega⟩) t) (upRef x g w ⟨f.val, by omega⟩ t) + b (ix1 f) = v
  rw [mul_assoc v v v]
  rfl

/-- The down projection. -/
theorem down_apply (i : Fin 4) (s : Fin 8192) (d : Fin 1024) :
    val_main_v54 (F := Ideal) x g w cw b wd (ix3 i s d) =
      ∑ f, val_main_v53 (F := Ideal) x g w cw b (ix3 i s f) * wd (ix2 f d) := by
  pointwise [val_main_v54]

/-- The result. -/
theorem out_apply (t : Fin 32768) (d : Fin 1024) :
    val_main_v69 (F := Ideal) x g gp w cw b wd (ix2 t d) =
      ffn (fun t k => x (ix3 ⟨t.val / 8192, by omega⟩ ⟨t.val % 8192, by omega⟩ k)) (fun k => g (ix1 k)) (fun k => gp (ix1 k))
        (fun k f => w (ix2 k f)) (fun k f => cw (ix2 k f)) (fun f => b (ix1 f)) (fun f d => wd (ix2 f d)) t d := by
  pointwise [val_main_v69, val_main_v68, val_main_v67, val_main_v66, val_main_v65, val_main_v64, val_main_v63,
    val_main_v62, val_main_v61, val_main_v60, val_main_v59, val_main_v58, val_main_v57, val_main_v56, val_main_v55,
    val_main_cst_6, val_main_cst_7, val_main_cst_8]
  have e : upRef x g w = ffnUp (fun t k => x (ix3 ⟨t.val / 8192, by omega⟩ ⟨t.val % 8192, by omega⟩ k))
      (fun k => g (ix1 k)) (fun k f => w (ix2 k f)) := by
    funext f t
    exact up_apply ..
  simp only [down_apply, hid_apply, e]
  rfl
end Cert.Ffn.Ref
-- ==== Proof.FfnTie.lean ====
module
public import proofs.«01_k».proof.Proof.FfnArray
public import proofs.«01_k».proof.Proof.FfnRef

/-! The feed-forward kernel's result array is the reference's, on memories that agree on the arguments. -/

@[expose] public section
set_option maxRecDepth 16384
noncomputable section
namespace Cert.Ffn
open Idealize.ShloMosaic Idealize.ShloMosaic.TcCoe Idealize.SL.Sem Cert.Layer

theorem tie (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev 1)
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4))
    (h5 : m' ((c : Thread ReferenceIdeal.nD ReferenceIdeal.τ).loc ReferenceIdeal.main_arg5) = m ((c : Thread KernelIdeal.nD KernelIdeal.τ).loc KernelIdeal.main_arg5))
    (h6 : m' ((c : Thread ReferenceIdeal.nD ReferenceIdeal.τ).loc ReferenceIdeal.main_arg6) = m ((c : Thread KernelIdeal.nD KernelIdeal.τ).loc KernelIdeal.main_arg6)) :
    ReferenceIdeal.Value.res_main_v69 m' c = KernelIdeal.Value.G7 m c := by
  refine (ReferenceIdeal.Read.val_main_v69_eq m' c).trans ?_
  funext i
  obtain ⟨t, d, rfl⟩ : ∃ t d, i = ix2 t d := ⟨i 0, i 1, by funext a; fin_cases a <;> rfl⟩
  rw [G7_eq, Ref.out_apply]
  unfold want inX
  rw [h0, h1, h2, h3, h4, h5, h6]

end Cert.Ffn
-- ==== Proof.MergeSpec.lean ====
module
public import proofs.«01_k».proof.Proof.Spec

/-! The mathematics of the gated merge: the short gated convolution, the three attention branches
    weighed per head, the three mixers weighed per column, and the output projection. -/

@[expose] public section
noncomputable section
namespace Cert.Layer
open Idealize.ShloMosaic

/-- The logistic function. -/
def sig (v : EReal) : EReal := Ideal.logistic v

/-- The head of a column: 64 columns each. -/
def head (f : Fin 512) : Fin 8 := ⟨f.val / 64, by omega⟩

/-- Column `f` of the input projection of the normed rows, as a function of the token. -/
def inProj (x : Fin 32768 → Fin 1024 → EReal) (g : Fin 1024 → EReal) (w : Fin 1024 → Fin 4608 → EReal)
    (f : Fin 4608) (t : Fin 32768) : EReal := ∑ k, rms (x t) g k * w k f

/-- The convolution's input: the product of two bands of the projection. -/
def convIn (p : Fin 4608 → EReal) (f : Fin 512) : EReal := p ⟨3584 + f.val, by omega⟩ * p ⟨4096 + f.val, by omega⟩

/-- The convolution's result at a column, gated by a third band of the projection. -/
def conv (p : Fin 4608 → EReal) (w : Fin 3 → EReal) (u2 u1 u0 : EReal) (f : Fin 512) : EReal :=
  p ⟨3072 + f.val, by omega⟩ * taps w u2 u1 u0

/-- The three attention branches at a column, each weighed by its head's gate. -/
def branches (gl : Fin 24 → EReal) (oc os ow : Fin 512 → EReal) (f : Fin 512) : EReal :=
  sig (gl ⟨3 * (head f).val, by omega⟩) * oc f + sig (gl ⟨3 * (head f).val + 1, by omega⟩) * os f +
    sig (gl ⟨3 * (head f).val + 2, by omega⟩) * ow f

/-- The three mixers' projections at a column, each weighed by its band of the input projection. -/
def mixed (p : Fin 4608 → EReal) (yc ym yn : Fin 512 → EReal) (wc wm wn : Fin 512 → Fin 1024 → EReal)
    (e : Fin 1024) : EReal :=
  sig (p ⟨e.val, by omega⟩) * (∑ f, yc f * wc f e) + sig (p ⟨1024 + e.val, by omega⟩) * (∑ f, ym f * wm f e) +
    sig (p ⟨2048 + e.val, by omega⟩) * ∑ f, yn f * wn f e

/-- A row plus the norm of its merged mixers' output projection. -/
def mergeRow (x : Fin 1024 → EReal) (q : Fin 1024 → EReal) (wo : Fin 1024 → Fin 1024 → EReal) (gp : Fin 1024 → EReal)
    (d : Fin 1024) : EReal := x d + rms (fun d => ∑ e, q e * wo e d) gp d

/-- The merge's result at token `t`, entry `d`. -/
def merge (x : Fin 32768 → Fin 1024 → EReal) (g gp : Fin 1024 → EReal) (w : Fin 1024 → Fin 4608 → EReal)
    (cw : Fin 3 → Fin 512 → EReal) (ym oc os ow : Fin 32768 → Fin 512 → EReal) (gl : Fin 32768 → Fin 24 → EReal)
    (wc wm wn : Fin 512 → Fin 1024 → EReal) (wo : Fin 1024 → Fin 1024 → EReal) (t : Fin 32768) (d : Fin 1024) : EReal :=
  mergeRow (x t) (mixed (fun f => inProj x g w f t)
    (fun f => conv (fun f => inProj x g w f t) (fun k => cw k f)
      (back 2 (fun t => convIn (fun f => inProj x g w f t) f) t)
      (back 1 (fun t => convIn (fun f => inProj x g w f t) f) t) (convIn (fun f => inProj x g w f t) f) f)
    (ym t) (branches (gl t) (oc t) (os t) (ow t)) wc wm wn) wo gp d

end Cert.Layer
-- ==== Proof.MergePay.lean ====
module
public import proofs.«01_k».proof.Proof.Gen.Kernel2Ideal.Skeleton
public import proofs.«01_k».proof.Proof.MergeSpec
public import Idealize.ShloMosaic.Lib.Pipeline.ValueKit

/-! The merge kernel's stored expressions at an index. -/

@[expose] public section
set_option maxRecDepth 16384
noncomputable section
namespace Cert.Merge
open Idealize.ShloMosaic Cert.Kernel2Ideal Cert.Kernel2Ideal.Gen Cert.Layer

theorem pay2_apply (j : Fin 8) (f : Fin 512) : k0_pay2 (F := Ideal) (ix2 j f) = 0 := by
  pointwise [k0_pay2]

theorem pay3_eq (x : Vec Ideal S512x1024 .f32) : k0_pay3 (F := Ideal) x = x := by
  unfold k0_pay3; exact shapeCast_self _ _

/-- The input projection of the normed rows. -/
theorem pay4_apply (x : Vec Ideal S512x1024 .f32) (g : Vec Ideal S1x1024 .f32) (w : Vec Ideal S1024x4608 .bf16)
    (r : Fin 512) (f : Fin 4608) :
    k0_pay4 (F := Ideal) x g w (ix2 r f) = ∑ k, rms (fun k => x (ix2 r k)) (fun k => g (ix2 0 k)) k * w (ix2 k f) := by
  pointwise [k0_pay4, k0_pay3]
  rfl

/-- The convolution's input. -/
theorem pay5_apply (x : Vec Ideal S512x1024 .f32) (g : Vec Ideal S1x1024 .f32) (w : Vec Ideal S1024x4608 .bf16)
    (r : Fin 512) (f : Fin 512) :
    k0_pay5 (F := Ideal) x g w (ix2 r f) = k0_pay4 x g w (ix2 r ⟨3584 + f.val, by omega⟩) * k0_pay4 x g w (ix2 r ⟨4096 + f.val, by omega⟩) := by
  pointwise [k0_pay5]

theorem pay6_apply (x : Vec Ideal S512x1024 .f32) (g : Vec Ideal S1x1024 .f32) (w : Vec Ideal S1024x4608 .bf16)
    (r : Fin 512) (f : Fin 512) :
    k0_pay6 (F := Ideal) x g w (ix2 r f) = k0_pay4 x g w (ix2 r ⟨3072 + f.val, by omega⟩) := by
  pointwise [k0_pay6]

/-- The gated short convolution. -/
theorem pay7_apply (a p : Vec Ideal S512x512 .f32) (c : Vec Ideal S8x512 .f32) (w0 w1 w2 : Vec Ideal S1x512 .f32)
    (r : Fin 512) (f : Fin 512) :
    k0_pay7 (F := Ideal) a p c w0 w1 w2 (ix2 r f) = p (ix2 r f) *
      taps ![w0 (ix2 0 f), w1 (ix2 0 f), w2 (ix2 0 f)]
        (prev 2 (by omega) (fun j => c (ix2 j f)) (fun r => a (ix2 r f)) r)
        (prev 1 (by omega) (fun j => c (ix2 j f)) (fun r => a (ix2 r f)) r) (a (ix2 r f)) := by
  pointwise [k0_pay7]
  rw [← select_two (fun j => c (ix2 j f)) (fun r => a (ix2 r f)) r (by omega),
    ← select_one (fun j => c (ix2 j f)) (fun r => a (ix2 r f)) r (by omega)]
  rfl

theorem pay8_apply (a : Vec Ideal S512x512 .f32) (j : Fin 8) (f : Fin 512) :
    k0_pay8 (F := Ideal) a (ix2 j f) = lastRows (fun r => a (ix2 r f)) j := by
  pointwise [k0_pay8]
  rfl

/-- The first half of a band of 128 columns, as the comparison with an iota decides it. -/
theorem half (l : ℕ) (h : l < 128) (a b : EReal) :
    Scalar.select (IntOp.cmpi CmpIPredicate.slt (BitVec.ofNat 32 l) 64#32) a b = if l < 64 then a else b := by
  have e : ∀ l : Fin 128, IntOp.cmpi CmpIPredicate.slt (BitVec.ofNat 32 l.val) 64#32 = if l.val < 64 then 1#1 else 0#1 := by
    decide +kernel
  rw [e ⟨l, h⟩]
  by_cases q : l < 64
  · rw [if_pos q, if_pos q]; rfl
  · rw [if_neg q, if_neg q]; rfl

/-- Eight gates spread over 512 columns, 64 each, as four bands of two. -/
theorem spread (G : Fin 8 → EReal) (f : Fin 512) :
    (if _h : f.val < 128 then
        Scalar.select (IntOp.cmpi CmpIPredicate.slt (BitVec.ofNat 32 f.val) 64#32) (G 0) (G 1)
      else if _h : f.val - 128 < 128 then
        Scalar.select (IntOp.cmpi CmpIPredicate.slt (BitVec.ofNat 32 (f.val - 128)) 64#32) (G 2) (G 3)
      else if _h : f.val - 128 - 128 < 128 then
        Scalar.select (IntOp.cmpi CmpIPredicate.slt (BitVec.ofNat 32 (f.val - 128 - 128)) 64#32) (G 4) (G 5)
      else
        Scalar.select (IntOp.cmpi CmpIPredicate.slt (BitVec.ofNat 32 (f.val - 128 - 128 - 128)) 64#32) (G 6) (G 7)) =
      G (head f) := by
  have key : ∀ (k : ℕ) (hk : k < 8), f.val / 64 = k → G ⟨k, hk⟩ = G (head f) := by
    intro k hk e; exact congrArg G (Fin.ext e.symm)
  split_ifs with h1 h2 h3
  · rw [half _ h1]; split_ifs
    · exact key 0 (by omega) (by omega)
    · exact key 1 (by omega) (by omega)
  · rw [half _ h2]; split_ifs
    · exact key 2 (by omega) (by omega)
    · exact key 3 (by omega) (by omega)
  · rw [half _ h3]; split_ifs
    · exact key 4 (by omega) (by omega)
    · exact key 5 (by omega) (by omega)
  · rw [half _ (by omega)]; split_ifs
    · exact key 6 (by omega) (by omega)
    · exact key 7 (by omega) (by omega)

theorem pay9_apply (a : Vec Ideal S512x128 .f32) (r : Fin 512) (f : Fin 128) :
    k0_pay9 (F := Ideal) a (ix2 r f) = sig (a (ix2 r f)) := by
  pointwise [k0_pay9]
  rfl

/-- The first branch times its gates. -/
theorem pay11_apply (gs : Vec Ideal S512x128 .f32) (o : Vec Ideal S512x512 .bf16) (r : Fin 512) (f : Fin 512) :
    k0_pay11 (F := Ideal) gs (iota .tc S512x128 32 [1] iota_S512x128_d1_w32) 64#32 o (ix2 r f) =
      gs (ix2 r ⟨3 * (head f).val, by omega⟩) * o (ix2 r f) := by
  pointwise [k0_pay11, k0_pay10]
  exact congrArg (· * o (ix2 r f)) (spread (fun h => gs (ix2 r ⟨3 * h.val, by omega⟩)) f)

/-- The three branches, each times its gates. -/
theorem pay16_apply (gs : Vec Ideal S512x128 .f32) (a : Vec Ideal S512x512 .f32) (o2 o3 : Vec Ideal S512x512 .bf16)
    (r : Fin 512) (f : Fin 512) :
    k0_pay16 (F := Ideal) gs (k0_pay10 (iota .tc S512x128 32 [1] iota_S512x128_d1_w32) 64#32) a
        (k0_pay12 gs (iota .tc S512x128 32 [1] iota_S512x128_d1_w32) 64#32)
        (k0_pay13 gs (iota .tc S512x128 32 [1] iota_S512x128_d1_w32) 64#32)
        (k0_pay14 gs (iota .tc S512x128 32 [1] iota_S512x128_d1_w32) 64#32) (k0_pay15 gs) o2 o3 (ix2 r f) =
      a (ix2 r f) + gs (ix2 r ⟨3 * (head f).val + 1, by omega⟩) * o2 (ix2 r f) +
        gs (ix2 r ⟨3 * (head f).val + 2, by omega⟩) * o3 (ix2 r f) := by
  pointwise [k0_pay16, k0_pay10, k0_pay12, k0_pay13, k0_pay14, k0_pay15]
  exact congrArg₂ (· + ·)
    (congrArg (fun q => a (ix2 r f) + q * o2 (ix2 r f)) (spread (fun h => gs (ix2 r ⟨3 * h.val + 1, by omega⟩)) f))
    (congrArg (· * o3 (ix2 r f)) (spread (fun h => gs (ix2 r ⟨3 * h.val + 2, by omega⟩)) f))

theorem pay17_apply (p : Vec Ideal S512x4608 .f32) (y : Vec Ideal S512x512 .f32) (w : Vec Ideal S512x1024 .bf16)
    (r : Fin 512) (d : Fin 1024) :
    k0_pay17 (F := Ideal) p y w (ix2 r d) = sig (p (ix2 r ⟨d.val, by omega⟩)) * ∑ f, y (ix2 r f) * w (ix2 f d) := by
  pointwise [k0_pay17]
  rfl

theorem pay18_apply (p : Vec Ideal S512x4608 .f32) (r : Fin 512) (d : Fin 1024) :
    k0_pay18 (F := Ideal) p (ix2 r d) = sig (p (ix2 r ⟨1024 + d.val, by omega⟩)) := by
  pointwise [k0_pay18]
  rfl

/-- The stored value: the row plus the norm of the merged branches' projection. -/
theorem pay1_apply (x : Vec Ideal S512x1024 .f32) (p : Vec Ideal S512x4608 .f32) (yn : Vec Ideal S512x512 .f32)
    (a b : Vec Ideal S512x1024 .f32) (ym : Vec Ideal S512x512 .bf16) (wbm wbn : Vec Ideal S512x1024 .bf16)
    (wo : Vec Ideal S1024x1024 .bf16) (gp : Vec Ideal S1x1024 .f32) (r : Fin 512) (d : Fin 1024) :
    k0_pay1 (F := Ideal) x p yn a b ym wbm wbn wo gp (ix2 r d) =
      x (ix2 r d) + rms (fun d => ∑ e, (a (ix2 r e) + b (ix2 r e) * (∑ f, ym (ix2 r f) * wbm (ix2 f e)) +
        sig (p (ix2 r ⟨2048 + e.val, by omega⟩)) * ∑ f, yn (ix2 r f) * wbn (ix2 f e)) * wo (ix2 e d))
        (fun d => gp (ix2 0 d)) d := by
  pointwise [k0_pay1]
  rfl

end Cert.Merge
-- ==== Proof.MergeTile.lean ====
module
public import proofs.«01_k».proof.Proof.Gen.Kernel2Ideal.Frame
public import proofs.«01_k».proof.Proof.MergePay
public import Idealize.ShloMosaic.Lib.Pipeline.ReadBack

/-! One point of the merge kernel as mathematics: the tile it stores and the rows it leaves in its
    scratch, from the tile's rows, the weights, and the rows carried in. -/

@[expose] public section
set_option maxRecDepth 16384
noncomputable section
namespace Cert.Merge
open Idealize.ShloMosaic Cert.Kernel2Ideal Cert.Kernel2Ideal.Gen Cert.Layer

/-- The input projection of row `r` of a tile, column `f`. -/
def proj (x : Vec Ideal S512x1024 .f32) (g : Vec Ideal S1x1024 .f32) (w : Vec Ideal S1024x4608 .bf16)
    (r : Fin 512) (f : Fin 4608) : EReal :=
  ∑ k, rms (fun k => x (ix2 r k)) (fun k => g (ix2 0 k)) k * w (ix2 k f)

/-- The convolution's input at row `r` of a tile, column `f`. -/
def cin (x : Vec Ideal S512x1024 .f32) (g : Vec Ideal S1x1024 .f32) (w : Vec Ideal S1024x4608 .bf16)
    (f : Fin 512) (r : Fin 512) : EReal := convIn (proj x g w r) f

/-- The tile a point stores. -/
def tile (x : Vec Ideal S512x1024 .f32) (g : Vec Ideal S1x1024 .f32) (w : Vec Ideal S1024x4608 .bf16)
    (cw : Vec Ideal S8x512 .f32) (ym oc os ow : Vec Ideal S512x512 .bf16) (gl : Vec Ideal S512x128 .f32)
    (wc wm wn : Vec Ideal S512x1024 .bf16) (wo : Vec Ideal S1024x1024 .bf16) (gp : Vec Ideal S1x1024 .f32)
    (c : Fin 8 → Fin 512 → EReal) (r : Fin 512) (d : Fin 1024) : EReal :=
  mergeRow (fun d => x (ix2 r d)) (mixed (proj x g w r)
    (fun f => conv (proj x g w r) (fun k => cw (ix2 ⟨k.val, by omega⟩ f))
      (prev 2 (by omega) (fun j => c j f) (cin x g w f) r)
      (prev 1 (by omega) (fun j => c j f) (cin x g w f) r) (cin x g w f r) f)
    (fun f => ym (ix2 r f))
    (branches (fun k => gl (ix2 r ⟨k.val, by omega⟩)) (fun f => oc (ix2 r f)) (fun f => os (ix2 r f)) (fun f => ow (ix2 r f)))
    (fun f e => wc (ix2 f e)) (fun f e => wm (ix2 f e)) (fun f e => wn (ix2 f e))) (fun e d => wo (ix2 e d)) (fun d => gp (ix2 0 d)) d

/-- The expression a point stores, over loads of the convolution's rows and of the carried rows. -/
theorem stored_apply (x : Vec Ideal S512x1024 .f32) (g : Vec Ideal S1x1024 .f32) (w : Vec Ideal S1024x4608 .bf16)
    (cw : Vec Ideal S8x512 .f32) (ym oc os ow : Vec Ideal S512x512 .bf16) (gl : Vec Ideal S512x128 .f32)
    (wc wm wn : Vec Ideal S512x1024 .bf16) (wo : Vec Ideal S1024x1024 .bf16) (gp : Vec Ideal S1x1024 .f32)
    (c : Fin 8 → Fin 512 → EReal) (cr : Vec Ideal S8x512 .f32) (u0 u1 u2 : Vec Ideal S1x512 .f32)
    (hc : ∀ j f, cr (ix2 j f) = c j f)
    (hu0 : ∀ f, u0 (ix2 0 f) = cw (ix2 0 f)) (hu1 : ∀ f, u1 (ix2 0 f) = cw (ix2 1 f)) (hu2 : ∀ f, u2 (ix2 0 f) = cw (ix2 2 f))
    (r : Fin 512) (d : Fin 1024) :
    k0_pay1 (F := Ideal) (k0_pay3 x) (k0_pay4 x g w)
      (k0_pay16 (k0_pay9 gl) (k0_pay10 (iota .tc S512x128 32 [1] iota_S512x128_d1_w32) 64#32)
        (k0_pay11 (k0_pay9 gl) (iota .tc S512x128 32 [1] iota_S512x128_d1_w32) 64#32 oc)
        (k0_pay12 (k0_pay9 gl) (iota .tc S512x128 32 [1] iota_S512x128_d1_w32) 64#32)
        (k0_pay13 (k0_pay9 gl) (iota .tc S512x128 32 [1] iota_S512x128_d1_w32) 64#32)
        (k0_pay14 (k0_pay9 gl) (iota .tc S512x128 32 [1] iota_S512x128_d1_w32) 64#32) (k0_pay15 (k0_pay9 gl)) os ow)
      (k0_pay17 (k0_pay4 x g w) (k0_pay7 (k0_pay5 x g w) (k0_pay6 x g w) cr u0 u1 u2) wc)
      (k0_pay18 (k0_pay4 x g w)) ym wm wn wo gp (ix2 r d) =
    tile x g w cw ym oc os ow gl wc wm wn wo gp c r d := by
  rw [pay1_apply]
  have e4 : ∀ r f, k0_pay4 (F := Ideal) x g w (ix2 r f) = proj x g w r f := fun r f => pay4_apply x g w r f
  have e5 : ∀ r f, k0_pay5 (F := Ideal) x g w (ix2 r f) = cin x g w f r := fun r f => by
    rw [pay5_apply, e4, e4]; rfl
  have e7 : ∀ f, k0_pay7 (F := Ideal) (k0_pay5 x g w) (k0_pay6 x g w) cr u0 u1 u2 (ix2 r f) =
      conv (proj x g w r) (fun k => cw (ix2 ⟨k.val, by omega⟩ f))
      (prev 2 (by omega) (fun j => c j f) (cin x g w f) r)
      (prev 1 (by omega) (fun j => c j f) (cin x g w f) r) (cin x g w f r) f := fun f => by
    rw [pay7_apply, pay6_apply, e4]
    simp only [e5, hc, hu0, hu1, hu2]
    rfl
  have e16 : ∀ f, k0_pay16 (F := Ideal) (k0_pay9 gl) (k0_pay10 (iota .tc S512x128 32 [1] iota_S512x128_d1_w32) 64#32)
        (k0_pay11 (k0_pay9 gl) (iota .tc S512x128 32 [1] iota_S512x128_d1_w32) 64#32 oc)
        (k0_pay12 (k0_pay9 gl) (iota .tc S512x128 32 [1] iota_S512x128_d1_w32) 64#32)
        (k0_pay13 (k0_pay9 gl) (iota .tc S512x128 32 [1] iota_S512x128_d1_w32) 64#32)
        (k0_pay14 (k0_pay9 gl) (iota .tc S512x128 32 [1] iota_S512x128_d1_w32) 64#32) (k0_pay15 (k0_pay9 gl)) os ow (ix2 r f) =
      branches (fun k => gl (ix2 r ⟨k.val, by omega⟩)) (fun f => oc (ix2 r f)) (fun f => os (ix2 r f)) (fun f => ow (ix2 r f)) f := fun f => by
    rw [pay16_apply, pay11_apply, pay9_apply, pay9_apply, pay9_apply]
    rfl
  rw [pay3_eq]
  unfold tile mergeRow
  refine congrArg (fun q => x (ix2 r d) + rms q (fun d => gp (ix2 0 d)) d) (funext fun d => ?_)
  refine Finset.sum_congr rfl fun e _ => congrArg (· * wo (ix2 e d)) ?_
  rw [pay17_apply, pay18_apply, e4, e4, e4]
  unfold mixed
  simp only [e7, e16]

/-- What a point at the start of a sequence stores. -/
theorem out0_A_14_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S8x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S8x512 .f32) (harg16 : arg16.IsWhole) (hc0 : cond0_0 i)
    (x0 : Vec Ideal S512x1024 .f32) (x1 : Vec Ideal S1x1024 .f32) (x2 : Vec Ideal S1024x4608 .bf16) (x3 : Vec Ideal S8x512 .f32) (x4 : Vec Ideal S512x512 .bf16) (x5 : Vec Ideal S512x512 .bf16) (x6 : Vec Ideal S512x512 .bf16) (x7 : Vec Ideal S512x512 .bf16) (x8 : Vec Ideal S512x128 .f32) (x9 : Vec Ideal S512x1024 .bf16) (x10 : Vec Ideal S512x1024 .bf16) (x11 : Vec Ideal S512x1024 .bf16) (x12 : Vec Ideal S1024x1024 .bf16) (x13 : Vec Ideal S1x1024 .f32) (r : Fin 512) (d : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 (ix2 r d) = tile x0 x1 x2 x3 x4 x5 x6 x7 x8 x9 x10 x11 x12 x13 (fun _ _ => 0) r d := by
  unfold out0_A_14
  frame_open
  simp (disch := decide) only [↓ View.readCov_skip, ↓ View.readCov_cons_toLoadRect, ↓ View.readCov_fill]
  frame_out
  refine stored_apply x0 x1 x2 x3 x4 x5 x6 x7 x8 x9 x10 x11 x12 x13 _ _ _ _ _ ?_ ?_ ?_ ?_ r d
  · intro j f; pointwise [k0_pay2]
  · intro f; pointwise
  · intro f; pointwise
  · intro f; pointwise

/-- What a point within a sequence stores. -/
theorem out0_B_14_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S8x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S8x512 .f32) (harg16 : arg16.IsWhole) (hc0 : ¬cond0_0 i)
    (x0 : Vec Ideal S512x1024 .f32) (x1 : Vec Ideal S1x1024 .f32) (x2 : Vec Ideal S1024x4608 .bf16) (x3 : Vec Ideal S8x512 .f32) (x4 : Vec Ideal S512x512 .bf16) (x5 : Vec Ideal S512x512 .bf16) (x6 : Vec Ideal S512x512 .bf16) (x7 : Vec Ideal S512x512 .bf16) (x8 : Vec Ideal S512x128 .f32) (x9 : Vec Ideal S512x1024 .bf16) (x10 : Vec Ideal S512x1024 .bf16) (x11 : Vec Ideal S512x1024 .bf16) (x12 : Vec Ideal S1024x1024 .bf16) (x13 : Vec Ideal S1x1024 .f32) (xs0 : Vec Ideal S8x512 .f32) (r : Fin 512) (d : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0 (ix2 r d) = tile x0 x1 x2 x3 x4 x5 x6 x7 x8 x9 x10 x11 x12 x13 (fun j f => xs0 (ix2 j f)) r d := by
  unfold out0_B_14
  frame_open
  simp (disch := decide) only [↓ View.readCov_skip, ↓ View.readCov_cons_toLoadRect, ↓ View.readCov_fill]
  frame_out
  refine stored_apply x0 x1 x2 x3 x4 x5 x6 x7 x8 x9 x10 x11 x12 x13 _ _ _ _ _ ?_ ?_ ?_ ?_ r d
  · intro j f; pointwise [k0_pay2]
  · intro f; pointwise
  · intro f; pointwise
  · intro f; pointwise

/-- The rows such a point leaves in its scratch. -/
theorem sout0_A_0_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S8x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S8x512 .f32) (harg16 : arg16.IsWhole) (hc0 : cond0_0 i)
    (x0 : Vec Ideal S512x1024 .f32) (x1 : Vec Ideal S1x1024 .f32) (x2 : Vec Ideal S1024x4608 .bf16) (x3 : Vec Ideal S8x512 .f32) (x4 : Vec Ideal S512x512 .bf16) (x5 : Vec Ideal S512x512 .bf16) (x6 : Vec Ideal S512x512 .bf16) (x7 : Vec Ideal S512x512 .bf16) (x8 : Vec Ideal S512x128 .f32) (x9 : Vec Ideal S512x1024 .bf16) (x10 : Vec Ideal S512x1024 .bf16) (x11 : Vec Ideal S512x1024 .bf16) (x12 : Vec Ideal S1024x1024 .bf16) (x13 : Vec Ideal S1x1024 .f32) (j : Fin 8) (f : Fin 512) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 (ix2 j f) = lastRows (cin x0 x1 x2 f) j := by
  unfold sout0_A_0
  frame_open
  simp (disch := decide) only [↓ View.readCov_skip, ↓ View.readCov_cons_toLoadRect, ↓ View.readCov_fill]
  frame_out
  refine (pay8_apply _ j f).trans ?_
  simp only [pay5_apply, pay4_apply]
  rfl

/-- The rows such a point leaves in its scratch. -/
theorem sout0_B_0_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S8x512 .f32) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S8x512 .f32) (harg16 : arg16.IsWhole) (hc0 : ¬cond0_0 i)
    (x0 : Vec Ideal S512x1024 .f32) (x1 : Vec Ideal S1x1024 .f32) (x2 : Vec Ideal S1024x4608 .bf16) (x3 : Vec Ideal S8x512 .f32) (x4 : Vec Ideal S512x512 .bf16) (x5 : Vec Ideal S512x512 .bf16) (x6 : Vec Ideal S512x512 .bf16) (x7 : Vec Ideal S512x512 .bf16) (x8 : Vec Ideal S512x128 .f32) (x9 : Vec Ideal S512x1024 .bf16) (x10 : Vec Ideal S512x1024 .bf16) (x11 : Vec Ideal S512x1024 .bf16) (x12 : Vec Ideal S1024x1024 .bf16) (x13 : Vec Ideal S1x1024 .f32) (xs0 : Vec Ideal S8x512 .f32) (j : Fin 8) (f : Fin 512) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0 (ix2 j f) = lastRows (cin x0 x1 x2 f) j := by
  unfold sout0_B_0
  frame_open
  simp (disch := decide) only [↓ View.readCov_skip, ↓ View.readCov_cons_toLoadRect, ↓ View.readCov_fill]
  frame_out
  refine (pay8_apply _ j f).trans ?_
  simp only [pay5_apply, pay4_apply]
  rfl

end Cert.Merge
-- ==== Proof.MergeArray.lean ====
module
public import proofs.«01_k».proof.Proof.Gen.Kernel2Ideal.Value
public import proofs.«01_k».proof.Proof.MergeTile

/-! The merge kernel's result array as mathematics: every point's blocks read from the arguments,
    the rows carried between points, and the array the points' tiles make up. -/

@[expose] public section
set_option maxRecDepth 16384
noncomputable section
namespace Cert.Merge
open Cert.Kernel2Ideal Cert.Kernel2Ideal.Gen Idealize.ShloMosaic Idealize.ShloMosaic.TcCoe Idealize.SL.Sem
open Idealize.ShloMosaic.Pipeline (Dat)
open Cert.Layer

variable (m : (ℓ : Loc nD τ sig) → Buf (Elt Ideal) ℓ) (c : Dev nD)

/-- The windows' blocks, decided over the grid: the rows' and the result's move, the weights' stay. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem blk_x (t : Fin cfg0.N) (r : Fin 512) (d : Fin 1024) :
    iblk m c 0 t (ix2 r d) = m ((c : Thread nD τ).loc main_arg0) (ix3 ⟨(512 * t.val + r.val) / 8192, by have := t.isLt; have : cfg0.N = 64 := N_0; omega⟩ ⟨(512 * t.val + r.val) % 8192, by omega⟩ d) := by
  blk_point [iblk, V, idx t]

theorem blk_gl (t : Fin cfg0.N) (r : Fin 512) (k : Fin 24) :
    iblk m c 8 t (ix2 r ⟨k.val, by omega⟩) = m ((c : Thread nD τ).loc main_arg9) (ix3 ⟨(512 * t.val + r.val) / 8192, by have := t.isLt; have : cfg0.N = 64 := N_0; omega⟩ ⟨(512 * t.val + r.val) % 8192, by omega⟩ k) := by
  have e : iblk m c 8 t (ix2 r ⟨k.val, by omega⟩) = V m c main_v3 (ix2 ⟨512 * t.val + r.val, by have := t.isLt; have : cfg0.N = 64 := N_0; omega⟩ ⟨k.val, by omega⟩) := by
    blk_ext [iblk, idx t]
  rw [e]
  entry_read
  pointwise

theorem blk_cw (t : Fin cfg0.N) (k : Fin 3) (f : Fin 512) :
    iblk m c 3 t (ix2 ⟨k.val, by omega⟩ f) = m ((c : Thread nD τ).loc main_arg4) (ix2 k f) := by
  have e : iblk m c 3 t (ix2 ⟨k.val, by omega⟩ f) = V m c main_v8 (ix2 ⟨k.val, by omega⟩ f) := by
    blk_ext [iblk, idx t]
  rw [e]
  entry_read
  pointwise

theorem blk_ym (t : Fin cfg0.N) (r : Fin 512) (f : Fin 512) :
    iblk m c 4 t (ix2 r f) = m ((c : Thread nD τ).loc main_arg5) (ix2 ⟨512 * t.val + r.val, by have := t.isLt; have : cfg0.N = 64 := N_0; omega⟩ f) := by
  blk_point [iblk, V, idx t]

theorem blk_oc (t : Fin cfg0.N) (r : Fin 512) (f : Fin 512) :
    iblk m c 5 t (ix2 r f) = m ((c : Thread nD τ).loc main_arg6) (ix2 ⟨512 * t.val + r.val, by have := t.isLt; have : cfg0.N = 64 := N_0; omega⟩ f) := by
  blk_point [iblk, V, idx t]

theorem blk_os (t : Fin cfg0.N) (r : Fin 512) (f : Fin 512) :
    iblk m c 6 t (ix2 r f) = m ((c : Thread nD τ).loc main_arg7) (ix2 ⟨512 * t.val + r.val, by have := t.isLt; have : cfg0.N = 64 := N_0; omega⟩ f) := by
  blk_point [iblk, V, idx t]

theorem blk_ow (t : Fin cfg0.N) (r : Fin 512) (f : Fin 512) :
    iblk m c 7 t (ix2 r f) = m ((c : Thread nD τ).loc main_arg8) (ix2 ⟨512 * t.val + r.val, by have := t.isLt; have : cfg0.N = 64 := N_0; omega⟩ f) := by
  blk_point [iblk, V, idx t]

theorem blk_g (t : Fin cfg0.N) (d : Fin 1024) : iblk m c 1 t (ix2 0 d) = m ((c : Thread nD τ).loc main_arg1) (ix1 d) := by
  blk_point [iblk, V, idx t]

theorem blk_gp (t : Fin cfg0.N) (d : Fin 1024) : iblk m c 13 t (ix2 0 d) = m ((c : Thread nD τ).loc main_arg2) (ix1 d) := by
  blk_point [iblk, V, idx t]

theorem blk_wc (t : Fin cfg0.N) (k : Fin 512) (d : Fin 1024) : iblk m c 9 t (ix2 k d) = m ((c : Thread nD τ).loc main_arg10) (ix2 k d) := by
  blk_point [iblk, V, idx t]

theorem blk_wm (t : Fin cfg0.N) (k : Fin 512) (d : Fin 1024) : iblk m c 10 t (ix2 k d) = m ((c : Thread nD τ).loc main_arg11) (ix2 k d) := by
  blk_point [iblk, V, idx t]

theorem blk_wn (t : Fin cfg0.N) (k : Fin 512) (d : Fin 1024) : iblk m c 11 t (ix2 k d) = m ((c : Thread nD τ).loc main_arg12) (ix2 k d) := by
  blk_point [iblk, V, idx t]

theorem blk_wo (t : Fin cfg0.N) (k : Fin 1024) (d : Fin 1024) : iblk m c 12 t (ix2 k d) = m ((c : Thread nD τ).loc main_arg13) (ix2 k d) := by
  blk_point [iblk, V, idx t]

theorem blk_w (t : Fin cfg0.N) (k : Fin 1024) (f : Fin 4608) :
    iblk m c 2 t (ix2 k f) = m ((c : Thread nD τ).loc main_arg3) (ix2 k ⟨f.val, by omega⟩) := by
  blk_point [iblk, V, idx t]

/-- The kernel's input rows, by token. -/
def inX (t : Fin 32768) (d : Fin 1024) : EReal :=
  m ((c : Thread nD τ).loc main_arg0) (ix3 ⟨t.val / 8192, by omega⟩ ⟨t.val % 8192, by omega⟩ d)

/-- The gates' logits, by token. -/
def inGl (t : Fin 32768) (k : Fin 24) : EReal :=
  m ((c : Thread nD τ).loc main_arg9) (ix3 ⟨t.val / 8192, by omega⟩ ⟨t.val % 8192, by omega⟩ k)

/-- The mathematics at the kernel's arguments. -/
def want (t : Fin 32768) (d : Fin 1024) : EReal :=
  merge (inX m c) (fun d => m ((c : Thread nD τ).loc main_arg1) (ix1 d)) (fun d => m ((c : Thread nD τ).loc main_arg2) (ix1 d))
    (fun k f => m ((c : Thread nD τ).loc main_arg3) (ix2 k ⟨f.val, by omega⟩)) (fun k f => m ((c : Thread nD τ).loc main_arg4) (ix2 k f))
    (fun t f => m ((c : Thread nD τ).loc main_arg5) (ix2 t f)) (fun t f => m ((c : Thread nD τ).loc main_arg6) (ix2 t f)) (fun t f => m ((c : Thread nD τ).loc main_arg7) (ix2 t f)) (fun t f => m ((c : Thread nD τ).loc main_arg8) (ix2 t f))
    (inGl m c) (fun f d => m ((c : Thread nD τ).loc main_arg10) (ix2 f d)) (fun f d => m ((c : Thread nD τ).loc main_arg11) (ix2 f d)) (fun f d => m ((c : Thread nD τ).loc main_arg12) (ix2 f d))
    (fun e d => m ((c : Thread nD τ).loc main_arg13) (ix2 e d)) t d

/-- The input projection's column at the kernel's arguments. -/
def projArr (f : Fin 4608) : Fin 32768 → EReal :=
  inProj (inX m c) (fun d => m ((c : Thread nD τ).loc main_arg1) (ix1 d)) (fun k f => m ((c : Thread nD τ).loc main_arg3) (ix2 k ⟨f.val, by omega⟩)) f

/-- The convolution's input at the kernel's arguments. -/
def cinArr (f : Fin 512) (t : Fin 32768) : EReal := convIn (fun f => projArr m c f t) f

/-- Point `t` as a tile's number. -/
abbrev tileNo (t : Fin cfg0.N) : Fin 64 := ⟨t.val, lt_of_lt_of_eq t.isLt N_0⟩

/-- A tile's input projection is the tokens'. -/
theorem proj_eq (t : Fin cfg0.N) (r : Fin 512) :
    proj (iblk m c 0 t) (iblk m c 1 t) (iblk m c 2 t) r = fun f => projArr m c f (tok (tileNo t) r) := by
  funext f
  unfold proj projArr inProj inX
  refine Finset.sum_congr rfl fun k _ => ?_
  rw [blk_w]
  congr 1
  simp only [blk_x, blk_g]
  rfl

theorem cin_eq (t : Fin cfg0.N) (f : Fin 512) :
    cin (iblk m c 0 t) (iblk m c 1 t) (iblk m c 2 t) f = fun r => cinArr m c f (tok (tileNo t) r) := by
  funext r
  unfold cin cinArr
  rw [proj_eq]

/-- The tile a point stores is its tokens' rows of the result, when the carried rows are those before it. -/
theorem tile_eq (t : Fin cfg0.N) (cr : Fin 8 → Fin 512 → EReal)
    (hc : ∀ (k : ℕ) (hk : k ≤ 8) (f : Fin 512) (r : Fin 512),
      prev k hk (fun j => cr j f) (fun r => cinArr m c f (tok (tileNo t) r)) r =
        back k (cinArr m c f) (tok (tileNo t) r)) (r : Fin 512) (d : Fin 1024) :
    tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) cr r d = want m c (tok (tileNo t) r) d := by
  unfold tile want merge
  simp only [proj_eq, cin_eq, hc, blk_x, blk_gl, blk_cw, blk_ym, blk_oc, blk_os, blk_ow, blk_wc, blk_wm, blk_wn, blk_wo, blk_gp]
  rfl

/-- The rows a point leaves in the scratch: the last of its tile's convolution input. -/
theorem carry_eq (t : Fin cfg0.N) (j : Fin 8) (f : Fin 512) :
    (outsAt0 m c t.val t.isLt).2 (ix2 j f) = lastRows (fun r => cinArr m c f (tok (tileNo t) r)) j := by
  by_cases h : t.val % 16 = 0
  · rw [outsAt0_A m c t h]
    dsimp only
    rw [sout0_A_0_apply]
    rw [cin_eq]
  · rw [outsAt0_B m c t h]
    dsimp only
    rw [sout0_B_0_apply]
    rw [cin_eq]

/-- What a point stores: its tokens' rows of the result. -/
theorem out_eq (t : Fin cfg0.N) (r : Fin 512) (d : Fin 1024) :
    (outsAt0 m c t.val t.isLt).1 (ix2 r d) = want m c (tok (tileNo t) r) d := by
  by_cases h : t.val % 16 = 0
  · rw [outsAt0_A m c t h]
    dsimp only
    rw [out0_A_14_apply]
    exact tile_eq m c t _ (fun k hk f r => prev_first k hk _ _ h r) r d
  · rw [outsAt0_B m c t h]
    dsimp only
    rw [out0_B_14_apply]
    refine tile_eq m c t _ (fun k hk f r => ?_) r d
    have hp : t.val - 1 < cfg0.N := by have := t.isLt; omega
    have e := carry_eq m c ⟨t.val - 1, hp⟩
    simp only at e
    simp only [e]
    exact prev_next k hk _ _ _ (by show t.val = t.val - 1 + 1; omega) h r

/-- The kernel's result array. -/
theorem G14_eq (t : Fin 32768) (d : Fin 1024) : Value.G14 m c (ix2 t d) = want m c t d := by
  have hN : cfg0.N = 64 := N_0
  have hp : Value.pt14Of (ix2 t d) = t.val / 512 := by
    show 1 * (t.val / 512 - 0) + 1 * (d.val / 1024 - 0) = _
    omega
  have hlt : Value.pt14Of (ix2 t d) < cfg0.N := by rw [hp]; omega
  unfold Value.G14
  rw [dif_pos hlt, Value.fold0_congr m c _ _ (t.val / 512) (by omega) hp, ← Value.outsAt0_sweep]
  have hl : Value.loc14Of (ix2 t d) = ix2 ⟨t.val % 512, by omega⟩ d := by
    funext a; apply Fin.ext; fin_cases a
    · rfl
    · show d.val % 1024 = d.val; omega
  rw [hl]
  refine (out_eq m c ⟨t.val / 512, by omega⟩ ⟨t.val % 512, by omega⟩ d).trans ?_
  congr 1
  exact Fin.ext (by show 512 * (t.val / 512) + t.val % 512 = t.val; omega)

end Cert.Merge
-- ==== Proof.MergeRef.lean ====
module
public import proofs.«01_k».proof.Proof.Gen.Reference2Ideal.Read
public import proofs.«01_k».proof.Proof.MergeSpec

/-! The reference's gated merge, stage by stage, as the mathematics of `MergeSpec`. -/

@[expose] public section
set_option maxRecDepth 16384
noncomputable section
namespace Cert.Merge.Ref
open Idealize.ShloMosaic Cert.Reference2Ideal Cert.Reference2Ideal.Gen Cert.Reference2Ideal.Read Cert.Layer

variable (x : Vec Ideal S4x8192x1024 .f32) (g gp : Vec Ideal S1024 .f32) (w : Vec Ideal S1024x6584 .f32)
  (cw : Vec Ideal S3x512 .f32) (ym oc os ow : Vec Ideal S32768x512 .bf16) (gl : Vec Ideal S4x8192x24 .f32)
  (wc wm wn : Vec Ideal S512x1024 .f32) (wo : Vec Ideal S1024x1024 .f32)

/-- The normed rows. -/
theorem norm_apply (i : Fin 4) (s : Fin 8192) (d : Fin 1024) :
    val_main_v12 (F := Ideal) x g (ix3 i s d) = rms (fun k => x (ix3 i s k)) (fun k => g (ix1 k)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The input projection at the first bands of columns. -/
def projRef (f : Fin 4608) (t : Fin 32768) : EReal :=
  inProj (fun t k => x (ix3 ⟨t.val / 8192, by omega⟩ ⟨t.val % 8192, by omega⟩ k)) (fun k => g (ix1 k))
    (fun k f => w (ix2 k ⟨f.val, by omega⟩)) f t

theorem proj_apply (t : Fin 32768) (f : ℕ) (h : f < 4608) (h1) (h2) (h3) :
    val_main_v13 (F := Ideal) x g w (ix3 ⟨t.val / 8192, h1⟩ ⟨t.val % 8192, h2⟩ ⟨f, h3⟩) = projRef x g w ⟨f, h⟩ t := by
  pointwise [val_main_v13]
  simp only [norm_apply]
  rfl

/-- The two zero rows in front of each sequence. -/
theorem pad_apply (i : Fin 4) (p : Fin 8194) (f : Fin 512) :
    val_main_v21 (F := Ideal) x g w (ix3 i p f) =
      if h : p.val < 2 then 0 else val_main_v20 (F := Ideal) x g w (ix3 i ⟨p.val - 2, by omega⟩ f) := by
  pointwise [val_main_v21]
  by_cases h : p.val < 2
  · rw [dif_pos h, dif_neg (by omega)]
    pointwise [val_main_call0_v0, val_main_c]
    simp [FloatOps.sitofp]
  · rw [dif_neg h, dif_pos (by omega)]

/-- The convolution's input, by token. -/
def cinRef (f : Fin 512) (t : Fin 32768) : EReal := convIn (fun f => projRef x g w f t) f

theorem cin_apply (t : Fin 32768) (f : Fin 512) (h1) (h2) :
    val_main_v20 (F := Ideal) x g w (ix3 ⟨t.val / 8192, h1⟩ ⟨t.val % 8192, h2⟩ f) = cinRef x g w f t := by
  pointwise [val_main_v20, val_main_v19, val_main_v18]
  exact congrArg₂ (· * ·) (proj_apply x g w t (3584 + f.val) (by omega) h1 h2 _) (proj_apply x g w t (4096 + f.val) (by omega) h1 h2 _)

/-- A row `k` above in the padded array is a row `k` back in the sequence. -/
theorem pad_back (k : ℕ) (hk : k ≤ 2) (t : Fin 32768) (f : Fin 512) (h1) (h2) :
    val_main_v21 (F := Ideal) x g w (ix3 ⟨t.val / 8192, h1⟩ ⟨2 - k + t.val % 8192, h2⟩ f) = back k (cinRef x g w f) t := by
  rw [pad_apply]
  unfold back
  by_cases h : t.val % 8192 < k
  · rw [if_pos h, dif_pos (by show 2 - k + t.val % 8192 < 2; omega)]
  · rw [if_neg h, dif_neg (by show ¬ 2 - k + t.val % 8192 < 2; omega)]
    rw [← cin_apply x g w ⟨t.val - k, by omega⟩ f (by show (t.val - k) / 8192 < 4; omega) (by omega)]
    have e1 : t.val / 8192 = (t.val - k) / 8192 := by omega
    have e2 : 2 - k + t.val % 8192 - 2 = (t.val - k) % 8192 := by omega
    simp only [e1, e2]

/-- The gated convolution. -/
theorem conv_apply (t : Fin 32768) (f : Fin 512) (h1) (h2) :
    val_main_v42 (F := Ideal) x g w cw (ix3 ⟨t.val / 8192, h1⟩ ⟨t.val % 8192, h2⟩ f) =
      conv (fun f => projRef x g w f t) (fun k => cw (ix2 k f)) (back 2 (cinRef x g w f) t)
        (back 1 (cinRef x g w f) t) (cinRef x g w f t) f := by
  have e0 : cinRef x g w f t = back 0 (cinRef x g w f) t := rfl
  rw [e0, ← pad_back x g w 0 (by omega) t f h1 (by omega), ← pad_back x g w 1 (by omega) t f h1 (by omega),
    ← pad_back x g w 2 (by omega) t f h1 (by omega)]
  unfold conv
  dsimp only
  rw [← proj_apply x g w t (3072 + f.val) (by omega) h1 h2 (by omega)]
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v17]
  unfold taps
  simp only [mul_comm (cw _)]

/-- A gate, as the reference spells it. -/
theorem gate_apply (i : Fin 4) (s : Fin 8192) (h : Fin 8) (k : Fin 3) :
    val_main_v49 (F := Ideal) gl (ix4 i s h k) = sig (gl (ix3 i s ⟨3 * h.val + k.val, by omega⟩)) := by
  pointwise [val_main_v49, val_main_v48, val_main_v47, val_main_v46, val_main_v45, val_main_v44, val_main_v43, val_main_cst_2, val_main_cst_3]
  refine congrArg (fun q => Layer.sig (gl (ix3 i s q))) (Fin.ext ?_)
  show h.val * 3 + k.val = 3 * h.val + k.val
  omega

/-- The weighed branches. -/
theorem branches_apply (t : Fin 32768) (f : Fin 512) (h1) (h2) :
    val_main_v67 (F := Ideal) oc os ow gl (ix3 ⟨t.val / 8192, h1⟩ ⟨t.val % 8192, h2⟩ f) =
      branches (fun k => gl (ix3 ⟨t.val / 8192, h1⟩ ⟨t.val % 8192, h2⟩ k)) (fun f => oc (ix2 t f)) (fun f => os (ix2 t f))
        (fun f => ow (ix2 t f)) f := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50]
  simp only [gate_apply]
  rfl

/-- The three mixers, each weighed by its band. -/
theorem mixed_apply (t : Fin 32768) (e : Fin 1024) (h1) (h2) :
    val_main_v95 (F := Ideal) x g w cw ym oc os ow gl wc wm wn (ix3 ⟨t.val / 8192, h1⟩ ⟨t.val % 8192, h2⟩ e) =
      mixed (fun f => projRef x g w f t)
        (fun f => conv (fun f => projRef x g w f t) (fun k => cw (ix2 k f)) (back 2 (cinRef x g w f) t)
          (back 1 (cinRef x g w f) t) (cinRef x g w f t) f) (fun f => ym (ix2 t f))
        (branches (fun k => gl (ix3 ⟨t.val / 8192, h1⟩ ⟨t.val % 8192, h2⟩ k)) (fun f => oc (ix2 t f)) (fun f => os (ix2 t f))
          (fun f => ow (ix2 t f))) (fun f e => wc (ix2 f e)) (fun f e => wm (ix2 f e)) (fun f e => wn (ix2 f e)) e := by
  unfold mixed
  dsimp only
  rw [← proj_apply x g w t e.val (by omega) h1 h2 (by omega), ← proj_apply x g w t (1024 + e.val) (by omega) h1 h2 (by omega),
    ← proj_apply x g w t (2048 + e.val) (by omega) h1 h2 (by omega)]
  simp only [← conv_apply x g w cw t _ h1 h2, ← branches_apply oc os ow gl t _ h1 h2]
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v14, val_main_v15, val_main_v16, val_main_cst_4, val_main_cst_5, val_main_cst_6, val_main_cst_7, val_main_cst_8, val_main_cst_9]
  rfl

/-- The result. -/
theorem out_apply (t : Fin 32768) (d : Fin 1024) :
    val_main_v111 (F := Ideal) x g gp w cw ym oc os ow gl wc wm wn wo (ix2 t d) =
      merge (fun t k => x (ix3 ⟨t.val / 8192, by omega⟩ ⟨t.val % 8192, by omega⟩ k)) (fun k => g (ix1 k)) (fun k => gp (ix1 k))
        (fun k f => w (ix2 k ⟨f.val, by omega⟩)) (fun k f => cw (ix2 k f)) (fun t f => ym (ix2 t f)) (fun t f => oc (ix2 t f))
        (fun t f => os (ix2 t f)) (fun t f => ow (ix2 t f)) (fun t k => gl (ix3 ⟨t.val / 8192, by omega⟩ ⟨t.val % 8192, by omega⟩ k))
        (fun f e => wc (ix2 f e)) (fun f e => wm (ix2 f e)) (fun f e => wn (ix2 f e)) (fun e d => wo (ix2 e d)) t d := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_cst_10, val_main_cst_11, val_main_cst_12]
  simp only [mixed_apply]
  rfl

end Cert.Merge.Ref
-- ==== Proof.MergeTie.lean ====
module
public import proofs.«01_k».proof.Proof.MergeArray
public import proofs.«01_k».proof.Proof.MergeRef

/-! The merge kernel's result array is the reference's, on memories that agree on the arguments. -/

@[expose] public section
set_option maxRecDepth 16384
noncomputable section
namespace Cert.Merge
open Idealize.ShloMosaic Idealize.ShloMosaic.TcCoe Idealize.SL.Sem Cert.Layer

theorem tie (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev 1)
    (h0 : m' ((c : Thread Reference2Ideal.nD Reference2Ideal.τ).loc Reference2Ideal.main_arg0) = m ((c : Thread Kernel2Ideal.nD Kernel2Ideal.τ).loc Kernel2Ideal.main_arg0))
    (h1 : m' ((c : Thread Reference2Ideal.nD Reference2Ideal.τ).loc Reference2Ideal.main_arg1) = m ((c : Thread Kernel2Ideal.nD Kernel2Ideal.τ).loc Kernel2Ideal.main_arg1))
    (h2 : m' ((c : Thread Reference2Ideal.nD Reference2Ideal.τ).loc Reference2Ideal.main_arg2) = m ((c : Thread Kernel2Ideal.nD Kernel2Ideal.τ).loc Kernel2Ideal.main_arg2))
    (h3 : m' ((c : Thread Reference2Ideal.nD Reference2Ideal.τ).loc Reference2Ideal.main_arg3) = m ((c : Thread Kernel2Ideal.nD Kernel2Ideal.τ).loc Kernel2Ideal.main_arg3))
    (h4 : m' ((c : Thread Reference2Ideal.nD Reference2Ideal.τ).loc Reference2Ideal.main_arg4) = m ((c : Thread Kernel2Ideal.nD Kernel2Ideal.τ).loc Kernel2Ideal.main_arg4))
    (h5 : m' ((c : Thread Reference2Ideal.nD Reference2Ideal.τ).loc Reference2Ideal.main_arg5) = m ((c : Thread Kernel2Ideal.nD Kernel2Ideal.τ).loc Kernel2Ideal.main_arg5))
    (h6 : m' ((c : Thread Reference2Ideal.nD Reference2Ideal.τ).loc Reference2Ideal.main_arg6) = m ((c : Thread Kernel2Ideal.nD Kernel2Ideal.τ).loc Kernel2Ideal.main_arg6))
    (h7 : m' ((c : Thread Reference2Ideal.nD Reference2Ideal.τ).loc Reference2Ideal.main_arg7) = m ((c : Thread Kernel2Ideal.nD Kernel2Ideal.τ).loc Kernel2Ideal.main_arg7))
    (h8 : m' ((c : Thread Reference2Ideal.nD Reference2Ideal.τ).loc Reference2Ideal.main_arg8) = m ((c : Thread Kernel2Ideal.nD Kernel2Ideal.τ).loc Kernel2Ideal.main_arg8))
    (h9 : m' ((c : Thread Reference2Ideal.nD Reference2Ideal.τ).loc Reference2Ideal.main_arg9) = m ((c : Thread Kernel2Ideal.nD Kernel2Ideal.τ).loc Kernel2Ideal.main_arg9))
    (h10 : m' ((c : Thread Reference2Ideal.nD Reference2Ideal.τ).loc Reference2Ideal.main_arg10) = m ((c : Thread Kernel2Ideal.nD Kernel2Ideal.τ).loc Kernel2Ideal.main_arg10))
    (h11 : m' ((c : Thread Reference2Ideal.nD Reference2Ideal.τ).loc Reference2Ideal.main_arg11) = m ((c : Thread Kernel2Ideal.nD Kernel2Ideal.τ).loc Kernel2Ideal.main_arg11))
    (h12 : m' ((c : Thread Reference2Ideal.nD Reference2Ideal.τ).loc Reference2Ideal.main_arg12) = m ((c : Thread Kernel2Ideal.nD Kernel2Ideal.τ).loc Kernel2Ideal.main_arg12))
    (h13 : m' ((c : Thread Reference2Ideal.nD Reference2Ideal.τ).loc Reference2Ideal.main_arg13) = m ((c : Thread Kernel2Ideal.nD Kernel2Ideal.τ).loc Kernel2Ideal.main_arg13)) :
    Reference2Ideal.Value.res_main_v111 m' c = Kernel2Ideal.Value.G14 m c := by
  refine (Reference2Ideal.Read.val_main_v111_eq m' c).trans ?_
  funext i
  obtain ⟨t, d, rfl⟩ : ∃ t d, i = ix2 t d := ⟨i 0, i 1, by funext a; fin_cases a <;> rfl⟩
  rw [G14_eq, Ref.out_apply]
  unfold want inX inGl
  rw [h0, h1, h2, h3, h4, h5, h6, h7, h8, h9, h10, h11, h12, h13]

end Cert.Merge
-- ==== Proof.MlaIdealBlocks.lean ====
module

public import proofs.«01_k».proof.Proof.Gen.Kernel3Ideal.Launch
public import proofs.«01_k».proof.Proof.Gen.Kernel3Ideal.Skeleton
public import proofs.«01_k».proof.Proof.Gen.Kernel3Ideal.Loops
public import Idealize.ShloMosaic.Lib.Pipeline.FrameBody
public import Idealize.ShloMosaic.Lib.Exec
public import Idealize.ShloMosaic.Lib.Tactic
public import Idealize.ShloMosaic.Lib.WordCmp

/-! The attention body as blocks, each ending in what follows it: the diagonal block, the block below
    the diagonal with its redo loop, the closing division. One grid point reads its pair of table
    words and runs the blocks the pair selects. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

abbrev Bf (c : Dev nD) {sp : Space} {s : Shape} {e : EltTy} (M : Memref sig .tc sp s e) : Type := Buf (Elt F) (M.view.loc (c : Thread nD τ))

/-- A whole buffer held at contents `f`. -/
abbrev pt (c : Dev nD) {sp : Space} {s : Shape} {e : EltTy} (M : Memref sig .tc sp s e) (q : PosShare TreeShare) (f : Bf (F := F) c M) : sProp 𝕄 :=
  M.view.loc (c : Thread nD τ) ↦[M.view.set]{q} f

/-- A program of the attention body. -/
abbrev Blk : Type 1 := Prog (TpuEff nD τ sig (Elt F) Λ₀ .tc) PUnit

section
variable (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole)

set_option maxHeartbeats 4000000 in
/-- The diagonal block: key block and query block are the same. -/
def diag (jp : PUnit.{1} → Blk (F := F)) : Blk (F := F) := do
  let ⟨v22, v29, v1622, v1652, v1682, v1712, v1725⟩ : Σ' (v22 : IVec S256x256 1) (v29 : IVec S512x256 1) (v1622 : FVec F S256x256 .f32) (v1652 : FVec F S512x256 .f32) (v1682 : FVec F S256x256 .f32) (v1712 : FVec F S512x256 .f32), FVec F S80x256 .f32 ← k0_part68 i arg1 harg1 arg2 harg2 arg3 harg3 arg4 harg4 arg5 harg5 arg6 harg6 arg7 harg7 arg8 harg8 arg9 harg9
  let ⟨v1742, v1756⟩ : Σ' (v1742 : FVec F S256x256 .f32), FVec F S80x256 .f32 ← k0_part61 i arg1 harg1 arg2 harg2 arg3 harg3 arg4 harg4 arg5 harg5 arg6 harg6 arg7 harg7 arg8 harg8 arg9 harg9 v22 v1622 v1725
  let ⟨v1772, v1785, v1790⟩ : Σ' (v1772 : FVec F S512x256 .f32) (v1785 : FVec F S80x256 .f32), FVec F S1x1x256 .f32 ← k0_part62 i arg1 harg1 arg2 harg2 arg3 harg3 arg4 harg4 arg5 harg5 arg6 harg6 arg7 harg7 arg8 harg8 arg9 harg9 v29 v1652 v1756
  let ⟨v1802, v1810, v1816⟩ : Σ' (v1802 : FVec F S256x256 .f32) (v1810 : FVec F S1x256 .f32), FVec F S80x256 .f32 ← k0_part63 i arg1 harg1 arg2 harg2 arg3 harg3 arg4 harg4 arg5 harg5 arg6 harg6 arg7 harg7 arg8 harg8 arg9 harg9 v22 v1682 v1785 v1790
  let ⟨v1832, v1840, v1845⟩ : Σ' (v1832 : FVec F S512x256 .f32) (v1840 : FVec F S1x256 .f32), FVec F S80x256 .f32 ← k0_part64 i arg1 harg1 arg2 harg2 arg3 harg3 arg4 harg4 arg5 harg5 arg6 harg6 arg7 harg7 arg8 harg8 arg9 harg9 v29 v1712 v1810 v1816
  let v1869 : FVec F S80x256 .f32 ← k0_part65 i arg1 harg1 arg2 harg2 arg3 harg3 arg4 harg4 arg5 harg5 arg6 harg6 arg7 harg7 arg8 harg8 arg9 harg9 v22 v1742 v1840 v1845
  let ⟨v1904, v1905⟩ : Σ' (v1904 : FVec F S256x256 .f32), FVec F S256 .f32 ← k0_part66 i arg1 harg1 arg2 harg2 arg3 harg3 arg4 harg4 arg5 harg5 arg6 harg6 arg7 harg7 arg8 harg8 arg9 harg9 v22 v29 v1772 v1802 v1869
  let ⟨v1932, v1934, v1936⟩ : Σ' (v1932 : FVec F S80x512 .bf16) (v1934 : FVec F S1x256 .f32), FVec F S512x256 .f32 ← k0_part67 i arg1 harg1 arg2 harg2 arg3 harg3 arg4 harg4 arg5 harg5 arg6 harg6 arg7 harg7 arg8 harg8 arg9 harg9 v29 v1832 v1904 v1905
  let v1940 : Memref sig .tc .vmem S1x32x1x512 .f32 := arg7.slice (Rect.unit (s := S2x32x1x512) ![0, 0, 0, 0] S1x32x1x512.size inb_S2x32x1x512_S1x32x1x512_0_0_0_0) (fun _ => rfl)
  let v1941 : Memref sig .tc .vmem S32x1x512 .f32 := v1940.squeeze S32x1x512 squeezes_S1x32x1x512_S32x1x512
  let v1942 : Vec F S1x1x256 .f32 ← Prog.lift (.load v1941 (Rect.unit (s := S32x1x512) ![31, 0, 256] S1x1x256.size inb_S32x1x512_S1x1x256_31_0_256).toLoadRect (View.loadsAt_vmem h_S1x1x256))
  Prog.lift (.store v1941 (Rect.unit (s := S32x1x512) ![31, 0, 256] S1x1x256.size inb_S32x1x512_S1x1x256_31_0_256) (k0_pay1 v1934) Finset.univ (View.stores_vmem_bits_univ h_S1x1x256 rfl) (.inl rfl))
  let v1945 : Memref sig .tc .vmem S1x32x80x512 .f32 := arg8.slice (Rect.unit (s := S2x32x80x512) ![0, 0, 0, 0] S1x32x80x512.size inb_S2x32x80x512_S1x32x80x512_0_0_0_0) (fun _ => rfl)
  let v1946 : Memref sig .tc .vmem S32x80x512 .f32 := v1945.squeeze S32x80x512 squeezes_S1x32x80x512_S32x80x512
  let v1947 : Vec F S1x80x256 .f32 ← Prog.lift (.load v1946 (Rect.unit (s := S32x80x512) ![31, 0, 256] S1x80x256.size inb_S32x80x512_S1x80x256_31_0_256).toLoadRect (View.loadsAt_vmem h_S1x80x256))
  Prog.lift (.store v1946 (Rect.unit (s := S32x80x512) ![31, 0, 256] S1x80x256.size inb_S32x80x512_S1x80x256_31_0_256) (k0_pay2 v1932 v1936) Finset.univ (View.stores_vmem_bits_univ h_S1x80x256 rfl) (.inl rfl))
  let v1950 : Elt F .i32 ← smemLoad arg9 (Rect.unit (s := S1) ![0] S1.size inb_S1_S1_0) numel1_S1 rfl
  Prog.lift (.store arg9 (Rect.unit (s := S1) ![0] S1.size inb_S1_S1_0) (fun _ => 0#32) Finset.univ (View.stores_smem_one rfl numel1_S1) (.inl rfl))
  jp ⟨⟩

set_option maxHeartbeats 4000000 in
/-- A key block below the diagonal, joined to the running sums under the old maximum. What follows is
    given the slot read and whether the new maximum is too far above the old one. -/
def lazy (v1 v3 : BitVec 32) (k0_h2 : k0_cond2 v1 v3 = 1#1)
    (jp : (v16 : BitVec 32) → (v3864 : BitVec 1) → k0_chk2 v1 v3 v16 v3864 → Blk (F := F)) : Blk (F := F) := do
  let ⟨v16, k0_hw1, v1792, v1799, v1852, v1859, v1905, v1912, v1919, v1924, v1926, v1930, v1931, v1933⟩ : Σ' (v16 : Elt F .i32) (k0_hw1 : k0_chk1 v1 v3 v16) (v1792 : FVec F S256x256 .f32) (v1799 : FVec F S256x256 .f32) (v1852 : FVec F S256x256 .f32) (v1859 : FVec F S256x256 .f32) (v1905 : FVec F S1x256 .f32) (v1912 : FVec F S256x256 .f32) (v1919 : FVec F S256x256 .f32) (v1924 : FVec F S1x256 .f32) (v1926 : FVec F S80x512 .bf16) (v1930 : FVec F S1x256 .f32) (v1931 : FVec F S1x256 .f32), FVec F S1x256 .f32 ← k0_part192 i arg1 harg1 arg2 harg2 arg3 harg3 arg4 harg4 arg5 harg5 arg6 harg6 arg7 harg7 arg8 harg8 arg9 harg9 v1 v3 k0_h2
  let ⟨v3811, v3816, v3822, v3823, v3825, v3829, v3835, v3836, v3839⟩ : Σ' (v3811 : FVec F S1x256 .f32) (v3816 : FVec F S1x256 .f32) (v3822 : FVec F S1x256 .f32) (v3823 : FVec F S1x256 .f32) (v3825 : FVec F S1x256 .f32) (v3829 : FVec F S80x256 .f32) (v3835 : FVec F S80x256 .f32) (v3836 : FVec F S80x256 .bf16), FVec F S256x256 .f32 ← k0_part193 i arg1 harg1 arg2 harg2 arg3 harg3 arg4 harg4 arg5 harg5 arg6 harg6 arg7 harg7 arg8 harg8 arg9 harg9 v1 v3 k0_h2 v16 k0_hw1 v1792 v1799 v1852 v1859 v1905 v1912 v1919 v1924 v1926 v1930 v1931 v1933
  let v3847 : Memref sig .tc .vmem S1x32x1x512 .f32 := arg7.slice (Rect.unit (s := S2x32x1x512) (k0_off4 v16) S1x32x1x512.size (k0_off4_inb v1 v3 v16 k0_hw1 k0_h2)) (fun _ => rfl)
  let v3848 : Memref sig .tc .vmem S32x1x512 .f32 := v3847.squeeze S32x1x512 squeezes_S1x32x1x512_S32x1x512
  let v3849 : Vec F S1x1x256 .f32 ← Prog.lift (.load v3848 (Rect.unit (s := S32x1x512) ![31, 0, 256] S1x1x256.size inb_S32x1x512_S1x1x256_31_0_256).toLoadRect (View.loadsAt_vmem h_S1x1x256))
  Prog.lift (.store v3848 (Rect.unit (s := S32x1x512) ![31, 0, 256] S1x1x256.size inb_S32x1x512_S1x1x256_31_0_256) (k0_pay3 v3823) Finset.univ (View.stores_vmem_bits_univ h_S1x1x256 rfl) (.inl rfl))
  let v3852 : Memref sig .tc .vmem S1x32x80x512 .f32 := arg8.slice (Rect.unit (s := S2x32x80x512) (k0_off5 v16) S1x32x80x512.size (k0_off5_inb v1 v3 v16 k0_hw1 k0_h2)) (fun _ => rfl)
  let v3853 : Memref sig .tc .vmem S32x80x512 .f32 := v3852.squeeze S32x80x512 squeezes_S1x32x80x512_S32x80x512
  let v3854 : Vec F S1x80x256 .f32 ← Prog.lift (.load v3853 (Rect.unit (s := S32x80x512) ![31, 0, 256] S1x80x256.size inb_S32x80x512_S1x80x256_31_0_256).toLoadRect (View.loadsAt_vmem h_S1x80x256))
  Prog.lift (.store v3853 (Rect.unit (s := S32x80x512) ![31, 0, 256] S1x80x256.size inb_S32x80x512_S1x80x256_31_0_256) (k0_pay4 v3825 v3829 v3835 v3836 v3839) Finset.univ (View.stores_vmem_bits_univ h_S1x80x256 rfl) (.inl rfl))
  have cst_3174 : F .f32 := Scalar.ofBits .f32 0x42800000#32
  let v3864 : BitVec 1 := Scalar.cmpf .ogt (k0_pay5 v3811 v3816 v3822) cst_3174
  have k0_hw2 : k0_chk2 v1 v3 v16 v3864 := (← Prog.lift (TpuEff.assume (k0_chk2 v1 v3 v16 v3864) (k0_chk2.dec v1 v3 v16 v3864))).down
  jp v16 v3864 k0_hw2

/-- The other slot becomes the current one. -/
def flip (v16 : BitVec 32) (jp : PUnit.{1} → Blk (F := F)) : Blk (F := F) := do
  let v3867 : BitVec 32 := Scalar.subi 1#32 v16
  let v3868 : Elt F .i32 ← smemLoad arg9 (Rect.unit (s := S1) ![0] S1.size inb_S1_S1_0) numel1_S1 rfl
  Prog.lift (.store arg9 (Rect.unit (s := S1) ![0] S1.size inb_S1_S1_0) (fun _ => v3867) Finset.univ (View.stores_smem_one rfl numel1_S1) (.inl rfl))
  jp ⟨⟩

/-- The redo, when asked for: every head recomputed under the new maximum. -/
def redo (v1 v3 : BitVec 32) (k0_h2 : k0_cond2 v1 v3 = 1#1) (v16 : BitVec 32) (v3864 : BitVec 1) (k0_hw2 : k0_chk2 v1 v3 v16 v3864)
    (jp : PUnit.{1} → Blk (F := F)) : Blk (F := F) :=
  if k0_h3 : k0_cond3 v3864 = 1#1 then do
    Scf.Loop.for k0_t1_loop k0_t1_ok ⟨⟩ (k0_t1_body i arg1 harg1 arg2 harg2 arg3 harg3 arg4 harg4 arg5 harg5 arg6 harg6 arg7 harg7 arg8 harg8 arg9 harg9 v1 v3 k0_h2 v16 v3864 k0_hw2 k0_h3)
    jp ⟨⟩
  else jp ⟨⟩

set_option maxHeartbeats 4000000 in
/-- The closing division: each head's sums over its sum of weights, transposed into the output block. -/
def fin (v1 v3 : BitVec 32) (k0_h4 : k0_cond4 v1 v3 = 1#1) (jp : PUnit.{1} → Blk (F := F)) : Blk (F := F) := do
  let ⟨v16, k0_hw3, v43⟩ : Σ' (v16 : Elt F .i32) (k0_hw3 : k0_chk3 v1 v3 v16), FVec F S512x512 .f32 ← k0_part194 i arg1 harg1 arg2 harg2 arg3 harg3 arg4 harg4 arg5 harg5 arg6 harg6 arg7 harg7 arg8 harg8 arg9 harg9 v1 v3 k0_h4
  let ⟨v67, v70⟩ : Σ' (v67 : Vec F S8x64x512 .f32), Vec F S8x1x512 .f32 ← k0_part195 i arg1 harg1 arg2 harg2 arg3 harg3 arg4 harg4 arg5 harg5 arg6 harg6 arg7 harg7 arg8 harg8 arg9 harg9 v1 v3 k0_h4 v16 k0_hw3 v43
  let v78 : Vec F S1x512x512 .bf16 ← Prog.lift (.load arg6 (Rect.unit (s := S4x512x512) ![3, 0, 0] S1x512x512.size inb_S4x512x512_S1x512x512_3_0_0).toLoadRect (View.loadsAt_vmem h_S1x512x512))
  Prog.lift (.store arg6 (Rect.unit (s := S4x512x512) ![3, 0, 0] S1x512x512.size inb_S4x512x512_S1x512x512_3_0_0) (k0_pay7 v67 v70) Finset.univ (View.stores_vmem h_S1x512x512 (harg6.storeExact_slice rfl _ packedbf16_S4x512x512_S1x512x512_3_0_0) (fun _ => rfl)) (.inl rfl))
  jp ⟨⟩

/-- The blocks in order, each under its condition on the pair of table words. -/
def blocks (v1 v3 : BitVec 32) : Blk (F := F) :=
  let jp4 : PUnit.{1} → Blk (F := F) := fun _ => pure ⟨⟩
  let jp2 : PUnit.{1} → Blk (F := F) := fun _ => if k0_h4 : k0_cond4 v1 v3 = 1#1 then fin i arg1 harg1 arg2 harg2 arg3 harg3 arg4 harg4 arg5 harg5 arg6 harg6 arg7 harg7 arg8 harg8 arg9 harg9 v1 v3 k0_h4 jp4 else jp4 ⟨⟩
  let jp1 : PUnit.{1} → Blk (F := F) := fun _ => if k0_h2 : k0_cond2 v1 v3 = 1#1 then
      lazy i arg1 harg1 arg2 harg2 arg3 harg3 arg4 harg4 arg5 harg5 arg6 harg6 arg7 harg7 arg8 harg8 arg9 harg9 v1 v3 k0_h2 (fun v16 v3864 k0_hw2 =>
        redo i arg1 harg1 arg2 harg2 arg3 harg3 arg4 harg4 arg5 harg5 arg6 harg6 arg7 harg7 arg8 harg8 arg9 harg9 v1 v3 k0_h2 v16 v3864 k0_hw2 (fun _ => flip arg9 v16 jp2))
    else jp2 ⟨⟩
  if Scalar.cmpi .ne (Scalar.extui (Scalar.cmpi .eq v3 v1) : BitVec 32) 0#32 = 1#1 then diag i arg1 harg1 arg2 harg2 arg3 harg3 arg4 harg4 arg5 harg5 arg6 harg6 arg7 harg7 arg8 harg8 arg9 harg9 jp1 else jp1 ⟨⟩

set_option maxHeartbeats 4000000 in
/-- The printed body reads its pair of table words and runs the blocks. -/
theorem body_eq : cc0_mla_attn (F := F) i arg1 harg1 arg2 harg2 arg3 harg3 arg4 harg4 arg5 harg5 arg6 harg6 arg7 harg7 arg8 harg8 arg9 harg9
    = (do
      let v1 : Elt F .i32 ← smemLoad arg1 (Rect.unit (s := S136) (k0_off1 i) S1.size (k0_off1_inb i)) numel1_S1 rfl
      let v3 : Elt F .i32 ← smemLoad arg2 (Rect.unit (s := S136) (k0_off1 i) S1.size (k0_off1_inb i)) numel1_S1 rfl
      blocks i arg1 harg1 arg2 harg2 arg3 harg3 arg4 harg4 arg5 harg5 arg6 harg6 arg7 harg7 arg8 harg8 arg9 harg9 v1 v3) := by
  rw [cc0_mla_attn_eq_skeleton]; rfl
end

end Cert.Kernel3Ideal.Mla

end
-- ==== Proof.MlaIdealDiag.lean ====
module

public import proofs.«01_k».proof.Proof.MlaIdealBlocks

/-! One run of the diagonal block, with what it leaves in each scratch as its listed writes. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

set_option maxHeartbeats 4000000 in
set_option sl_exec.squeezeSlice true in
/-- The diagonal block leaves the listed writes in the two accumulators and slot 0 as the current one. -/
def diagRun (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole)
    (f3 : Bf (F := F) c arg3) (f4 : Bf (F := F) c arg4) (f5 : Bf (F := F) c arg5) :
    { L : List (View.Piece (Elt F) S2x32x1x512 .f32) × List (View.Piece (Elt F) S2x32x80x512 .f32) //
      ∀ (f7 : Bf (F := F) c arg7) (f8 : Bf (F := F) c arg8) (f9 : Bf (F := F) c arg9) (jp : PUnit.{1} → Blk (F := F))
        (E : Set ℕ) (K : PUnit → sProp 𝕄),
        iprop(pt c arg3 fullShare f3 ∗ pt c arg4 fullShare f4 ∗ pt c arg5 fullShare f5 ∗ pt c arg7 fullShare f7 ∗ pt c arg8 fullShare f8 ∗ pt c arg9 fullShare f9
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2) ∗ pt c arg9 fullShare (arg9.view.writes (Elt F) f9 [⟨Rect.unit (s := S1) ![0] S1.size inb_S1_S1_0, fun _ => 0#32⟩])) -∗ wp frame (wpE (defs₀ (F := F)) Variants.none c none) E (jp ⟨⟩) K))
        ⊢ wp frame (wpE (defs₀ (F := F)) Variants.none c none) E (diag i arg1 harg1 arg2 harg2 arg3 harg3 arg4 harg4 arg5 harg5 arg6 harg6 arg7 harg7 arg8 harg8 arg9 harg9 jp) K } := by
  refine ⟨⟨?_, ?_⟩, fun f7 f8 f9 jp E K => ?run⟩
  case run =>
    unfold diag
    iintro ⟨H3, H4, H5, H7, H8, H9, Hk⟩
    sl_exec_parts
    iapply Hk
    isplitl [H3]; · iexact H3
    isplitl [H4]; · iexact H4
    isplitl [H5]; · iexact H5
    isplitl [H7]; · iexact H7
    isplitl [H8]; · iexact H8
    iexact H9

end Cert.Kernel3Ideal.Mla

end
-- ==== Proof.MlaIdealFin.lean ====
module

public import proofs.«01_k».proof.Proof.MlaIdealBlocks

/-! One run of the closing division, with what it leaves in the output block as its listed writes. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Each of the two slots lies in the scratch. -/
theorem chk3 (v1 v3 : BitVec 32) (b : Bool) : k0_chk3 v1 v3 (if b then 1#32 else 0#32) := by
  cases b <;> exact fun _ => by decide

set_option maxHeartbeats 4000000 in
set_option sl_exec.squeezeSlice true in
/-- The closing division from slot 0 leaves the listed writes in the output block. -/
def finRun0 (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h4 : k0_cond4 v1 v3 = 1#1)
    (f8 : Bf (F := F) c arg8) :
    { L : List (View.Piece (Elt F) S4x512x512 .bf16) //
      ∀ (f6 : Bf (F := F) c arg6) (f9 : Bf (F := F) c arg9) (jp : PUnit.{1} → Blk (F := F))
        (E : Set ℕ) (K : PUnit → sProp 𝕄),
        iprop(pt c arg6 fullShare f6 ∗ pt c arg8 fullShare f8 ∗ pt c arg9 fullShare (arg9.view.writes (Elt F) f9 [⟨Rect.unit (s := S1) ![0] S1.size inb_S1_S1_0, fun _ => 0#32⟩])
          ∗ (iprop(pt c arg6 fullShare (arg6.view.writes (Elt F) f6 L) ∗ pt c arg8 fullShare f8 ∗ pt c arg9 fullShare (arg9.view.writes (Elt F) f9 [⟨Rect.unit (s := S1) ![0] S1.size inb_S1_S1_0, fun _ => 0#32⟩])) -∗ wp frame (wpE (defs₀ (F := F)) Variants.none c none) E (jp ⟨⟩) K))
        ⊢ wp frame (wpE (defs₀ (F := F)) Variants.none c none) E (fin i arg1 harg1 arg2 harg2 arg3 harg3 arg4 harg4 arg5 harg5 arg6 harg6 arg7 harg7 arg8 harg8 arg9 harg9 v1 v3 k0_h4 jp) K } := by
  refine ⟨?_, fun f6 f9 jp E K => ?run⟩
  case run =>
    unfold fin
    iintro ⟨H6, H8, H9, Hk⟩
    sl_exec_parts (disch := exact chk3 _ _ false)
    iapply Hk
    isplitl [H6]; · iexact H6
    isplitl [H8]; · iexact H8
    iexact H9

set_option maxHeartbeats 4000000 in
set_option sl_exec.squeezeSlice true in
/-- The closing division from slot 1 leaves the listed writes in the output block. -/
def finRun1 (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h4 : k0_cond4 v1 v3 = 1#1)
    (f8 : Bf (F := F) c arg8) :
    { L : List (View.Piece (Elt F) S4x512x512 .bf16) //
      ∀ (f6 : Bf (F := F) c arg6) (f9 : Bf (F := F) c arg9) (jp : PUnit.{1} → Blk (F := F))
        (E : Set ℕ) (K : PUnit → sProp 𝕄),
        iprop(pt c arg6 fullShare f6 ∗ pt c arg8 fullShare f8 ∗ pt c arg9 fullShare (arg9.view.writes (Elt F) f9 [⟨Rect.unit (s := S1) ![0] S1.size inb_S1_S1_0, fun _ => 1#32⟩])
          ∗ (iprop(pt c arg6 fullShare (arg6.view.writes (Elt F) f6 L) ∗ pt c arg8 fullShare f8 ∗ pt c arg9 fullShare (arg9.view.writes (Elt F) f9 [⟨Rect.unit (s := S1) ![0] S1.size inb_S1_S1_0, fun _ => 1#32⟩])) -∗ wp frame (wpE (defs₀ (F := F)) Variants.none c none) E (jp ⟨⟩) K))
        ⊢ wp frame (wpE (defs₀ (F := F)) Variants.none c none) E (fin i arg1 harg1 arg2 harg2 arg3 harg3 arg4 harg4 arg5 harg5 arg6 harg6 arg7 harg7 arg8 harg8 arg9 harg9 v1 v3 k0_h4 jp) K } := by
  refine ⟨?_, fun f6 f9 jp E K => ?run⟩
  case run =>
    unfold fin
    iintro ⟨H6, H8, H9, Hk⟩
    sl_exec_parts (disch := exact chk3 _ _ true)
    iapply Hk
    isplitl [H6]; · iexact H6
    isplitl [H8]; · iexact H8
    iexact H9

end Cert.Kernel3Ideal.Mla

end
-- ==== Proof.MlaIdealLazy0.lean ====
module

public import proofs.«01_k».proof.Proof.MlaIdealBlocks

/-! One run of the block below the diagonal from slot 0, with what it leaves in each scratch as its listed writes. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Slot 0 and the other one lie in the scratch. -/
theorem chk1_0 (v1 v3 : BitVec 32) : k0_chk1 v1 v3 0#32 :=
  ⟨fun _ => by decide, fun _ => by decide, fun _ => by decide, fun _ => by decide⟩

/-- Slot 0 and the other one lie in the scratch. -/
theorem chk2_0 (v1 v3 : BitVec 32) (w : BitVec 1) : k0_chk2 v1 v3 0#32 w :=
  ⟨fun _ _ => by decide, fun _ _ => by decide, fun _ _ => by decide, fun _ _ => by decide⟩

set_option maxHeartbeats 4000000 in
set_option sl_exec.squeezeSlice true in
/-- The block below the diagonal from slot 0 leaves the listed writes in the two accumulators and goes
    on with slot 0 and the listed word. -/
def lazyRun0 (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h2 : k0_cond2 v1 v3 = 1#1)
    (f3 : Bf (F := F) c arg3) (f4 : Bf (F := F) c arg4) (f5 : Bf (F := F) c arg5) (f7 : Bf (F := F) c arg7) (f8 : Bf (F := F) c arg8) :
    { L : List (View.Piece (Elt F) S2x32x1x512 .f32) × List (View.Piece (Elt F) S2x32x80x512 .f32) × BitVec 1 //
      ∀ (f9 : Bf (F := F) c arg9) (jp : (v16 : BitVec 32) → (v3864 : BitVec 1) → k0_chk2 v1 v3 v16 v3864 → Blk (F := F))
        (E : Set ℕ) (K : PUnit → sProp 𝕄),
        iprop(pt c arg3 fullShare f3 ∗ pt c arg4 fullShare f4 ∗ pt c arg5 fullShare f5 ∗ pt c arg7 fullShare f7 ∗ pt c arg8 fullShare f8 ∗ pt c arg9 fullShare (arg9.view.writes (Elt F) f9 [⟨Rect.unit (s := S1) ![0] S1.size inb_S1_S1_0, fun _ => 0#32⟩])
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2.1) ∗ pt c arg9 fullShare (arg9.view.writes (Elt F) f9 [⟨Rect.unit (s := S1) ![0] S1.size inb_S1_S1_0, fun _ => 0#32⟩])) -∗ wp frame (wpE (defs₀ (F := F)) Variants.none c none) E (jp 0#32 L.2.2 (chk2_0 v1 v3 L.2.2)) K))
        ⊢ wp frame (wpE (defs₀ (F := F)) Variants.none c none) E (lazy i arg1 harg1 arg2 harg2 arg3 harg3 arg4 harg4 arg5 harg5 arg6 harg6 arg7 harg7 arg8 harg8 arg9 harg9 v1 v3 k0_h2 jp) K } := by
  refine ⟨⟨?_, ?_, ?_⟩, fun f9 jp E K => ?run⟩
  case run =>
    unfold lazy
    iintro ⟨H3, H4, H5, H7, H8, H9, Hk⟩
    sl_exec_parts (disch := first | exact chk1_0 _ _ | exact chk2_0 _ _ _)
    iapply Hk
    isplitl [H3]; · iexact H3
    isplitl [H4]; · iexact H4
    isplitl [H5]; · iexact H5
    isplitl [H7]; · iexact H7
    isplitl [H8]; · iexact H8
    iexact H9

end Cert.Kernel3Ideal.Mla

end
-- ==== Proof.MlaIdealLazy1.lean ====
module

public import proofs.«01_k».proof.Proof.MlaIdealBlocks

/-! One run of the block below the diagonal from slot 1, with what it leaves in each scratch as its listed writes. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Slot 1 and the other one lie in the scratch. -/
theorem chk1_1 (v1 v3 : BitVec 32) : k0_chk1 v1 v3 1#32 :=
  ⟨fun _ => by decide, fun _ => by decide, fun _ => by decide, fun _ => by decide⟩

/-- Slot 1 and the other one lie in the scratch. -/
theorem chk2_1 (v1 v3 : BitVec 32) (w : BitVec 1) : k0_chk2 v1 v3 1#32 w :=
  ⟨fun _ _ => by decide, fun _ _ => by decide, fun _ _ => by decide, fun _ _ => by decide⟩

set_option maxHeartbeats 4000000 in
set_option sl_exec.squeezeSlice true in
/-- The block below the diagonal from slot 1 leaves the listed writes in the two accumulators and goes
    on with slot 1 and the listed word. -/
def lazyRun1 (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h2 : k0_cond2 v1 v3 = 1#1)
    (f3 : Bf (F := F) c arg3) (f4 : Bf (F := F) c arg4) (f5 : Bf (F := F) c arg5) (f7 : Bf (F := F) c arg7) (f8 : Bf (F := F) c arg8) :
    { L : List (View.Piece (Elt F) S2x32x1x512 .f32) × List (View.Piece (Elt F) S2x32x80x512 .f32) × BitVec 1 //
      ∀ (f9 : Bf (F := F) c arg9) (jp : (v16 : BitVec 32) → (v3864 : BitVec 1) → k0_chk2 v1 v3 v16 v3864 → Blk (F := F))
        (E : Set ℕ) (K : PUnit → sProp 𝕄),
        iprop(pt c arg3 fullShare f3 ∗ pt c arg4 fullShare f4 ∗ pt c arg5 fullShare f5 ∗ pt c arg7 fullShare f7 ∗ pt c arg8 fullShare f8 ∗ pt c arg9 fullShare (arg9.view.writes (Elt F) f9 [⟨Rect.unit (s := S1) ![0] S1.size inb_S1_S1_0, fun _ => 1#32⟩])
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2.1) ∗ pt c arg9 fullShare (arg9.view.writes (Elt F) f9 [⟨Rect.unit (s := S1) ![0] S1.size inb_S1_S1_0, fun _ => 1#32⟩])) -∗ wp frame (wpE (defs₀ (F := F)) Variants.none c none) E (jp 1#32 L.2.2 (chk2_1 v1 v3 L.2.2)) K))
        ⊢ wp frame (wpE (defs₀ (F := F)) Variants.none c none) E (lazy i arg1 harg1 arg2 harg2 arg3 harg3 arg4 harg4 arg5 harg5 arg6 harg6 arg7 harg7 arg8 harg8 arg9 harg9 v1 v3 k0_h2 jp) K } := by
  refine ⟨⟨?_, ?_, ?_⟩, fun f9 jp E K => ?run⟩
  case run =>
    unfold lazy
    iintro ⟨H3, H4, H5, H7, H8, H9, Hk⟩
    sl_exec_parts (disch := first | exact chk1_1 _ _ | exact chk2_1 _ _ _)
    iapply Hk
    isplitl [H3]; · iexact H3
    isplitl [H4]; · iexact H4
    isplitl [H5]; · iexact H5
    isplitl [H7]; · iexact H7
    isplitl [H8]; · iexact H8
    iexact H9

end Cert.Kernel3Ideal.Mla

end
-- ==== Proof.MlaIdealTrip0.lean ====
module

public import proofs.«01_k».proof.Proof.MlaIdealBlocks

/-! One trip of the redo loop from slot 0: one head recomputed under its new maximum. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

set_option maxHeartbeats 4000000 in
set_option sl_exec.squeezeSlice true in
/-- One trip of the redo loop from slot 0 leaves the listed writes in the two accumulators. -/
def tripRun0 (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h2 : k0_cond2 v1 v3 = 1#1)
    (v3864 : BitVec 1) (k0_hw2 : k0_chk2 v1 v3 0#32 v3864) (k0_h3 : k0_cond3 v3864 = 1#1) (k : Fin k0_t1_loop.trips)
    (f3 : Bf (F := F) c arg3) (f4 : Bf (F := F) c arg4) (f5 : Bf (F := F) c arg5) (f7 : Bf (F := F) c arg7) (f8 : Bf (F := F) c arg8) :
    { L : List (View.Piece (Elt F) S2x32x1x512 .f32) × List (View.Piece (Elt F) S2x32x80x512 .f32) //
      ∀ (E : Set ℕ) (K : Unit → sProp 𝕄),
        iprop(pt c arg3 fullShare f3 ∗ pt c arg4 fullShare f4 ∗ pt c arg5 fullShare f5 ∗ pt c arg7 fullShare f7 ∗ pt c arg8 fullShare f8
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2)) -∗ K ()))
        ⊢ wp frame (wpE (defs₀ (F := F)) Variants.none c none) E (k0_t1_body (F := F) i arg1 harg1 arg2 harg2 arg3 harg3 arg4 harg4 arg5 harg5 arg6 harg6 arg7 harg7 arg8 harg8 arg9 harg9 v1 v3 k0_h2 0#32 v3864 k0_hw2 k0_h3 k ()) K } := by
  have hk : k.val < 32 := Nat.lt_of_lt_of_le k.isLt (by decide)
  refine ⟨⟨?_, ?_⟩, fun E K => ?run⟩
  case run =>
    unfold k0_t1_body
    iintro ⟨H3, H4, H5, H7, H8, Hk⟩
    sl_exec_parts
    sl_step
    iapply Hk
    isplitl [H3]; · iexact H3
    isplitl [H4]; · iexact H4
    isplitl [H5]; · iexact H5
    isplitl [H7]; · iexact H7
    iexact H8

end Cert.Kernel3Ideal.Mla

end
-- ==== Proof.MlaIdealTrip1.lean ====
module

public import proofs.«01_k».proof.Proof.MlaIdealBlocks

/-! One trip of the redo loop from slot 1: one head recomputed under its new maximum. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

set_option maxHeartbeats 4000000 in
set_option sl_exec.squeezeSlice true in
/-- One trip of the redo loop from slot 1 leaves the listed writes in the two accumulators. -/
def tripRun1 (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h2 : k0_cond2 v1 v3 = 1#1)
    (v3864 : BitVec 1) (k0_hw2 : k0_chk2 v1 v3 1#32 v3864) (k0_h3 : k0_cond3 v3864 = 1#1) (k : Fin k0_t1_loop.trips)
    (f3 : Bf (F := F) c arg3) (f4 : Bf (F := F) c arg4) (f5 : Bf (F := F) c arg5) (f7 : Bf (F := F) c arg7) (f8 : Bf (F := F) c arg8) :
    { L : List (View.Piece (Elt F) S2x32x1x512 .f32) × List (View.Piece (Elt F) S2x32x80x512 .f32) //
      ∀ (E : Set ℕ) (K : Unit → sProp 𝕄),
        iprop(pt c arg3 fullShare f3 ∗ pt c arg4 fullShare f4 ∗ pt c arg5 fullShare f5 ∗ pt c arg7 fullShare f7 ∗ pt c arg8 fullShare f8
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2)) -∗ K ()))
        ⊢ wp frame (wpE (defs₀ (F := F)) Variants.none c none) E (k0_t1_body (F := F) i arg1 harg1 arg2 harg2 arg3 harg3 arg4 harg4 arg5 harg5 arg6 harg6 arg7 harg7 arg8 harg8 arg9 harg9 v1 v3 k0_h2 1#32 v3864 k0_hw2 k0_h3 k ()) K } := by
  have hk : k.val < 32 := Nat.lt_of_lt_of_le k.isLt (by decide)
  refine ⟨⟨?_, ?_⟩, fun E K => ?run⟩
  case run =>
    unfold k0_t1_body
    iintro ⟨H3, H4, H5, H7, H8, Hk⟩
    sl_exec_parts
    sl_step
    iapply Hk
    isplitl [H3]; · iexact H3
    isplitl [H4]; · iexact H4
    isplitl [H5]; · iexact H5
    isplitl [H7]; · iexact H7
    iexact H8

end Cert.Kernel3Ideal.Mla

end
-- ==== Proof.MlaIdealRuns.lean ====
module

public import proofs.«01_k».proof.Proof.MlaIdealDiag
public import proofs.«01_k».proof.Proof.MlaIdealFin
public import proofs.«01_k».proof.Proof.MlaIdealLazy0
public import proofs.«01_k».proof.Proof.MlaIdealLazy1
public import proofs.«01_k».proof.Proof.MlaIdealTrip0
public import proofs.«01_k».proof.Proof.MlaIdealTrip1

/-! The two slots' runs as one, the redo loop under any invariant its trips keep, and one grid point
    from its three blocks. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- The two slots. -/
def slot (b : Bool) : BitVec 32 := if b then 1#32 else 0#32

theorem chk2 (b : Bool) (v1 v3 : BitVec 32) (w : BitVec 1) : k0_chk2 v1 v3 (slot b) w := by
  cases b
  · exact chk2_0 v1 v3 w
  · exact chk2_1 v1 v3 w

section
variable (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32)

/-- The closing division from slot `b`. -/
def finRun (b : Bool) (k0_h4 : k0_cond4 v1 v3 = 1#1) (f8 : Bf (F := F) c arg8) :
    { L : List (View.Piece (Elt F) S4x512x512 .bf16) //
      ∀ (f6 : Bf (F := F) c arg6) (f9 : Bf (F := F) c arg9) (jp : PUnit.{1} → Blk (F := F))
        (E : Set ℕ) (K : PUnit → sProp 𝕄),
        iprop(pt c arg6 fullShare f6 ∗ pt c arg8 fullShare f8 ∗ pt c arg9 fullShare (arg9.view.writes (Elt F) f9 [⟨Rect.unit (s := S1) ![0] S1.size inb_S1_S1_0, fun _ => slot b⟩])
          ∗ (iprop(pt c arg6 fullShare (arg6.view.writes (Elt F) f6 L) ∗ pt c arg8 fullShare f8 ∗ pt c arg9 fullShare (arg9.view.writes (Elt F) f9 [⟨Rect.unit (s := S1) ![0] S1.size inb_S1_S1_0, fun _ => slot b⟩])) -∗ wp frame (wpE (defs₀ (F := F)) Variants.none c none) E (jp ⟨⟩) K))
        ⊢ wp frame (wpE (defs₀ (F := F)) Variants.none c none) E (fin i arg1 harg1 arg2 harg2 arg3 harg3 arg4 harg4 arg5 harg5 arg6 harg6 arg7 harg7 arg8 harg8 arg9 harg9 v1 v3 k0_h4 jp) K } :=
  match b with
  | false => finRun0 c i arg1 harg1 arg2 harg2 arg3 harg3 arg4 harg4 arg5 harg5 arg6 harg6 arg7 harg7 arg8 harg8 arg9 harg9 v1 v3 k0_h4 f8
  | true => finRun1 c i arg1 harg1 arg2 harg2 arg3 harg3 arg4 harg4 arg5 harg5 arg6 harg6 arg7 harg7 arg8 harg8 arg9 harg9 v1 v3 k0_h4 f8

/-- The block below the diagonal from slot `b`. -/
def lazyRun (b : Bool) (k0_h2 : k0_cond2 v1 v3 = 1#1)
    (f3 : Bf (F := F) c arg3) (f4 : Bf (F := F) c arg4) (f5 : Bf (F := F) c arg5) (f7 : Bf (F := F) c arg7) (f8 : Bf (F := F) c arg8) :
    { L : List (View.Piece (Elt F) S2x32x1x512 .f32) × List (View.Piece (Elt F) S2x32x80x512 .f32) × BitVec 1 //
      ∀ (f9 : Bf (F := F) c arg9) (jp : (v16 : BitVec 32) → (v3864 : BitVec 1) → k0_chk2 v1 v3 v16 v3864 → Blk (F := F))
        (E : Set ℕ) (K : PUnit → sProp 𝕄),
        iprop(pt c arg3 fullShare f3 ∗ pt c arg4 fullShare f4 ∗ pt c arg5 fullShare f5 ∗ pt c arg7 fullShare f7 ∗ pt c arg8 fullShare f8 ∗ pt c arg9 fullShare (arg9.view.writes (Elt F) f9 [⟨Rect.unit (s := S1) ![0] S1.size inb_S1_S1_0, fun _ => slot b⟩])
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2.1) ∗ pt c arg9 fullShare (arg9.view.writes (Elt F) f9 [⟨Rect.unit (s := S1) ![0] S1.size inb_S1_S1_0, fun _ => slot b⟩])) -∗ wp frame (wpE (defs₀ (F := F)) Variants.none c none) E (jp (slot b) L.2.2 (chk2 b v1 v3 L.2.2)) K))
        ⊢ wp frame (wpE (defs₀ (F := F)) Variants.none c none) E (lazy i arg1 harg1 arg2 harg2 arg3 harg3 arg4 harg4 arg5 harg5 arg6 harg6 arg7 harg7 arg8 harg8 arg9 harg9 v1 v3 k0_h2 jp) K } :=
  match b with
  | false => lazyRun0 c i arg1 harg1 arg2 harg2 arg3 harg3 arg4 harg4 arg5 harg5 arg6 harg6 arg7 harg7 arg8 harg8 arg9 harg9 v1 v3 k0_h2 f3 f4 f5 f7 f8
  | true => lazyRun1 c i arg1 harg1 arg2 harg2 arg3 harg3 arg4 harg4 arg5 harg5 arg6 harg6 arg7 harg7 arg8 harg8 arg9 harg9 v1 v3 k0_h2 f3 f4 f5 f7 f8

/-- One trip of the redo loop from slot `b`. -/
def tripRun (b : Bool) (k0_h2 : k0_cond2 v1 v3 = 1#1)
    (v3864 : BitVec 1) (k0_hw2 : k0_chk2 v1 v3 (slot b) v3864) (k0_h3 : k0_cond3 v3864 = 1#1) (k : Fin k0_t1_loop.trips)
    (f3 : Bf (F := F) c arg3) (f4 : Bf (F := F) c arg4) (f5 : Bf (F := F) c arg5) (f7 : Bf (F := F) c arg7) (f8 : Bf (F := F) c arg8) :
    { L : List (View.Piece (Elt F) S2x32x1x512 .f32) × List (View.Piece (Elt F) S2x32x80x512 .f32) //
      ∀ (E : Set ℕ) (K : Unit → sProp 𝕄),
        iprop(pt c arg3 fullShare f3 ∗ pt c arg4 fullShare f4 ∗ pt c arg5 fullShare f5 ∗ pt c arg7 fullShare f7 ∗ pt c arg8 fullShare f8
          ∗ (iprop(pt c arg3 fullShare f3 ∗ pt c arg4 fullShare f4 ∗ pt c arg5 fullShare f5 ∗ pt c arg7 fullShare (arg7.view.writes (Elt F) f7 L.1) ∗ pt c arg8 fullShare (arg8.view.writes (Elt F) f8 L.2)) -∗ K ()))
        ⊢ wp frame (wpE (defs₀ (F := F)) Variants.none c none) E (k0_t1_body (F := F) i arg1 harg1 arg2 harg2 arg3 harg3 arg4 harg4 arg5 harg5 arg6 harg6 arg7 harg7 arg8 harg8 arg9 harg9 v1 v3 k0_h2 (slot b) v3864 k0_hw2 k0_h3 k ()) K } :=
  match b, k0_hw2 with
  | false, h => tripRun0 c i arg1 harg1 arg2 harg2 arg3 harg3 arg4 harg4 arg5 harg5 arg6 harg6 arg7 harg7 arg8 harg8 arg9 harg9 v1 v3 k0_h2 v3864 h k0_h3 k f3 f4 f5 f7 f8
  | true, h => tripRun1 c i arg1 harg1 arg2 harg2 arg3 harg3 arg4 harg4 arg5 harg5 arg6 harg6 arg7 harg7 arg8 harg8 arg9 harg9 v1 v3 k0_h2 v3864 h k0_h3 k f3 f4 f5 f7 f8

/-- The redo keeps what each of its trips keeps. -/
theorem redoRun (b : Bool) (k0_h2 : k0_cond2 v1 v3 = 1#1) (v3864 : BitVec 1) (k0_hw2 : k0_chk2 v1 v3 (slot b) v3864)
    (f3 : Bf (F := F) c arg3) (f4 : Bf (F := F) c arg4) (f5 : Bf (F := F) c arg5) (f7 : Bf (F := F) c arg7) (f8 : Bf (F := F) c arg8)
    (R : Bf (F := F) c arg7 → Bf (F := F) c arg8 → Prop) (h0 : R f7 f8)
    (hs : ∀ (k0_h3 : k0_cond3 v3864 = 1#1) (k : Fin k0_t1_loop.trips) (f7 : Bf (F := F) c arg7) (f8 : Bf (F := F) c arg8), R f7 f8 →
      R (arg7.view.writes (Elt F) f7 (tripRun c i arg1 harg1 arg2 harg2 arg3 harg3 arg4 harg4 arg5 harg5 arg6 harg6 arg7 harg7 arg8 harg8 arg9 harg9 v1 v3 b k0_h2 v3864 k0_hw2 k0_h3 k f3 f4 f5 f7 f8).1.1)
        (arg8.view.writes (Elt F) f8 (tripRun c i arg1 harg1 arg2 harg2 arg3 harg3 arg4 harg4 arg5 harg5 arg6 harg6 arg7 harg7 arg8 harg8 arg9 harg9 v1 v3 b k0_h2 v3864 k0_hw2 k0_h3 k f3 f4 f5 f7 f8).1.2))
    (jp : PUnit.{1} → Blk (F := F)) (E : Set ℕ) (K : PUnit → sProp 𝕄) :
    iprop(pt c arg3 fullShare f3 ∗ pt c arg4 fullShare f4 ∗ pt c arg5 fullShare f5 ∗ pt c arg7 fullShare f7 ∗ pt c arg8 fullShare f8
      ∗ (iprop(∃ f7 f8, ⌜R f7 f8⌝ ∗ pt c arg3 fullShare f3 ∗ pt c arg4 fullShare f4 ∗ pt c arg5 fullShare f5 ∗ pt c arg7 fullShare f7 ∗ pt c arg8 fullShare f8) -∗ wp frame (wpE (defs₀ (F := F)) Variants.none c none) E (jp ⟨⟩) K))
    ⊢ wp frame (wpE (defs₀ (F := F)) Variants.none c none) E (redo i arg1 harg1 arg2 harg2 arg3 harg3 arg4 harg4 arg5 harg5 arg6 harg6 arg7 harg7 arg8 harg8 arg9 harg9 v1 v3 k0_h2 (slot b) v3864 k0_hw2 jp) K := by
  unfold redo
  split
  · rename_i k0_h3
    iintro ⟨H3, H4, H5, H7, H8, Hk⟩
    iapply (Scf.wp_for_bind Idealize.ShloMosaic.frame (wpE (defs₀ (F := F)) Variants.none c none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 v1 v3 k0_h2 (slot b) v3864 k0_hw2 k0_h3)
      (fun _ _ => iprop(∃ f7 f8, ⌜R f7 f8⌝ ∗ pt c arg3 fullShare f3 ∗ pt c arg4 fullShare f4 ∗ pt c arg5 fullShare f5 ∗ pt c arg7 fullShare f7 ∗ pt c arg8 fullShare f8))
      (by
        intro k acc
        iintro ⟨%f7, %f8, %hR, H3, H4, H5, H7, H8⟩
        iapply ((tripRun c i arg1 harg1 arg2 harg2 arg3 harg3 arg4 harg4 arg5 harg5 arg6 harg6 arg7 harg7 arg8 harg8 arg9 harg9 v1 v3 b k0_h2 v3864 k0_hw2 k0_h3 k f3 f4 f5 f7 f8).2 E _)
        isplitl [H3]; · iexact H3
        isplitl [H4]; · iexact H4
        isplitl [H5]; · iexact H5
        isplitl [H7]; · iexact H7
        isplitl [H8]; · iexact H8
        iintro ⟨H3, H4, H5, H7, H8⟩
        iexists _, _
        isplitr; · ipureintro; exact hs k0_h3 k f7 f8 hR
        isplitl [H3]; · iexact H3
        isplitl [H4]; · iexact H4
        isplitl [H5]; · iexact H5
        isplitl [H7]; · iexact H7
        iexact H8)) $$ [H3 H4 H5 H7 H8]
    · iexists f7, f8
      isplitr; · ipureintro; exact h0
      isplitl [H3]; · iexact H3
      isplitl [H4]; · iexact H4
      isplitl [H5]; · iexact H5
      isplitl [H7]; · iexact H7
      iexact H8
    · iintro %_ HI
      iapply Hk
      iexact HI
  · iintro ⟨H3, H4, H5, H7, H8, Hk⟩
    iapply Hk
    iexists f7, f8
    isplitr; · ipureintro; exact h0
    isplitl [H3]; · iexact H3
    isplitl [H4]; · iexact H4
    isplitl [H5]; · iexact H5
    isplitl [H7]; · iexact H7
    iexact H8
end

end Cert.Kernel3Ideal.Mla

end
-- ==== Proof.MlaIdealPay.lean ====
module

public import proofs.«01_k».proof.Proof.MlaIdealRuns
public import Idealize.ShloMosaic.Lib.VecWindow

/-! One head's and one half's stored expressions, from its keys, queries and values alone; the lists of
    pieces the three runs leave, as these over all heads and both halves. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- A half's first column (or row). -/
def col (hf : Bool) : ℕ := if hf then 256 else 0

/-- Half of the queries, of the keys, of the values. -/
def qc (hf : Bool) (Q : Vec F S128x512 .bf16) : Vec F S128x256 .bf16 :=
  extractStridedSlice S128x256 ![0, col hf] Q (by cases hf <;> decide)
def kr (hf : Bool) (K : Vec F S512x128 .bf16) : Vec F S256x128 .bf16 :=
  extractStridedSlice S256x128 ![col hf, 0] K (by cases hf <;> decide)
def vc (hf : Bool) (V : Vec F S80x512 .bf16) : Vec F S80x256 .bf16 :=
  extractStridedSlice S80x256 ![0, col hf] V (by cases hf <;> decide)

/-- Half of the keys' scores against half of the queries; all the keys'. -/
def sq (hk hq : Bool) (K : Vec F S512x128 .bf16) (Q : Vec F S128x512 .bf16) : FVec F S256x256 .f32 :=
  matmul dot_S256x128_S128x256_S256x256_1_0_0_1_n_n none (kr hk K) (qc hq Q) (constant S256x256 .f32 0#32)
def sl (hq : Bool) (K : Vec F S512x128 .bf16) (Q : Vec F S128x512 .bf16) : FVec F S512x256 .f32 :=
  matmul dot_S512x128_S128x256_S512x256_1_0_0_1_n_n none K (qc hq Q) (constant S512x256 .f32 0#32)

/-- The scores' maxima over the keys. -/
def topq (s : FVec F S256x256 .f32) : FVec F S1x256 .f32 :=
  shapeCast S1x256 (multiReduction .maximumf [0] S256 s 0xFF800000#32 reduces_S256x256_S256 (.inl rfl) rfl) shapeCasts_S256_S1x256
def topl (s : FVec F S512x256 .f32) : FVec F S1x256 .f32 :=
  shapeCast S1x256 (multiReduction .maximumf [0] S256 s 0xFF800000#32 reduces_S512x256_S256 (.inl rfl) rfl) shapeCasts_S256_S1x256

/-- The values weighed by the scores against `m`: over half of the keys, over all. -/
def pvq (s : FVec F S256x256 .f32) (m : FVec F S1x256 .f32) (V : Vec F S80x256 .bf16) : FVec F S80x256 .f32 :=
  matmul dot_S80x256_S256x256_S80x256_1_0_0_1_n_n none V
    (truncf .bf16 (exp2 (subf s (broadcastTo S256x256 m broadcasts_S1x256_S256x256))) bitsLt_bf16_f32) (constant S80x256 .f32 0#32)
def pvl (s : FVec F S512x256 .f32) (m : FVec F S1x256 .f32) (V : Vec F S80x512 .bf16) : FVec F S80x256 .f32 :=
  matmul dot_S80x512_S512x256_S80x256_1_0_0_1_n_n none V
    (truncf .bf16 (exp2 (subf s (broadcastTo S512x256 m broadcasts_S1x256_S512x256))) bitsLt_bf16_f32) (constant S80x256 .f32 0#32)

/-- The masked scores on the diagonal: the first half's queries against its keys, the second's against all. -/
def dsq (K : Vec F S512x128 .bf16) (Q : Vec F S128x512 .bf16) : FVec F S256x256 .f32 :=
  select diagRun.sl.v22 (sq false false K Q) (broadcast S256x256 (Named.named κ "mask" 0xF149F2CA#32))
def dsl (K : Vec F S512x128 .bf16) (Q : Vec F S128x512 .bf16) : FVec F S512x256 .f32 :=
  select diagRun.sl.v29 (sl true K Q) (broadcast S512x256 (Named.named κ "mask" 0xF149F2CA#32))

/-- On the diagonal: the maxima and the weighed values. -/
def dM (hf : Bool) (K : Vec F S512x128 .bf16) (Q : Vec F S128x512 .bf16) : FVec F S1x256 .f32 :=
  match hf with
  | false => maximumf (topq (dsq K Q)) (broadcast S1x256 (FloatOps.ofBits .f32 0xE0AD78EC#32))
  | true => maximumf (topl (dsl K Q)) (broadcast S1x256 (FloatOps.ofBits .f32 0xE0AD78EC#32))
def dA (hf : Bool) (K : Vec F S512x128 .bf16) (Q : Vec F S128x512 .bf16) (V : Vec F S80x512 .bf16) : FVec F S80x256 .f32 :=
  match hf with
  | false => pvq (dsq K Q) (dM false K Q) (vc false V)
  | true => pvl (dsl K Q) (dM true K Q) V

/-- Below the diagonal, both of a point's ways: the new maxima; the old weighed values and this block's, against
    the old maxima and then carried to the new, or against the new at once. -/
def lM (hf : Bool) (K : Vec F S512x128 .bf16) (Q : Vec F S128x512 .bf16) (m : FVec F S1x256 .f32) : FVec F S1x256 .f32 :=
  maximumf m (maximumf (topq (sq false hf K Q)) (topq (sq true hf K Q)))
def lA (hf : Bool) (K : Vec F S512x128 .bf16) (Q : Vec F S128x512 .bf16) (V : Vec F S80x512 .bf16) (m : FVec F S1x256 .f32) (a : FVec F S80x256 .f32) : FVec F S80x256 .f32 :=
  mulf (addf a (addf (pvq (sq false hf K Q) m (vc false V)) (pvq (sq true hf K Q) m (vc true V))))
    (broadcastTo S80x256 (exp2 (subf m (lM hf K Q m))) broadcasts_S1x256_S80x256)
def tA (hf : Bool) (K : Vec F S512x128 .bf16) (Q : Vec F S128x512 .bf16) (V : Vec F S80x512 .bf16) (m : FVec F S1x256 .f32) (a : FVec F S80x256 .f32) : FVec F S80x256 .f32 :=
  addf (mulf (broadcastTo S80x256 (exp2 (subf m (lM hf K Q m))) broadcasts_S1x256_S80x256) a)
    (addf (pvq (sq false hf K Q) (lM hf K Q m) (vc false V)) (pvq (sq true hf K Q) (lM hf K Q m) (vc true V)))

/-- The rectangle of one head and half of a slot of the maxima's scratch, and of the weighed values'; the slot's. -/
abbrev U7 (h : Fin 32) (hf : Bool) : Rect S32x1x512 := Rect.unit (s := S32x1x512) ![h.val, 0, col hf] ![1, 1, 256] (by revert h; cases hf <;> decide)
abbrev U8 (h : Fin 32) (hf : Bool) : Rect S32x80x512 := Rect.unit (s := S32x80x512) ![h.val, 0, col hf] ![1, 80, 256] (by revert h; cases hf <;> decide)
abbrev T7 (b : Bool) : Rect S2x32x1x512 := Rect.unit (s := S2x32x1x512) ![b.toNat, 0, 0, 0] ![1, 32, 1, 512] (by cases b <;> decide)
abbrev T8 (b : Bool) : Rect S2x32x80x512 := Rect.unit (s := S2x32x80x512) ![b.toNat, 0, 0, 0] ![1, 32, 80, 512] (by cases b <;> decide)
abbrev C7 (h : Fin 32) (hf : Bool) : Rect ⟨4, ![1, 32, 1, 512]⟩ := (U7 h hf).consLift ![1, 32, 1, 512] (by decide) (by decide)
abbrev C8 (h : Fin 32) (hf : Bool) : Rect ⟨4, ![1, 32, 80, 512]⟩ := (U8 h hf).consLift ![1, 32, 80, 512] (by decide) (by decide)
theorem n7 (h : Fin 32) (hf : Bool) : (C7 h hf).shape.numel = (U7 h hf).shape.numel := Rect.numel_consLift _ _ _ _
theorem n8 (h : Fin 32) (hf : Bool) : (C8 h hf).shape.numel = (U8 h hf).shape.numel := Rect.numel_consLift _ _ _ _

/-- A piece written there. -/
def P7 (b : Bool) (h : Fin 32) (hf : Bool) (w : FVec F S1x256 .f32) : View.Piece (Elt F) S2x32x1x512 .f32 :=
  ⟨(T7 b).within (C7 h hf) (by intro _; rfl), Rect.payAlong (r := U7 h hf) (R := C7 h hf) (n7 h hf) (shapeCast S1x1x256 w shapeCasts_S1x256_S1x1x256)⟩
def P8 (b : Bool) (h : Fin 32) (hf : Bool) (w : FVec F S80x256 .f32) : View.Piece (Elt F) S2x32x80x512 .f32 :=
  ⟨(T8 b).within (C8 h hf) (by intro _; rfl), Rect.payAlong (r := U8 h hf) (R := C8 h hf) (n8 h hf) (shapeCast S1x80x256 w shapeCasts_S80x256_S1x80x256)⟩

/-- The heads, last first: a list of pieces has the newest in front. -/
def heads : List (Fin 32) := [31, 30, 29, 28, 27, 26, 25, 24, 23, 22, 21, 20, 19, 18, 17, 16, 15, 14, 13, 12, 11, 10, 9, 8, 7, 6, 5, 4, 3, 2, 1, 0]
def L7 (b : Bool) (w : Fin 32 → Bool → FVec F S1x256 .f32) : List (View.Piece (Elt F) S2x32x1x512 .f32) :=
  heads.flatMap fun h => [P7 b h true (w h true), P7 b h false (w h false)]
def L8 (b : Bool) (w : Fin 32 → Bool → FVec F S80x256 .f32) : List (View.Piece (Elt F) S2x32x80x512 .f32) :=
  heads.flatMap fun h => [P8 b h true (w h true), P8 b h false (w h false)]

section
variable (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32)

/-- Head `h`'s queries, keys and values. -/
def qOf (f3 : Bf (F := F) c arg3) (h : Fin 32) : Vec F S128x512 .bf16 :=
  shapeCast S128x512 (View.readAt (Elt F) arg3.view (Rect.unit (s := S4x8x128x512) ![h.val / 8, h.val % 8, 0, 0] S1x1x128x512.size (by revert h; decide)).toLoadRect f3) shapeCasts_S1x1x128x512_S128x512
def kOf (f4 : Bf (F := F) c arg4) (h : Fin 32) : Vec F S512x128 .bf16 :=
  shapeCast S512x128 (View.readAt (Elt F) arg4.view (Rect.unit (s := S4x8x512x128) ![h.val / 8, h.val % 8, 0, 0] S1x1x512x128.size (by revert h; decide)).toLoadRect f4) shapeCasts_S1x1x512x128_S512x128
def vOf (f5 : Bf (F := F) c arg5) (h : Fin 32) : Vec F S80x512 .bf16 :=
  shapeCast S80x512 (View.readAt (Elt F) arg5.view (Rect.unit (s := S4x8x80x512) ![h.val / 8, h.val % 8, 0, 0] S1x1x80x512.size (by revert h; decide)).toLoadRect f5) shapeCasts_S1x1x80x512_S80x512

/-- What a slot holds for one head and half. -/
def mOf (b : Bool) (f7 : Bf (F := F) c arg7) (h : Fin 32) (hf : Bool) : FVec F S1x256 .f32 :=
  shapeCast S1x256 (fun x : S1x1x256.Idx => View.readAt (Elt F) arg7.view ((T7 b).withinL (C7 h hf).toLoadRect (by intro _; rfl)) f7
    (Shape.reshapeEquiv (n7 h hf).symm x)) shapeCasts_S1x1x256_S1x256
def aOf (b : Bool) (f8 : Bf (F := F) c arg8) (h : Fin 32) (hf : Bool) : FVec F S80x256 .f32 :=
  shapeCast S80x256 (fun x : S1x80x256.Idx => View.readAt (Elt F) arg8.view ((T8 b).withinL (C8 h hf).toLoadRect (by intro _; rfl)) f8
    (Shape.reshapeEquiv (n8 h hf).symm x)) shapeCasts_S1x80x256_S80x256

variable (f3 : Bf (F := F) c arg3) (f4 : Bf (F := F) c arg4) (f5 : Bf (F := F) c arg5) (f7 : Bf (F := F) c arg7) (f8 : Bf (F := F) c arg8)

theorem diag_L7 : (diagRun c i arg1 harg1 arg2 harg2 arg3 harg3 arg4 harg4 arg5 harg5 arg6 harg6 arg7 harg7 arg8 harg8 arg9 harg9 f3 f4 f5).1.1
    = L7 false fun h hf => dM hf (kOf c arg4 f4 h) (qOf c arg3 f3 h) := by
  sl_kernel_rfl
theorem diag_L8 : (diagRun c i arg1 harg1 arg2 harg2 arg3 harg3 arg4 harg4 arg5 harg5 arg6 harg6 arg7 harg7 arg8 harg8 arg9 harg9 f3 f4 f5).1.2
    = L8 false fun h hf => dA hf (kOf c arg4 f4 h) (qOf c arg3 f3 h) (vOf c arg5 f5 h) := by
  sl_kernel_rfl
theorem lazy0_L7 (h2 : k0_cond2 v1 v3 = 1#1) : (lazyRun0 c i arg1 harg1 arg2 harg2 arg3 harg3 arg4 harg4 arg5 harg5 arg6 harg6 arg7 harg7 arg8 harg8 arg9 harg9 v1 v3 h2 f3 f4 f5 f7 f8).1.1
    = L7 true fun h hf => lM hf (kOf c arg4 f4 h) (qOf c arg3 f3 h) (mOf c arg7 false f7 h hf) := by
  sl_kernel_rfl
theorem lazy0_L8 (h2 : k0_cond2 v1 v3 = 1#1) : (lazyRun0 c i arg1 harg1 arg2 harg2 arg3 harg3 arg4 harg4 arg5 harg5 arg6 harg6 arg7 harg7 arg8 harg8 arg9 harg9 v1 v3 h2 f3 f4 f5 f7 f8).1.2.1
    = L8 true fun h hf => lA hf (kOf c arg4 f4 h) (qOf c arg3 f3 h) (vOf c arg5 f5 h) (mOf c arg7 false f7 h hf) (aOf c arg8 false f8 h hf) := by
  sl_kernel_rfl
theorem lazy1_L7 (h2 : k0_cond2 v1 v3 = 1#1) : (lazyRun1 c i arg1 harg1 arg2 harg2 arg3 harg3 arg4 harg4 arg5 harg5 arg6 harg6 arg7 harg7 arg8 harg8 arg9 harg9 v1 v3 h2 f3 f4 f5 f7 f8).1.1
    = L7 false fun h hf => lM hf (kOf c arg4 f4 h) (qOf c arg3 f3 h) (mOf c arg7 true f7 h hf) := by
  sl_kernel_rfl
theorem lazy1_L8 (h2 : k0_cond2 v1 v3 = 1#1) : (lazyRun1 c i arg1 harg1 arg2 harg2 arg3 harg3 arg4 harg4 arg5 harg5 arg6 harg6 arg7 harg7 arg8 harg8 arg9 harg9 v1 v3 h2 f3 f4 f5 f7 f8).1.2.1
    = L8 false fun h hf => lA hf (kOf c arg4 f4 h) (qOf c arg3 f3 h) (vOf c arg5 f5 h) (mOf c arg7 true f7 h hf) (aOf c arg8 true f8 h hf) := by
  sl_kernel_rfl
end

end Cert.Kernel3Ideal.Mla
-- ==== Proof.MlaIdealRead.lean ====
module

public import proofs.«01_k».proof.Proof.MlaIdealPay
public import Idealize.ShloMosaic.Lib.Pointwise

/-! The scratch's pieces read back: what a slot holds for one head, row and query after a list of pieces;
    one head's blocks read out of the windows. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- A column as its half and its place in the half. -/
def half (q : Fin 512) : Bool := decide (256 ≤ q.val)
def lo (q : Fin 512) : Fin 256 := ⟨q.val % 256, Nat.mod_lt _ (by decide)⟩
theorem col_lo (q : Fin 512) : col (half q) + (lo q).val = q.val := by
  unfold half col lo
  by_cases h : 256 ≤ q.val
  · simp only [h, decide_true, if_true]; omega
  · simp only [h, decide_false]; simp; omega
def jn (hf : Bool) (l : Fin 256) : Fin 512 := ⟨col hf + l.val, by cases hf <;> simp [col] <;> omega⟩
theorem half_jn (hf : Bool) (l : Fin 256) : half (jn hf l) = hf := by
  cases hf <;> simp [half, jn, col]
theorem lo_jn (hf : Bool) (l : Fin 256) : lo (jn hf l) = l := by
  apply Fin.ext; cases hf <;> simp [lo, jn, col] <;> omega
theorem jn_half_lo (q : Fin 512) : jn (half q) (lo q) = q := Fin.ext (col_lo q)

/-- The slot as a coordinate. -/
def sc (b : Bool) : Fin 2 := ⟨b.toNat, by cases b <;> decide⟩

theorem emb_mem {S : Shape} (R : Rect S) (x : R.shape.Idx) : R.emb x ∈ R.set := by
  rw [← Rect.map_emb_univ]; exact Finset.mem_map_of_mem _ (Finset.mem_univ _)

section pieces
variable (b : Bool) (h : Fin 32) (hf : Bool)

theorem P7_pay (w : FVec F S1x256 .f32) (x : (P7 b h hf w).1.shape.Idx) :
    (P7 b h hf w).2 x = w (ix2 0 ⟨(x (3 : Fin 4)).val, (x (3 : Fin 4)).isLt⟩) := by
  have e := Rect.payAlong_consLift (U7 h hf) ![1, 32, 1, 512] (by decide) (by decide) (shapeCast S1x1x256 w shapeCasts_S1x256_S1x1x256)
    (n7 h hf) x (ix3 (0 : Fin 1) (0 : Fin 1) (⟨(x (3 : Fin 4)).val, (x (3 : Fin 4)).isLt⟩ : Fin 256))
    (by
      intro a; fin_cases a
      · have := (x (1 : Fin 4)).isLt; change (x (1 : Fin 4)).val < 1 at this; show 0 = (x (1 : Fin 4)).val; omega
      · have := (x (2 : Fin 4)).isLt; change (x (2 : Fin 4)).val < 1 at this; show 0 = (x (2 : Fin 4)).val; omega
      · rfl)
  refine e.trans ?_
  pointwise

theorem P8_pay (w : FVec F S80x256 .f32) (x : (P8 b h hf w).1.shape.Idx) :
    (P8 b h hf w).2 x = w (ix2 ⟨(x (2 : Fin 4)).val, (x (2 : Fin 4)).isLt⟩ ⟨(x (3 : Fin 4)).val, (x (3 : Fin 4)).isLt⟩) := by
  have e := Rect.payAlong_consLift (U8 h hf) ![1, 32, 80, 512] (by decide) (by decide) (shapeCast S1x80x256 w shapeCasts_S80x256_S1x80x256)
    (n8 h hf) x (ix3 (0 : Fin 1) (⟨(x (2 : Fin 4)).val, (x (2 : Fin 4)).isLt⟩ : Fin 80) (⟨(x (3 : Fin 4)).val, (x (3 : Fin 4)).isLt⟩ : Fin 256))
    (by
      intro a; fin_cases a
      · have := (x (1 : Fin 4)).isLt; change (x (1 : Fin 4)).val < 1 at this; show 0 = (x (1 : Fin 4)).val; omega
      · rfl
      · rfl)
  refine e.trans ?_
  pointwise

theorem P7_emb (w : FVec F S1x256 .f32) (x : (P7 b h hf w).1.shape.Idx) :
    (P7 b h hf w).1.emb x = ix4 (sc b) h (0 : Fin 1) (jn hf ⟨(x (3 : Fin 4)).val, (x (3 : Fin 4)).isLt⟩) := by
  funext a; apply Fin.ext
  have h0 := (x (0 : Fin 4)).isLt; change (x (0 : Fin 4)).val < 1 at h0
  have h1 := (x (1 : Fin 4)).isLt; change (x (1 : Fin 4)).val < 1 at h1
  have h2 := (x (2 : Fin 4)).isLt; change (x (2 : Fin 4)).val < 1 at h2
  fin_cases a
  · show b.toNat + 0 + 1 * (x (0 : Fin 4)).val = b.toNat; omega
  · show 0 + h.val + 1 * (x (1 : Fin 4)).val = h.val; omega
  · show 0 + 0 + 1 * (x (2 : Fin 4)).val = 0; omega
  · show 0 + col hf + 1 * (x (3 : Fin 4)).val = col hf + (x (3 : Fin 4)).val; omega

theorem P8_emb (w : FVec F S80x256 .f32) (x : (P8 b h hf w).1.shape.Idx) :
    (P8 b h hf w).1.emb x = ix4 (sc b) h (⟨(x (2 : Fin 4)).val, (x (2 : Fin 4)).isLt⟩ : Fin 80) (jn hf ⟨(x (3 : Fin 4)).val, (x (3 : Fin 4)).isLt⟩) := by
  funext a; apply Fin.ext
  have h0 := (x (0 : Fin 4)).isLt; change (x (0 : Fin 4)).val < 1 at h0
  have h1 := (x (1 : Fin 4)).isLt; change (x (1 : Fin 4)).val < 1 at h1
  fin_cases a
  · show b.toNat + 0 + 1 * (x (0 : Fin 4)).val = b.toNat; omega
  · show 0 + h.val + 1 * (x (1 : Fin 4)).val = h.val; omega
  · show 0 + 0 + 1 * (x (2 : Fin 4)).val = (x (2 : Fin 4)).val; omega
  · show 0 + col hf + 1 * (x (3 : Fin 4)).val = col hf + (x (3 : Fin 4)).val; omega

/-- The piece's index over a given column. -/
theorem P7_at (w : FVec F S1x256 .f32) (l : Fin 256) : ∃ x : (P7 b h hf w).1.shape.Idx, (x (3 : Fin 4)).val = l.val :=
  ⟨fun a => match a with | ⟨0, _⟩ => (0 : Fin 1) | ⟨1, _⟩ => (0 : Fin 1) | ⟨2, _⟩ => (0 : Fin 1) | ⟨3, _⟩ => l, rfl⟩
theorem P8_at (w : FVec F S80x256 .f32) (r : Fin 80) (l : Fin 256) : ∃ x : (P8 b h hf w).1.shape.Idx, (x (2 : Fin 4)).val = r.val ∧ (x (3 : Fin 4)).val = l.val :=
  ⟨fun a => match a with | ⟨0, _⟩ => (0 : Fin 1) | ⟨1, _⟩ => (0 : Fin 1) | ⟨2, _⟩ => r | ⟨3, _⟩ => l, rfl, rfl⟩

theorem P7_mem (w : FVec F S1x256 .f32) (q : Fin 512) (hq : half q = hf) : ix4 (sc b) h (0 : Fin 1) q ∈ (P7 b h hf w).1.set := by
  obtain ⟨x, hx⟩ := P7_at b h hf w (lo q)
  have e := P7_emb b h hf w x
  have e2 : jn hf ⟨(x (3 : Fin 4)).val, (x (3 : Fin 4)).isLt⟩ = q := by
    subst hq; exact (congrArg (jn (half q)) (Fin.ext hx)).trans (jn_half_lo q)
  rw [e2] at e
  rw [← e]; exact emb_mem _ _
theorem P8_mem (w : FVec F S80x256 .f32) (r : Fin 80) (q : Fin 512) (hq : half q = hf) : ix4 (sc b) h r q ∈ (P8 b h hf w).1.set := by
  obtain ⟨x, hr, hx⟩ := P8_at b h hf w r (lo q)
  have e := P8_emb b h hf w x
  have e2 : jn hf ⟨(x (3 : Fin 4)).val, (x (3 : Fin 4)).isLt⟩ = q := by
    subst hq; exact (congrArg (jn (half q)) (Fin.ext hx)).trans (jn_half_lo q)
  have e3 : (⟨(x (2 : Fin 4)).val, (x (2 : Fin 4)).isLt⟩ : Fin 80) = r := Fin.ext hr
  rw [e2, e3] at e
  rw [← e]; exact emb_mem _ _
end pieces

section lists
variable {κ : Kind} {sp : Space}

/-- Where every piece lies in slot `b` and one covers the place: its word. -/
theorem read7_hit (v : View sig κ sp S2x32x1x512 .f32) (f : v.ty.Contents (Elt F)) (L : List (View.Piece (Elt F) S2x32x1x512 .f32))
    (b : Bool) (w : Fin 32 → Bool → FVec F S1x256 .f32) (hL : ∀ p ∈ L, ∃ h hf, p = P7 b h hf (w h hf))
    (h : Fin 32) (q : Fin 512) (hm : P7 b h (half q) (w h (half q)) ∈ L) :
    v.read (Elt F) (v.writes (Elt F) f L) (ix4 (sc b) h (0 : Fin 1) q) = w h (half q) (ix2 0 (lo q)) := by
  refine View.read_writes_apply_of_pieces v f (fun y => w ⟨(y (1 : Fin 4)).val, (y (1 : Fin 4)).isLt⟩ (half ⟨(y (3 : Fin 4)).val, (y (3 : Fin 4)).isLt⟩) (ix2 0 (lo ⟨(y (3 : Fin 4)).val, (y (3 : Fin 4)).isLt⟩))) L ?_ _ ⟨_, hm, P7_mem b h (half q) _ q rfl⟩
  intro p hp x
  obtain ⟨h', hf', rfl⟩ := hL p hp
  rw [P7_pay, P7_emb]
  show w h' hf' _ = w h' (half (jn hf' _)) (ix2 0 (lo (jn hf' _)))
  rw [half_jn, lo_jn]
theorem read8_hit (v : View sig κ sp S2x32x80x512 .f32) (f : v.ty.Contents (Elt F)) (L : List (View.Piece (Elt F) S2x32x80x512 .f32))
    (b : Bool) (w : Fin 32 → Bool → FVec F S80x256 .f32) (hL : ∀ p ∈ L, ∃ h hf, p = P8 b h hf (w h hf))
    (h : Fin 32) (r : Fin 80) (q : Fin 512) (hm : P8 b h (half q) (w h (half q)) ∈ L) :
    v.read (Elt F) (v.writes (Elt F) f L) (ix4 (sc b) h r q) = w h (half q) (ix2 r (lo q)) := by
  refine View.read_writes_apply_of_pieces v f (fun y => w ⟨(y (1 : Fin 4)).val, (y (1 : Fin 4)).isLt⟩ (half ⟨(y (3 : Fin 4)).val, (y (3 : Fin 4)).isLt⟩) (ix2 ⟨(y (2 : Fin 4)).val, (y (2 : Fin 4)).isLt⟩ (lo ⟨(y (3 : Fin 4)).val, (y (3 : Fin 4)).isLt⟩))) L ?_ _ ⟨_, hm, P8_mem b h (half q) _ r q rfl⟩
  intro p hp x
  obtain ⟨h', hf', rfl⟩ := hL p hp
  rw [P8_pay, P8_emb]
  show w h' hf' _ = w h' (half (jn hf' _)) (ix2 _ (lo (jn hf' _)))
  rw [half_jn, lo_jn]; rfl

/-- A place no piece's slot, or no piece's head, holds keeps its word. -/
theorem read7_miss (v : View sig κ sp S2x32x1x512 .f32) (f : v.ty.Contents (Elt F)) (L : List (View.Piece (Elt F) S2x32x1x512 .f32))
    (b : Bool) (h : Fin 32) (q : Fin 512) (hL : ∀ p ∈ L, ∃ b' h' hf w, p = P7 b' h' hf w ∧ (b' ≠ b ∨ h' ≠ h)) :
    v.read (Elt F) (v.writes (Elt F) f L) (ix4 (sc b) h (0 : Fin 1) q) = v.read (Elt F) f (ix4 (sc b) h (0 : Fin 1) q) := by
  refine View.read_writes_apply_of_forall_not_mem v f _ L fun p hp hy => ?_
  obtain ⟨b', h', hf, w, rfl, hne⟩ := hL p hp
  rw [← Rect.map_emb_univ] at hy
  obtain ⟨x, -, hx⟩ := Finset.mem_map.mp hy
  rw [P7_emb] at hx
  rcases hne with hne | hne
  · have := congrArg (fun y => (y (0 : Fin 4)).val) hx
    change b'.toNat = b.toNat at this
    cases b <;> cases b' <;> first | exact hne rfl | exact absurd this (by decide)
  · exact hne (congrArg (fun y => (y (1 : Fin 4) : Fin 32)) hx)
theorem read8_miss (v : View sig κ sp S2x32x80x512 .f32) (f : v.ty.Contents (Elt F)) (L : List (View.Piece (Elt F) S2x32x80x512 .f32))
    (b : Bool) (h : Fin 32) (r : Fin 80) (q : Fin 512) (hL : ∀ p ∈ L, ∃ b' h' hf w, p = P8 b' h' hf w ∧ (b' ≠ b ∨ h' ≠ h)) :
    v.read (Elt F) (v.writes (Elt F) f L) (ix4 (sc b) h r q) = v.read (Elt F) f (ix4 (sc b) h r q) := by
  refine View.read_writes_apply_of_forall_not_mem v f _ L fun p hp hy => ?_
  obtain ⟨b', h', hf, w, rfl, hne⟩ := hL p hp
  rw [← Rect.map_emb_univ] at hy
  obtain ⟨x, -, hx⟩ := Finset.mem_map.mp hy
  rw [P8_emb] at hx
  rcases hne with hne | hne
  · have := congrArg (fun y => (y (0 : Fin 4)).val) hx
    change b'.toNat = b.toNat at this
    cases b <;> cases b' <;> first | exact hne rfl | exact absurd this (by decide)
  · exact hne (congrArg (fun y => (y (1 : Fin 4) : Fin 32)) hx)

theorem mem_heads : ∀ h : Fin 32, h ∈ heads := by decide
theorem L7_all (b : Bool) (w : Fin 32 → Bool → FVec F S1x256 .f32) : ∀ p ∈ L7 b w, ∃ h hf, p = P7 b h hf (w h hf) := by
  intro p hp
  obtain ⟨h, -, hp⟩ := List.mem_flatMap.mp hp
  rcases List.mem_cons.mp hp with rfl | hp
  · exact ⟨h, true, rfl⟩
  · exact ⟨h, false, List.mem_singleton.mp hp⟩
theorem L7_mem (b : Bool) (w : Fin 32 → Bool → FVec F S1x256 .f32) (h : Fin 32) (hf : Bool) : P7 b h hf (w h hf) ∈ L7 b w := by
  refine List.mem_flatMap.mpr ⟨h, mem_heads h, ?_⟩
  cases hf
  · exact List.mem_cons_of_mem _ (List.mem_singleton.mpr rfl)
  · exact List.mem_cons_self
theorem L8_all (b : Bool) (w : Fin 32 → Bool → FVec F S80x256 .f32) : ∀ p ∈ L8 b w, ∃ h hf, p = P8 b h hf (w h hf) := by
  intro p hp
  obtain ⟨h, -, hp⟩ := List.mem_flatMap.mp hp
  rcases List.mem_cons.mp hp with rfl | hp
  · exact ⟨h, true, rfl⟩
  · exact ⟨h, false, List.mem_singleton.mp hp⟩
theorem L8_mem (b : Bool) (w : Fin 32 → Bool → FVec F S80x256 .f32) (h : Fin 32) (hf : Bool) : P8 b h hf (w h hf) ∈ L8 b w := by
  refine List.mem_flatMap.mpr ⟨h, mem_heads h, ?_⟩
  cases hf
  · exact List.mem_cons_of_mem _ (List.mem_singleton.mpr rfl)
  · exact List.mem_cons_self
end lists

section loads
variable (c : Dev nD) (arg3 : Memref sig .tc .vmem S4x8x128x512 .bf16) (arg4 : Memref sig .tc .vmem S4x8x512x128 .bf16) (arg5 : Memref sig .tc .vmem S4x8x80x512 .bf16)
  (arg7 : Memref sig .tc .vmem S2x32x1x512 .f32) (arg8 : Memref sig .tc .vmem S2x32x80x512 .f32)

theorem sc7 (Y : Vec F S1x1x256 .f32) (l : Fin 256) : shapeCast S1x256 Y shapeCasts_S1x1x256_S1x256 (ix2 0 l) = Y (ix3 (0 : Fin 1) (0 : Fin 1) l) := by pointwise
theorem sc8 (Y : Vec F S1x80x256 .f32) (r : Fin 80) (l : Fin 256) : shapeCast S80x256 Y shapeCasts_S1x80x256_S80x256 (ix2 r l) = Y (ix3 (0 : Fin 1) r l) := by pointwise
theorem sc3 (Y : Vec F S1x1x128x512 .bf16) (r : Fin 128) (l : Fin 512) : shapeCast S128x512 Y shapeCasts_S1x1x128x512_S128x512 (ix2 r l) = Y (ix4 (0 : Fin 1) (0 : Fin 1) r l) := by pointwise
theorem sc4 (Y : Vec F S1x1x512x128 .bf16) (r : Fin 512) (l : Fin 128) : shapeCast S512x128 Y shapeCasts_S1x1x512x128_S512x128 (ix2 r l) = Y (ix4 (0 : Fin 1) (0 : Fin 1) r l) := by pointwise
theorem sc5 (Y : Vec F S1x1x80x512 .bf16) (r : Fin 80) (l : Fin 512) : shapeCast S80x512 Y shapeCasts_S1x1x80x512_S80x512 (ix2 r l) = Y (ix4 (0 : Fin 1) (0 : Fin 1) r l) := by pointwise

theorem mOf_apply (b : Bool) (f7 : Bf (F := F) c arg7) (h : Fin 32) (hf : Bool) (l : Fin 256) :
    mOf c arg7 b f7 h hf (ix2 0 l) = arg7.view.read (Elt F) f7 (ix4 (sc b) h (0 : Fin 1) (jn hf l)) := by
  unfold mOf
  have e : (Shape.reshapeEquiv (n7 h hf).symm (ix3 (0 : Fin 1) (0 : Fin 1) l) : (C7 h hf).shape.Idx) = fun a => match a with | ⟨0, _⟩ => (0 : Fin 1) | ⟨1, _⟩ => (0 : Fin 1) | ⟨2, _⟩ => (0 : Fin 1) | ⟨3, _⟩ => l := by
    refine (Shape.reshapeEquiv_cons_one (d := (U7 h hf).size) _ _).trans ?_
    funext a; fin_cases a <;> rfl
  refine (sc7 _ l).trans ?_
  refine congrArg (arg7.view.read (Elt F) f7) ?_
  refine (congrArg _ e).trans ?_
  funext a; apply Fin.ext
  fin_cases a
  · show b.toNat + 0 + 1 * 0 = b.toNat; omega
  · show 0 + h.val + 1 * 0 = h.val; omega
  · rfl
  · show 0 + col hf + 1 * l.val = col hf + l.val; omega
theorem aOf_apply (b : Bool) (f8 : Bf (F := F) c arg8) (h : Fin 32) (hf : Bool) (r : Fin 80) (l : Fin 256) :
    aOf c arg8 b f8 h hf (ix2 r l) = arg8.view.read (Elt F) f8 (ix4 (sc b) h r (jn hf l)) := by
  unfold aOf
  have e : (Shape.reshapeEquiv (n8 h hf).symm (ix3 (0 : Fin 1) r l) : (C8 h hf).shape.Idx) = fun a => match a with | ⟨0, _⟩ => (0 : Fin 1) | ⟨1, _⟩ => (0 : Fin 1) | ⟨2, _⟩ => r | ⟨3, _⟩ => l := by
    refine (Shape.reshapeEquiv_cons_one (d := (U8 h hf).size) _ _).trans ?_
    funext a; fin_cases a <;> rfl
  refine (sc8 _ r l).trans ?_
  refine congrArg (arg8.view.read (Elt F) f8) ?_
  refine (congrArg _ e).trans ?_
  funext a; apply Fin.ext
  fin_cases a
  · show b.toNat + 0 + 1 * 0 = b.toNat; omega
  · show 0 + h.val + 1 * 0 = h.val; omega
  · show 0 + 0 + 1 * r.val = r.val; omega
  · show 0 + col hf + 1 * l.val = col hf + l.val; omega

theorem b8 (h : Fin 32) : h.val / 8 < 4 := by omega
theorem h8 (h : Fin 32) : h.val % 8 < 8 := by omega

theorem qOf_apply (hM : arg3.IsWhole) (X : Vec F S4x8x128x512 .bf16) (h : Fin 32) (d : Fin 128) (q : Fin 512) :
    qOf c arg3 (hM.unread X) h (ix2 d q) = X (ix4 ⟨h.val / 8, b8 h⟩ ⟨h.val % 8, h8 h⟩ d q) := by
  unfold qOf
  refine (sc3 _ d q).trans ?_
  show View.read (Elt F) arg3.view (hM.unread X) _ = _
  rw [hM.read_unread]
  refine congrArg X ?_
  funext a; apply Fin.ext
  fin_cases a
  · show h.val / 8 + 1 * 0 = h.val / 8; omega
  · show h.val % 8 + 1 * 0 = h.val % 8; omega
  · show 0 + 1 * d.val = d.val; omega
  · show 0 + 1 * q.val = q.val; omega
theorem kOf_apply (hM : arg4.IsWhole) (X : Vec F S4x8x512x128 .bf16) (h : Fin 32) (k : Fin 512) (d : Fin 128) :
    kOf c arg4 (hM.unread X) h (ix2 k d) = X (ix4 ⟨h.val / 8, b8 h⟩ ⟨h.val % 8, h8 h⟩ k d) := by
  unfold kOf
  refine (sc4 _ k d).trans ?_
  show View.read (Elt F) arg4.view (hM.unread X) _ = _
  rw [hM.read_unread]
  refine congrArg X ?_
  funext a; apply Fin.ext
  fin_cases a
  · show h.val / 8 + 1 * 0 = h.val / 8; omega
  · show h.val % 8 + 1 * 0 = h.val % 8; omega
  · show 0 + 1 * k.val = k.val; omega
  · show 0 + 1 * d.val = d.val; omega
theorem vOf_apply (hM : arg5.IsWhole) (X : Vec F S4x8x80x512 .bf16) (h : Fin 32) (r : Fin 80) (k : Fin 512) :
    vOf c arg5 (hM.unread X) h (ix2 r k) = X (ix4 ⟨h.val / 8, b8 h⟩ ⟨h.val % 8, h8 h⟩ r k) := by
  unfold vOf
  refine (sc5 _ r k).trans ?_
  show View.read (Elt F) arg5.view (hM.unread X) _ = _
  rw [hM.read_unread]
  refine congrArg X ?_
  funext a; apply Fin.ext
  fin_cases a
  · show h.val / 8 + 1 * 0 = h.val / 8; omega
  · show h.val % 8 + 1 * 0 = h.val % 8; omega
  · show 0 + 1 * r.val = r.val; omega
  · show 0 + 1 * k.val = k.val; omega
end loads

end Cert.Kernel3Ideal.Mla
-- ==== Proof.MlaIdealEval.lean ====
module

public import proofs.«01_k».proof.Proof.MlaIdealRead

/-! One head's and half's stored expressions over the reals: a maximum is some real `μ`, and the weighed values
    are `2^(-μ)` times a sum that no longer speaks of the maxima. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Reals among the extended reals. -/
theorem sum_coe {n : ℕ} (f : Fin n → ℝ) : ∑ k, ((f k : ℝ) : EReal) = ((∑ k, f k : ℝ) : EReal) := by
  refine Finset.induction_on (Finset.univ : Finset (Fin n)) (by simp) ?_
  intro a s ha ih
  rw [Finset.sum_insert ha, Finset.sum_insert ha, ih, EReal.coe_add]
theorem exists_real {x : EReal} (h1 : x ≠ ⊤) (h2 : x ≠ ⊥) : ∃ r : ℝ, x = r := ⟨x.toReal, (EReal.coe_toReal h1 h2).symm⟩
theorem max_real (a : ℝ) {x : EReal} (h : x ≠ ⊤) : ∃ r : ℝ, max (a : EReal) x = r := by
  refine exists_real (fun e => ?_) (fun e => ?_)
  · rcases le_total (a : EReal) x with hx | hx
    · rw [max_eq_right hx] at e; exact h e
    · rw [max_eq_left hx] at e; exact EReal.coe_ne_top a e
  · exact EReal.coe_ne_bot a (le_bot_iff.mp (e ▸ le_max_left _ _))
theorem max_ne_top {x y : EReal} (hx : x ≠ ⊤) (hy : y ≠ ⊤) : max x y ≠ ⊤ := by
  rcases le_total x y with h | h
  · rwa [max_eq_right h]
  · rwa [max_eq_left h]
theorem neg_inf : Ideal.ofBits .f32 0xFF800000#32 = ⊥ := by simp [Ideal.ofBits, Ideal.ieee]
theorem floor_real : ∃ x : ℝ, Ideal.ofBits .f32 0xE0AD78EC#32 = x := by
  simp only [Ideal.ofBits, Ideal.ieee]
  rw [if_neg (by decide), if_neg (by decide)]
  exact ⟨_, rfl⟩

/-- The weight of a score. -/
def pw (x : ℝ) : ℝ := Real.rpow 2 x
theorem pw_add (x y : ℝ) : pw (x + y) = pw x * pw y := Real.rpow_add (by norm_num) x y
theorem pw_pos (x : ℝ) : 0 < pw x := Real.rpow_pos_of_pos (by norm_num) x
theorem exp2_sub (x y : ℝ) : Ideal.exp2 ((x : EReal) - (y : EReal)) = ((pw (-y) * pw x : ℝ) : EReal) := by
  rw [← EReal.coe_sub, Ideal.exp2_coe, ← pw_add]
  exact congrArg _ (congrArg pw (by ring))

/-- Values weighed by scores, some of them masked, against `μ`. -/
theorem weighed {n : ℕ} (v : Fin n → ℝ) (s : Fin n → EReal) (σ : Fin n → ℝ) (P : Fin n → Prop) [DecidablePred P] (μ : ℝ)
    (hs : ∀ k, s k = if P k then (σ k : EReal) else ⊥) :
    ∑ k, ((v k : ℝ) : EReal) * Ideal.exp2 (s k - (μ : EReal)) = ((pw (-μ) * ∑ k, (if P k then v k * pw (σ k) else 0) : ℝ) : EReal) := by
  rw [Finset.mul_sum, ← sum_coe]
  refine Finset.sum_congr rfl fun k _ => ?_
  rw [hs k]
  by_cases h : P k
  · rw [if_pos h, if_pos h, exp2_sub, ← EReal.coe_mul]
    exact congrArg _ (by ring)
  · rw [if_neg h, if_neg h, EReal.bot_sub, Ideal.exp2_bot, mul_zero, mul_zero, EReal.coe_zero]

/-- A sum over a block as its halves'. -/
theorem sum_halves (f : Fin 512 → ℝ) : ∑ k, f k = ∑ k, f (jn false k) + ∑ k, f (jn true k) := by
  refine (Fin.sum_univ_add (a := 256) (b := 256) f).trans ?_
  refine congrArg (· + _) (Finset.sum_congr rfl fun k _ => congrArg f (Fin.ext ?_))
  show k.val = 0 + k.val
  omega

theorem topq_ne_top (s : FVec Ideal S256x256 .f32) (l : Fin 256) (h : ∀ k : Fin 256, s (ix2 k l) ≠ (⊤ : EReal)) : topq s (ix2 0 l) ≠ (⊤ : EReal) := by
  unfold topq
  pointwise
  rw [neg_inf]
  exact ne_of_lt ((Finset.fold_max_lt _).mpr ⟨bot_lt_top, fun k _ => lt_top_iff_ne_top.mpr (h k)⟩)
theorem topl_ne_top (s : FVec Ideal S512x256 .f32) (l : Fin 256) (h : ∀ k : Fin 512, s (ix2 k l) ≠ (⊤ : EReal)) : topl s (ix2 0 l) ≠ (⊤ : EReal) := by
  unfold topl
  pointwise
  rw [neg_inf]
  exact ne_of_lt ((Finset.fold_max_lt _).mpr ⟨bot_lt_top, fun k _ => lt_top_iff_ne_top.mpr (h k)⟩)

theorem sq_apply (hk hq : Bool) (K : Vec Ideal S512x128 .bf16) (Q : Vec Ideal S128x512 .bf16) (k l : Fin 256) :
    sq hk hq K Q (ix2 k l) = ∑ d : Fin 128, K (ix2 (jn hk k) d) * Q (ix2 d (jn hq l)) := by
  unfold sq
  pointwise [kr, qc]
  rfl
theorem sl_apply (hq : Bool) (K : Vec Ideal S512x128 .bf16) (Q : Vec Ideal S128x512 .bf16) (k : Fin 512) (l : Fin 256) :
    sl hq K Q (ix2 k l) = ∑ d : Fin 128, K (ix2 k d) * Q (ix2 d (jn hq l)) := by
  unfold sl
  pointwise [qc]
  rfl
theorem vc_apply (hf : Bool) (V : Vec Ideal S80x512 .bf16) (r : Fin 80) (k : Fin 256) : vc hf V (ix2 r k) = V (ix2 r (jn hf k)) := by
  unfold vc
  pointwise
  rfl
theorem pvq_apply (s : FVec Ideal S256x256 .f32) (m : FVec Ideal S1x256 .f32) (V : Vec Ideal S80x256 .bf16) (r : Fin 80) (l : Fin 256) :
    pvq s m V (ix2 r l) = ∑ k : Fin 256, V (ix2 r k) * Ideal.exp2 (s (ix2 k l) - m (ix2 0 l)) := by
  unfold pvq
  pointwise
  rfl
theorem pvl_apply (s : FVec Ideal S512x256 .f32) (m : FVec Ideal S1x256 .f32) (V : Vec Ideal S80x512 .bf16) (r : Fin 80) (l : Fin 256) :
    pvl s m V (ix2 r l) = ∑ k : Fin 512, V (ix2 r k) * Ideal.exp2 (s (ix2 k l) - m (ix2 0 l)) := by
  unfold pvl
  pointwise
  rfl

/-- Two small naturals compared as words. -/
theorem word_le (a b n : ℕ) (ha : a < 1024) (hb : b < 1024) (hn : n < 1024) :
    (IntOp.cmpi CmpIPredicate.sle (IntOp.addi (0#32) (BitVec.ofNat 32 a)) (IntOp.addi (BitVec.ofNat 32 n) (BitVec.ofNat 32 b)) = 1#1) ↔ a ≤ n + b := by
  have e1 : (IntOp.addi (0#32) (BitVec.ofNat 32 a)).toInt = a := by
    rw [IntOp.addi, BitVec.zero_add, BitVec.toInt_eq_toNat_of_lt (by rw [BitVec.toNat_ofNat]; omega), BitVec.toNat_ofNat]; omega
  have e2 : (IntOp.addi (BitVec.ofNat 32 n) (BitVec.ofNat 32 b)).toInt = n + b := by
    rw [IntOp.addi, ← BitVec.ofNat_add, BitVec.toInt_eq_toNat_of_lt (by rw [BitVec.toNat_ofNat]; omega), BitVec.toNat_ofNat]; omega
  simp only [IntOp.cmpi, BitVec.sle, e1, e2]
  by_cases h : a ≤ n + b
  · have : (a : ℤ) ≤ n + b := by omega
    simp [h, this]
  · have : ¬ (a : ℤ) ≤ n + b := by omega
    simp [h, this]
theorem v22_apply (k l : Fin 256) : (diagRun.sl.v22 (ix2 k l) = 1#1) ↔ jn false k ≤ jn false l := by
  unfold diagRun.sl.v22
  pointwise [diagRun.sl.v16, diagRun.sl.v17, diagRun.sl.v19]
  refine (word_le k.val l.val 0 (by omega) (by omega) (by omega)).trans ?_
  rw [Fin.le_def]
  show k.val ≤ 0 + l.val ↔ 0 + k.val ≤ 0 + l.val
  omega
theorem v29_apply (k : Fin 512) (l : Fin 256) : (diagRun.sl.v29 (ix2 k l) = 1#1) ↔ k ≤ jn true l := by
  unfold diagRun.sl.v29
  pointwise [diagRun.sl.v23, diagRun.sl.v24, diagRun.sl.v26, diagRun.sl.v27]
  refine (word_le k.val l.val 256 (by omega) (by omega) (by omega)).trans ?_
  rw [Fin.le_def]
  show k.val ≤ 256 + l.val ↔ k.val ≤ 256 + l.val
  omega

/-- One head's blocks of real numbers: their scores `s`, the values `v`. -/
structure Reals (K : Vec Ideal S512x128 .bf16) (Q : Vec Ideal S128x512 .bf16) (V : Vec Ideal S80x512 .bf16) (s : Fin 512 → Fin 512 → ℝ) (v : Fin 80 → Fin 512 → ℝ) : Prop where
  sc : ∀ k q, ∑ d : Fin 128, K (ix2 k d) * Q (ix2 d q) = ((s k q : ℝ) : EReal)
  vl : ∀ r k, V (ix2 r k) = ((v r k : ℝ) : EReal)

/-- A block's weighed values; on the diagonal, those of the keys up to the query. -/
def tot (s : Fin 512 → Fin 512 → ℝ) (v : Fin 80 → Fin 512 → ℝ) (r : Fin 80) (q : Fin 512) : ℝ := ∑ k, v r k * pw (s k q)
def upto (s : Fin 512 → Fin 512 → ℝ) (v : Fin 80 → Fin 512 → ℝ) (r : Fin 80) (q : Fin 512) : ℝ := ∑ k, if k ≤ q then v r k * pw (s k q) else 0

section
variable {K : Vec Ideal S512x128 .bf16} {Q : Vec Ideal S128x512 .bf16} {V : Vec Ideal S80x512 .bf16} {s : Fin 512 → Fin 512 → ℝ} {v : Fin 80 → Fin 512 → ℝ}

theorem mask_bot : (Named.named κ "mask" 0xF149F2CA#32 : Ideal .f32) = (⊥ : EReal) := by
  rfl

theorem dsq_apply (H : Reals K Q V s v) (k l : Fin 256) :
    dsq K Q (ix2 k l) = if jn false k ≤ jn false l then ((s (jn false k) (jn false l) : ℝ) : EReal) else ⊥ := by
  unfold dsq
  pointwise
  rw [sq_apply, H.sc, mask_bot]
  unfold Scalar.select
  by_cases h : jn false k ≤ jn false l
  · exact (if_pos (c := diagRun.sl.v22 (ix2 k l) = 1) ((v22_apply k l).mpr h)).trans (if_pos h).symm
  · exact (if_neg (c := diagRun.sl.v22 (ix2 k l) = 1) (fun e => h ((v22_apply k l).mp e))).trans (if_neg h).symm
theorem dsl_apply (H : Reals K Q V s v) (k : Fin 512) (l : Fin 256) :
    dsl K Q (ix2 k l) = if k ≤ jn true l then ((s k (jn true l) : ℝ) : EReal) else ⊥ := by
  unfold dsl
  pointwise
  rw [sl_apply, H.sc, mask_bot]
  unfold Scalar.select
  by_cases h : k ≤ jn true l
  · exact (if_pos (c := diagRun.sl.v29 (ix2 k l) = 1) ((v29_apply k l).mpr h)).trans (if_pos h).symm
  · exact (if_neg (c := diagRun.sl.v29 (ix2 k l) = 1) (fun e => h ((v29_apply k l).mp e))).trans (if_neg h).symm

theorem dM_real (H : Reals K Q V s v) (hf : Bool) (l : Fin 256) : ∃ μ : ℝ, dM hf K Q (ix2 0 l) = (μ : EReal) := by
  obtain ⟨x, hx⟩ := floor_real
  cases hf
  · unfold dM
    pointwise
    rw [hx]
    have ht : topq (dsq K Q) (ix2 0 l) ≠ (⊤ : EReal) := topq_ne_top _ l fun k => by
      rw [dsq_apply H]
      split
      · exact EReal.coe_ne_top _
      · exact bot_ne_top
    obtain ⟨y, hy⟩ := max_real x ht
    exact ⟨y, (max_comm _ _).trans hy⟩
  · unfold dM
    pointwise
    rw [hx]
    have ht : topl (dsl K Q) (ix2 0 l) ≠ (⊤ : EReal) := topl_ne_top _ l fun k => by
      rw [dsl_apply H]
      split
      · exact EReal.coe_ne_top _
      · exact bot_ne_top
    obtain ⟨y, hy⟩ := max_real x ht
    exact ⟨y, (max_comm _ _).trans hy⟩

theorem dA_real (H : Reals K Q V s v) (hf : Bool) (r : Fin 80) (l : Fin 256) (μ : ℝ) (hμ : dM hf K Q (ix2 0 l) = (μ : EReal)) :
    dA hf K Q V (ix2 r l) = ((pw (-μ) * upto s v r (jn hf l) : ℝ) : EReal) := by
  cases hf
  · refine (pvq_apply _ _ _ r l).trans ?_
    rw [hμ]
    refine (Finset.sum_congr rfl fun k _ => by rw [vc_apply, H.vl]).trans ((weighed (fun k => v r (jn false k)) (fun k => dsq K Q (ix2 k l)) (fun k => s (jn false k) (jn false l)) (fun k => jn false k ≤ jn false l) μ (fun k => dsq_apply H k l)).trans ?_)
    unfold upto
    rw [sum_halves, Finset.sum_eq_zero (s := Finset.univ) (f := fun k => if jn true k ≤ jn false l then v r (jn true k) * pw (s (jn true k) (jn false l)) else 0), add_zero]
    intro k _
    rw [if_neg]
    rw [Fin.le_def]
    show ¬ 256 + k.val ≤ 0 + l.val
    omega
  · refine (pvl_apply _ _ _ r l).trans ?_
    rw [hμ]
    exact (Finset.sum_congr rfl fun k _ => by rw [H.vl]).trans (weighed (fun k => v r k) (fun k => dsl K Q (ix2 k l)) (fun k => s k (jn true l)) (fun k => k ≤ jn true l) μ (fun k => dsl_apply H k l))

theorem sq_real (H : Reals K Q V s v) (hk hq : Bool) (k l : Fin 256) : sq hk hq K Q (ix2 k l) = ((s (jn hk k) (jn hq l) : ℝ) : EReal) := by
  rw [sq_apply, H.sc]

theorem lM_real (H : Reals K Q V s v) (hf : Bool) (m : FVec Ideal S1x256 .f32) (l : Fin 256) (μ : ℝ) (hm : m (ix2 0 l) = (μ : EReal)) :
    ∃ μ' : ℝ, lM hf K Q m (ix2 0 l) = (μ' : EReal) := by
  unfold lM
  pointwise
  rw [hm]
  exact max_real μ (max_ne_top (topq_ne_top _ l fun k => by rw [sq_real H]; exact EReal.coe_ne_top _) (topq_ne_top _ l fun k => by rw [sq_real H]; exact EReal.coe_ne_top _))

/-- Both halves of the keys against `m`. -/
theorem pv_real (H : Reals K Q V s v) (hf : Bool) (m : FVec Ideal S1x256 .f32) (r : Fin 80) (l : Fin 256) (μ : ℝ) (hm : m (ix2 0 l) = (μ : EReal)) :
    pvq (sq false hf K Q) m (vc false V) (ix2 r l) + pvq (sq true hf K Q) m (vc true V) (ix2 r l) = ((pw (-μ) * tot s v r (jn hf l) : ℝ) : EReal) := by
  have one : ∀ hk : Bool, pvq (sq hk hf K Q) m (vc hk V) (ix2 r l) = ((pw (-μ) * ∑ k : Fin 256, v r (jn hk k) * pw (s (jn hk k) (jn hf l)) : ℝ) : EReal) := by
    intro hk
    refine (pvq_apply _ _ _ r l).trans ?_
    rw [hm]
    refine (Finset.sum_congr rfl fun k _ => by rw [vc_apply, H.vl]).trans ((weighed (fun k => v r (jn hk k)) (fun k => sq hk hf K Q (ix2 k l)) (fun k => s (jn hk k) (jn hf l)) (fun _ => True) μ (fun k => by rw [sq_real H, if_pos trivial])).trans ?_)
    simp only [if_true]
  rw [one, one, ← EReal.coe_add, ← mul_add]
  unfold tot
  rw [sum_halves]

theorem lA_real (H : Reals K Q V s v) (hf : Bool) (m : FVec Ideal S1x256 .f32) (a : FVec Ideal S80x256 .f32) (r : Fin 80) (l : Fin 256) (μ μ' N : ℝ)
    (hm : m (ix2 0 l) = (μ : EReal)) (ha : a (ix2 r l) = ((pw (-μ) * N : ℝ) : EReal)) (hμ : lM hf K Q m (ix2 0 l) = (μ' : EReal)) :
    lA hf K Q V m a (ix2 r l) = ((pw (-μ') * (N + tot s v r (jn hf l)) : ℝ) : EReal) := by
  have e : lA hf K Q V m a (ix2 r l) = (a (ix2 r l) + (pvq (sq false hf K Q) m (vc false V) (ix2 r l) + pvq (sq true hf K Q) m (vc true V) (ix2 r l))) * Ideal.exp2 (m (ix2 0 l) - lM hf K Q m (ix2 0 l)) := by
    unfold lA
    pointwise
    rfl
  rw [e, pv_real H hf m r l μ hm, ha, hm, hμ, exp2_sub, ← EReal.coe_add, ← EReal.coe_mul]
  refine congrArg _ ?_
  have := pw_add (-μ) μ
  rw [neg_add_cancel] at this
  have h0 : pw 0 = 1 := Real.rpow_zero 2
  calc _ = (pw (-μ) * pw μ) * (pw (-μ') * (N + tot s v r (jn hf l))) := by ring
    _ = _ := by rw [← this, h0, one_mul]

theorem tA_real (H : Reals K Q V s v) (hf : Bool) (m : FVec Ideal S1x256 .f32) (a : FVec Ideal S80x256 .f32) (r : Fin 80) (l : Fin 256) (μ μ' N : ℝ)
    (hm : m (ix2 0 l) = (μ : EReal)) (ha : a (ix2 r l) = ((pw (-μ) * N : ℝ) : EReal)) (hμ : lM hf K Q m (ix2 0 l) = (μ' : EReal)) :
    tA hf K Q V m a (ix2 r l) = ((pw (-μ') * (N + tot s v r (jn hf l)) : ℝ) : EReal) := by
  have e : tA hf K Q V m a (ix2 r l) = Ideal.exp2 (m (ix2 0 l) - lM hf K Q m (ix2 0 l)) * a (ix2 r l) + (pvq (sq false hf K Q) (lM hf K Q m) (vc false V) (ix2 r l) + pvq (sq true hf K Q) (lM hf K Q m) (vc true V) (ix2 r l)) := by
    unfold tA
    pointwise
    rfl
  rw [e, pv_real H hf (lM hf K Q m) r l μ' hμ, ha, hm, hμ, exp2_sub, ← EReal.coe_mul, ← EReal.coe_add]
  refine congrArg _ ?_
  have := pw_add (-μ) μ
  rw [neg_add_cancel] at this
  have h0 : pw 0 = 1 := Real.rpow_zero 2
  calc _ = (pw (-μ) * pw μ) * (pw (-μ') * N) + pw (-μ') * tot s v r (jn hf l) := by ring
    _ = _ := by rw [← this, h0, one_mul]; ring
end

end Cert.Kernel3Ideal.Mla
-- ==== Proof.MlaIdealPayTrip.lean ====
module

public import proofs.«01_k».proof.Proof.MlaIdealPay

/-! A trip of the redo loop: its head is the loop's variable, read through the words the kernel computes
    from it. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

section
variable (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32)

/-- Loads and pieces at offsets given as words. -/
def qAt (f3 : Bf (F := F) c arg3) (o : Fin 4 → ℕ) (ho : ∀ a, o a + S1x1x128x512.size a ≤ S4x8x128x512.size a) : Vec F S128x512 .bf16 :=
  shapeCast S128x512 (View.readAt (Elt F) arg3.view (Rect.unit (s := S4x8x128x512) o S1x1x128x512.size ho).toLoadRect f3) shapeCasts_S1x1x128x512_S128x512
def kAt (f4 : Bf (F := F) c arg4) (o : Fin 4 → ℕ) (ho : ∀ a, o a + S1x1x512x128.size a ≤ S4x8x512x128.size a) : Vec F S512x128 .bf16 :=
  shapeCast S512x128 (View.readAt (Elt F) arg4.view (Rect.unit (s := S4x8x512x128) o S1x1x512x128.size ho).toLoadRect f4) shapeCasts_S1x1x512x128_S512x128
def vAt (f5 : Bf (F := F) c arg5) (o : Fin 4 → ℕ) (ho : ∀ a, o a + S1x1x80x512.size a ≤ S4x8x80x512.size a) : Vec F S80x512 .bf16 :=
  shapeCast S80x512 (View.readAt (Elt F) arg5.view (Rect.unit (s := S4x8x80x512) o S1x1x80x512.size ho).toLoadRect f5) shapeCasts_S1x1x80x512_S80x512

theorem qAt_eq (f3 : Bf (F := F) c arg3) (h : Fin 32) {o : Fin 4 → ℕ} (e : o = ![h.val / 8, h.val % 8, 0, 0]) (ho) : qAt c arg3 f3 o ho = qOf c arg3 f3 h := by subst e; rfl
theorem kAt_eq (f4 : Bf (F := F) c arg4) (h : Fin 32) {o : Fin 4 → ℕ} (e : o = ![h.val / 8, h.val % 8, 0, 0]) (ho) : kAt c arg4 f4 o ho = kOf c arg4 f4 h := by subst e; rfl
theorem vAt_eq (f5 : Bf (F := F) c arg5) (h : Fin 32) {o : Fin 4 → ℕ} (e : o = ![h.val / 8, h.val % 8, 0, 0]) (ho) : vAt c arg5 f5 o ho = vOf c arg5 f5 h := by subst e; rfl

abbrev C7At (o : Fin 3 → ℕ) (ho : ∀ a, o a + S1x1x256.size a ≤ S32x1x512.size a) : Rect ⟨4, ![1, 32, 1, 512]⟩ :=
  (Rect.unit (s := S32x1x512) o S1x1x256.size ho).consLift ![1, 32, 1, 512] (by decide) (by decide)
abbrev C8At (o : Fin 3 → ℕ) (ho : ∀ a, o a + S1x80x256.size a ≤ S32x80x512.size a) : Rect ⟨4, ![1, 32, 80, 512]⟩ :=
  (Rect.unit (s := S32x80x512) o S1x80x256.size ho).consLift ![1, 32, 80, 512] (by decide) (by decide)
theorem n7At (o : Fin 3 → ℕ) (ho : ∀ a, o a + S1x1x256.size a ≤ S32x1x512.size a) :
    (C7At o ho).shape.numel = (Rect.unit (s := S32x1x512) o S1x1x256.size ho).shape.numel := Rect.numel_consLift _ _ _ _
theorem n8At (o : Fin 3 → ℕ) (ho : ∀ a, o a + S1x80x256.size a ≤ S32x80x512.size a) :
    (C8At o ho).shape.numel = (Rect.unit (s := S32x80x512) o S1x80x256.size ho).shape.numel := Rect.numel_consLift _ _ _ _
def P7At (b : Bool) (o : Fin 3 → ℕ) (ho : ∀ a, o a + S1x1x256.size a ≤ S32x1x512.size a) (w : FVec F S1x256 .f32) : View.Piece (Elt F) S2x32x1x512 .f32 :=
  ⟨(T7 b).within (C7At o ho) (by intro _; rfl), Rect.payAlong (r := Rect.unit (s := S32x1x512) o S1x1x256.size ho) (R := C7At o ho) (n7At o ho) (shapeCast S1x1x256 w shapeCasts_S1x256_S1x1x256)⟩
def P8At (b : Bool) (o : Fin 3 → ℕ) (ho : ∀ a, o a + S1x80x256.size a ≤ S32x80x512.size a) (w : FVec F S80x256 .f32) : View.Piece (Elt F) S2x32x80x512 .f32 :=
  ⟨(T8 b).within (C8At o ho) (by intro _; rfl), Rect.payAlong (r := Rect.unit (s := S32x80x512) o S1x80x256.size ho) (R := C8At o ho) (n8At o ho) (shapeCast S1x80x256 w shapeCasts_S80x256_S1x80x256)⟩
def mAt (b : Bool) (f7 : Bf (F := F) c arg7) (o : Fin 3 → ℕ) (ho : ∀ a, o a + S1x1x256.size a ≤ S32x1x512.size a) : FVec F S1x256 .f32 :=
  shapeCast S1x256 (fun x : S1x1x256.Idx => View.readAt (Elt F) arg7.view ((T7 b).withinL (C7At o ho).toLoadRect (by intro _; rfl)) f7
    (Shape.reshapeEquiv (n7At o ho).symm x)) shapeCasts_S1x1x256_S1x256
def aAt (b : Bool) (f8 : Bf (F := F) c arg8) (o : Fin 3 → ℕ) (ho : ∀ a, o a + S1x80x256.size a ≤ S32x80x512.size a) : FVec F S80x256 .f32 :=
  shapeCast S80x256 (fun x : S1x80x256.Idx => View.readAt (Elt F) arg8.view ((T8 b).withinL (C8At o ho).toLoadRect (by intro _; rfl)) f8
    (Shape.reshapeEquiv (n8At o ho).symm x)) shapeCasts_S1x80x256_S80x256

theorem P7At_eq (b : Bool) (h : Fin 32) (hf : Bool) {o : Fin 3 → ℕ} (e : o = ![h.val, 0, col hf]) (ho) (w : FVec F S1x256 .f32) : P7At b o ho w = P7 b h hf w := by subst e; rfl
theorem P8At_eq (b : Bool) (h : Fin 32) (hf : Bool) {o : Fin 3 → ℕ} (e : o = ![h.val, 0, col hf]) (ho) (w : FVec F S80x256 .f32) : P8At b o ho w = P8 b h hf w := by subst e; rfl
theorem mAt_eq (b : Bool) (f7 : Bf (F := F) c arg7) (h : Fin 32) (hf : Bool) {o : Fin 3 → ℕ} (e : o = ![h.val, 0, col hf]) (ho) : mAt c arg7 b f7 o ho = mOf c arg7 b f7 h hf := by subst e; rfl
theorem aAt_eq (b : Bool) (f8 : Bf (F := F) c arg8) (h : Fin 32) (hf : Bool) {o : Fin 3 → ℕ} (e : o = ![h.val, 0, col hf]) (ho) : aAt c arg8 b f8 o ho = aOf c arg8 b f8 h hf := by subst e; rfl

/-- The loop's variable as a head. -/
abbrev hd (k : Fin k0_t1_loop.trips) : Fin 32 := k.cast (by decide)
theorem off6 : ∀ k : Fin k0_t1_loop.trips, k0_off6 k = ![(hd k).val / 8, (hd k).val % 8, 0, 0] := by decide +kernel
theorem off7 : ∀ k : Fin k0_t1_loop.trips, k0_off7 k = ![(hd k).val / 8, (hd k).val % 8, 0, 0] := by decide +kernel
theorem off8 : ∀ k : Fin k0_t1_loop.trips, k0_off8 k = ![(hd k).val / 8, (hd k).val % 8, 0, 0] := by decide +kernel
theorem off10 : ∀ k : Fin k0_t1_loop.trips, k0_off10 k = ![(hd k).val, 0, col false] := by decide +kernel
theorem off12 : ∀ k : Fin k0_t1_loop.trips, k0_off12 k = ![(hd k).val, 0, col false] := by decide +kernel
theorem off15 : ∀ k : Fin k0_t1_loop.trips, k0_off15 k = ![(hd k).val, 0, col true] := by decide +kernel
theorem off16 : ∀ k : Fin k0_t1_loop.trips, k0_off16 k = ![(hd k).val, 0, col true] := by decide +kernel

variable (f3 : Bf (F := F) c arg3) (f4 : Bf (F := F) c arg4) (f5 : Bf (F := F) c arg5) (f7 : Bf (F := F) c arg7) (f8 : Bf (F := F) c arg8)

/-- A trip's four pieces, from slot `b` into the other. -/
def t7 (b : Bool) (h : Fin 32) : List (View.Piece (Elt F) S2x32x1x512 .f32) :=
  let p := P7 (!b) h false (lM false (kOf c arg4 f4 h) (qOf c arg3 f3 h) (mOf c arg7 b f7 h false))
  [P7 (!b) h true (lM true (kOf c arg4 f4 h) (qOf c arg3 f3 h) (mOf c arg7 b (arg7.view.writes (Elt F) f7 [p]) h true)), p]
def t8 (b : Bool) (h : Fin 32) : List (View.Piece (Elt F) S2x32x80x512 .f32) :=
  let p := P7 (!b) h false (lM false (kOf c arg4 f4 h) (qOf c arg3 f3 h) (mOf c arg7 b f7 h false))
  let a := P8 (!b) h false (tA false (kOf c arg4 f4 h) (qOf c arg3 f3 h) (vOf c arg5 f5 h) (mOf c arg7 b f7 h false) (aOf c arg8 b f8 h false))
  [P8 (!b) h true (tA true (kOf c arg4 f4 h) (qOf c arg3 f3 h) (vOf c arg5 f5 h) (mOf c arg7 b (arg7.view.writes (Elt F) f7 [p]) h true) (aOf c arg8 b (arg8.view.writes (Elt F) f8 [a]) h true)), a]

theorem trip0_L7 (h2 : k0_cond2 v1 v3 = 1#1) (w : BitVec 1) (hw : k0_chk2 v1 v3 0#32 w) (h3 : k0_cond3 w = 1#1) (k : Fin k0_t1_loop.trips) :
    (tripRun0 c i arg1 harg1 arg2 harg2 arg3 harg3 arg4 harg4 arg5 harg5 arg6 harg6 arg7 harg7 arg8 harg8 arg9 harg9 v1 v3 h2 w hw h3 k f3 f4 f5 f7 f8).1.1 = t7 c arg3 arg4 arg7 f3 f4 f7 false (hd k) := by
  have h6 := fun k a => k0_off6_inb k a
  have h7 := fun k a => k0_off7_inb k a
  have h10 := fun k a => k0_off10_inb k a
  have h15 := fun k a => k0_off15_inb k a
  have e : (tripRun0 c i arg1 harg1 arg2 harg2 arg3 harg3 arg4 harg4 arg5 harg5 arg6 harg6 arg7 harg7 arg8 harg8 arg9 harg9 v1 v3 h2 w hw h3 k f3 f4 f5 f7 f8).1.1 = [P7At true (k0_off15 k) (h15 k) (lM true (kAt c arg4 f4 (k0_off6 k) (h6 k)) (qAt c arg3 f3 (k0_off7 k) (h7 k)) (mAt c arg7 false (arg7.view.writes (Elt F) f7 [P7At true (k0_off10 k) (h10 k) (lM false (kAt c arg4 f4 (k0_off6 k) (h6 k)) (qAt c arg3 f3 (k0_off7 k) (h7 k)) (mAt c arg7 false f7 (k0_off10 k) (h10 k)))]) (k0_off15 k) (h15 k))), P7At true (k0_off10 k) (h10 k) (lM false (kAt c arg4 f4 (k0_off6 k) (h6 k)) (qAt c arg3 f3 (k0_off7 k) (h7 k)) (mAt c arg7 false f7 (k0_off10 k) (h10 k)))] := by
    sl_kernel_rfl
  rw [e]
  simp only [t7, kAt_eq c arg4 f4 (hd k) (off6 k), qAt_eq c arg3 f3 (hd k) (off7 k), mAt_eq c arg7 false _ (hd k) false (off10 k), mAt_eq c arg7 false _ (hd k) true (off15 k),
    P7At_eq true (hd k) false (off10 k), P7At_eq true (hd k) true (off15 k), Bool.not_false, Bool.not_true]
theorem trip0_L8 (h2 : k0_cond2 v1 v3 = 1#1) (w : BitVec 1) (hw : k0_chk2 v1 v3 0#32 w) (h3 : k0_cond3 w = 1#1) (k : Fin k0_t1_loop.trips) :
    (tripRun0 c i arg1 harg1 arg2 harg2 arg3 harg3 arg4 harg4 arg5 harg5 arg6 harg6 arg7 harg7 arg8 harg8 arg9 harg9 v1 v3 h2 w hw h3 k f3 f4 f5 f7 f8).1.2 = t8 c arg3 arg4 arg5 arg7 arg8 f3 f4 f5 f7 f8 false (hd k) := by
  have h6 := fun k a => k0_off6_inb k a
  have h7 := fun k a => k0_off7_inb k a
  have h8 := fun k a => k0_off8_inb k a
  have h10 := fun k a => k0_off10_inb k a
  have h12 := fun k a => k0_off12_inb k a
  have h15 := fun k a => k0_off15_inb k a
  have h16 := fun k a => k0_off16_inb k a
  have e : (tripRun0 c i arg1 harg1 arg2 harg2 arg3 harg3 arg4 harg4 arg5 harg5 arg6 harg6 arg7 harg7 arg8 harg8 arg9 harg9 v1 v3 h2 w hw h3 k f3 f4 f5 f7 f8).1.2 = [P8At true (k0_off16 k) (h16 k) (tA true (kAt c arg4 f4 (k0_off6 k) (h6 k)) (qAt c arg3 f3 (k0_off7 k) (h7 k)) (vAt c arg5 f5 (k0_off8 k) (h8 k)) (mAt c arg7 false (arg7.view.writes (Elt F) f7 [P7At true (k0_off10 k) (h10 k) (lM false (kAt c arg4 f4 (k0_off6 k) (h6 k)) (qAt c arg3 f3 (k0_off7 k) (h7 k)) (mAt c arg7 false f7 (k0_off10 k) (h10 k)))]) (k0_off15 k) (h15 k)) (aAt c arg8 false (arg8.view.writes (Elt F) f8 [P8At true (k0_off12 k) (h12 k) (tA false (kAt c arg4 f4 (k0_off6 k) (h6 k)) (qAt c arg3 f3 (k0_off7 k) (h7 k)) (vAt c arg5 f5 (k0_off8 k) (h8 k)) (mAt c arg7 false f7 (k0_off10 k) (h10 k)) (aAt c arg8 false f8 (k0_off12 k) (h12 k)))]) (k0_off16 k) (h16 k))), P8At true (k0_off12 k) (h12 k) (tA false (kAt c arg4 f4 (k0_off6 k) (h6 k)) (qAt c arg3 f3 (k0_off7 k) (h7 k)) (vAt c arg5 f5 (k0_off8 k) (h8 k)) (mAt c arg7 false f7 (k0_off10 k) (h10 k)) (aAt c arg8 false f8 (k0_off12 k) (h12 k)))] := by
    sl_kernel_rfl
  rw [e]
  simp only [t8, kAt_eq c arg4 f4 (hd k) (off6 k), qAt_eq c arg3 f3 (hd k) (off7 k), vAt_eq c arg5 f5 (hd k) (off8 k), mAt_eq c arg7 false _ (hd k) false (off10 k), mAt_eq c arg7 false _ (hd k) true (off15 k),
    aAt_eq c arg8 false _ (hd k) false (off12 k), aAt_eq c arg8 false _ (hd k) true (off16 k),
    P7At_eq true (hd k) false (off10 k), P8At_eq true (hd k) false (off12 k), P8At_eq true (hd k) true (off16 k), Bool.not_false, Bool.not_true]

theorem trip1_L7 (h2 : k0_cond2 v1 v3 = 1#1) (w : BitVec 1) (hw : k0_chk2 v1 v3 1#32 w) (h3 : k0_cond3 w = 1#1) (k : Fin k0_t1_loop.trips) :
    (tripRun1 c i arg1 harg1 arg2 harg2 arg3 harg3 arg4 harg4 arg5 harg5 arg6 harg6 arg7 harg7 arg8 harg8 arg9 harg9 v1 v3 h2 w hw h3 k f3 f4 f5 f7 f8).1.1 = t7 c arg3 arg4 arg7 f3 f4 f7 true (hd k) := by
  have h6 := fun k a => k0_off6_inb k a
  have h7 := fun k a => k0_off7_inb k a
  have h10 := fun k a => k0_off10_inb k a
  have h15 := fun k a => k0_off15_inb k a
  have e : (tripRun1 c i arg1 harg1 arg2 harg2 arg3 harg3 arg4 harg4 arg5 harg5 arg6 harg6 arg7 harg7 arg8 harg8 arg9 harg9 v1 v3 h2 w hw h3 k f3 f4 f5 f7 f8).1.1 = [P7At false (k0_off15 k) (h15 k) (lM true (kAt c arg4 f4 (k0_off6 k) (h6 k)) (qAt c arg3 f3 (k0_off7 k) (h7 k)) (mAt c arg7 true (arg7.view.writes (Elt F) f7 [P7At false (k0_off10 k) (h10 k) (lM false (kAt c arg4 f4 (k0_off6 k) (h6 k)) (qAt c arg3 f3 (k0_off7 k) (h7 k)) (mAt c arg7 true f7 (k0_off10 k) (h10 k)))]) (k0_off15 k) (h15 k))), P7At false (k0_off10 k) (h10 k) (lM false (kAt c arg4 f4 (k0_off6 k) (h6 k)) (qAt c arg3 f3 (k0_off7 k) (h7 k)) (mAt c arg7 true f7 (k0_off10 k) (h10 k)))] := by
    sl_kernel_rfl
  rw [e]
  simp only [t7, kAt_eq c arg4 f4 (hd k) (off6 k), qAt_eq c arg3 f3 (hd k) (off7 k), mAt_eq c arg7 true _ (hd k) false (off10 k), mAt_eq c arg7 true _ (hd k) true (off15 k),
    P7At_eq false (hd k) false (off10 k), P7At_eq false (hd k) true (off15 k), Bool.not_false, Bool.not_true]
theorem trip1_L8 (h2 : k0_cond2 v1 v3 = 1#1) (w : BitVec 1) (hw : k0_chk2 v1 v3 1#32 w) (h3 : k0_cond3 w = 1#1) (k : Fin k0_t1_loop.trips) :
    (tripRun1 c i arg1 harg1 arg2 harg2 arg3 harg3 arg4 harg4 arg5 harg5 arg6 harg6 arg7 harg7 arg8 harg8 arg9 harg9 v1 v3 h2 w hw h3 k f3 f4 f5 f7 f8).1.2 = t8 c arg3 arg4 arg5 arg7 arg8 f3 f4 f5 f7 f8 true (hd k) := by
  have h6 := fun k a => k0_off6_inb k a
  have h7 := fun k a => k0_off7_inb k a
  have h8 := fun k a => k0_off8_inb k a
  have h10 := fun k a => k0_off10_inb k a
  have h12 := fun k a => k0_off12_inb k a
  have h15 := fun k a => k0_off15_inb k a
  have h16 := fun k a => k0_off16_inb k a
  have e : (tripRun1 c i arg1 harg1 arg2 harg2 arg3 harg3 arg4 harg4 arg5 harg5 arg6 harg6 arg7 harg7 arg8 harg8 arg9 harg9 v1 v3 h2 w hw h3 k f3 f4 f5 f7 f8).1.2 = [P8At false (k0_off16 k) (h16 k) (tA true (kAt c arg4 f4 (k0_off6 k) (h6 k)) (qAt c arg3 f3 (k0_off7 k) (h7 k)) (vAt c arg5 f5 (k0_off8 k) (h8 k)) (mAt c arg7 true (arg7.view.writes (Elt F) f7 [P7At false (k0_off10 k) (h10 k) (lM false (kAt c arg4 f4 (k0_off6 k) (h6 k)) (qAt c arg3 f3 (k0_off7 k) (h7 k)) (mAt c arg7 true f7 (k0_off10 k) (h10 k)))]) (k0_off15 k) (h15 k)) (aAt c arg8 true (arg8.view.writes (Elt F) f8 [P8At false (k0_off12 k) (h12 k) (tA false (kAt c arg4 f4 (k0_off6 k) (h6 k)) (qAt c arg3 f3 (k0_off7 k) (h7 k)) (vAt c arg5 f5 (k0_off8 k) (h8 k)) (mAt c arg7 true f7 (k0_off10 k) (h10 k)) (aAt c arg8 true f8 (k0_off12 k) (h12 k)))]) (k0_off16 k) (h16 k))), P8At false (k0_off12 k) (h12 k) (tA false (kAt c arg4 f4 (k0_off6 k) (h6 k)) (qAt c arg3 f3 (k0_off7 k) (h7 k)) (vAt c arg5 f5 (k0_off8 k) (h8 k)) (mAt c arg7 true f7 (k0_off10 k) (h10 k)) (aAt c arg8 true f8 (k0_off12 k) (h12 k)))] := by
    sl_kernel_rfl
  rw [e]
  simp only [t8, kAt_eq c arg4 f4 (hd k) (off6 k), qAt_eq c arg3 f3 (hd k) (off7 k), vAt_eq c arg5 f5 (hd k) (off8 k), mAt_eq c arg7 true _ (hd k) false (off10 k), mAt_eq c arg7 true _ (hd k) true (off15 k),
    aAt_eq c arg8 true _ (hd k) false (off12 k), aAt_eq c arg8 true _ (hd k) true (off16 k),
    P7At_eq false (hd k) false (off10 k), P8At_eq false (hd k) false (off12 k), P8At_eq false (hd k) true (off16 k), Bool.not_false, Bool.not_true]
end

end Cert.Kernel3Ideal.Mla
-- ==== Proof.MlaIdealGood.lean ====
module

public import proofs.«01_k».proof.Proof.MlaIdealEval
public import proofs.«01_k».proof.Proof.MlaIdealPayTrip

/-! What a slot holds, over the reals, and what each of the body's three ways of writing the slots makes of it. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

theorem ext1 {f g : FVec Ideal S1x256 .f32} (h : ∀ l : Fin 256, f (ix2 0 l) = g (ix2 0 l)) : f = g := by
  funext y
  have e : y = ix2 (0 : Fin 1) (⟨(y 1).val, (y 1).isLt⟩ : Fin 256) := by
    funext a; fin_cases a
    · exact Subsingleton.elim (α := Fin 1) _ _
    · rfl
  rw [e]; exact h _
theorem ext80 {f g : FVec Ideal S80x256 .f32} (h : ∀ (r : Fin 80) (l : Fin 256), f (ix2 r l) = g (ix2 r l)) : f = g := by
  funext y
  have e : y = ix2 (⟨(y 0).val, (y 0).isLt⟩ : Fin 80) (⟨(y 1).val, (y 1).isLt⟩ : Fin 256) := by
    funext a; fin_cases a <;> rfl
  rw [e]; exact h _ _

section
variable (c : Dev nD) (arg3 : Memref sig .tc .vmem S4x8x128x512 .bf16) (arg4 : Memref sig .tc .vmem S4x8x512x128 .bf16) (arg5 : Memref sig .tc .vmem S4x8x80x512 .bf16)
  (arg7 : Memref sig .tc .vmem S2x32x1x512 .f32) (arg8 : Memref sig .tc .vmem S2x32x80x512 .f32)

/-- A slot holds, for every head and query, some maximum `μ` and the sums `T` times `2^(-μ)`. -/
def Good (T : Fin 32 → Fin 80 → Fin 512 → ℝ) (b : Bool) (f7 : Bf (F := Ideal) c arg7) (f8 : Bf (F := Ideal) c arg8) : Prop :=
  ∀ (h : Fin 32) (q : Fin 512), ∃ μ : ℝ, arg7.view.read (Elt Ideal) f7 (ix4 (sc b) h (0 : Fin 1) q) = (μ : EReal)
    ∧ ∀ r : Fin 80, arg8.view.read (Elt Ideal) f8 (ix4 (sc b) h r q) = ((pw (-μ) * T h r q : ℝ) : EReal)

variable {arg3 arg4 arg5 arg7 arg8}
variable {f3 : Bf (F := Ideal) c arg3} {f4 : Bf (F := Ideal) c arg4} {f5 : Bf (F := Ideal) c arg5} {f7 : Bf (F := Ideal) c arg7} {f8 : Bf (F := Ideal) c arg8}
variable {s : Fin 32 → Fin 512 → Fin 512 → ℝ} {v : Fin 32 → Fin 80 → Fin 512 → ℝ} {T : Fin 32 → Fin 80 → Fin 512 → ℝ}
variable (H : ∀ h, Reals (kOf c arg4 f4 h) (qOf c arg3 f3 h) (vOf c arg5 f5 h) (s h) (v h))
include H

theorem diag_good : Good c arg7 arg8 (fun h r q => upto (s h) (v h) r q) false
    (arg7.view.writes (Elt Ideal) f7 (L7 false fun h hf => dM hf (kOf c arg4 f4 h) (qOf c arg3 f3 h)))
    (arg8.view.writes (Elt Ideal) f8 (L8 false fun h hf => dA hf (kOf c arg4 f4 h) (qOf c arg3 f3 h) (vOf c arg5 f5 h))) := by
  intro h q
  obtain ⟨μ, hμ⟩ := dM_real (H h) (half q) (lo q)
  refine ⟨μ, (read7_hit arg7.view f7 _ false _ (L7_all _ _) h q (L7_mem _ _ h _)).trans hμ, fun r => ?_⟩
  refine (read8_hit arg8.view f8 _ false _ (L8_all _ _) h r q (L8_mem _ _ h _)).trans ((dA_real (H h) (half q) r (lo q) μ hμ).trans ?_)
  rw [jn_half_lo]

omit H in
/-- Writes to the other slot leave a slot. -/
theorem good_miss {b : Bool} {l7 : List (View.Piece (Elt Ideal) S2x32x1x512 .f32)} {l8 : List (View.Piece (Elt Ideal) S2x32x80x512 .f32)}
    (h7 : ∀ p ∈ l7, ∃ h' hf w, p = P7 (!b) h' hf w) (h8 : ∀ p ∈ l8, ∃ h' hf w, p = P8 (!b) h' hf w)
    (G : Good c arg7 arg8 T b f7 f8) : Good c arg7 arg8 T b (arg7.view.writes (Elt Ideal) f7 l7) (arg8.view.writes (Elt Ideal) f8 l8) := by
  have nb : (!b) ≠ b := by cases b <;> decide
  intro h q
  obtain ⟨μ, hm, ha⟩ := G h q
  refine ⟨μ, (read7_miss arg7.view f7 l7 b h q fun p hp => ?_).trans hm, fun r => (read8_miss arg8.view f8 l8 b h r q fun p hp => ?_).trans (ha r)⟩
  · obtain ⟨h', hf, w, e⟩ := h7 p hp
    exact ⟨!b, h', hf, w, e, .inl nb⟩
  · obtain ⟨h', hf, w, e⟩ := h8 p hp
    exact ⟨!b, h', hf, w, e, .inl nb⟩

theorem lazy_good (b : Bool) (G : Good c arg7 arg8 T b f7 f8) :
    Good c arg7 arg8 T b
      (arg7.view.writes (Elt Ideal) f7 (L7 (!b) fun h hf => lM hf (kOf c arg4 f4 h) (qOf c arg3 f3 h) (mOf c arg7 b f7 h hf)))
      (arg8.view.writes (Elt Ideal) f8 (L8 (!b) fun h hf => lA hf (kOf c arg4 f4 h) (qOf c arg3 f3 h) (vOf c arg5 f5 h) (mOf c arg7 b f7 h hf) (aOf c arg8 b f8 h hf)))
    ∧ Good c arg7 arg8 (fun h r q => T h r q + tot (s h) (v h) r q) (!b)
      (arg7.view.writes (Elt Ideal) f7 (L7 (!b) fun h hf => lM hf (kOf c arg4 f4 h) (qOf c arg3 f3 h) (mOf c arg7 b f7 h hf)))
      (arg8.view.writes (Elt Ideal) f8 (L8 (!b) fun h hf => lA hf (kOf c arg4 f4 h) (qOf c arg3 f3 h) (vOf c arg5 f5 h) (mOf c arg7 b f7 h hf) (aOf c arg8 b f8 h hf))) := by
  refine ⟨good_miss c (fun p hp => ?_) (fun p hp => ?_) G, fun h q => ?_⟩
  · obtain ⟨h', hf, e⟩ := L7_all _ _ p hp
    exact ⟨h', hf, _, e⟩
  · obtain ⟨h', hf, e⟩ := L8_all _ _ p hp
    exact ⟨h', hf, _, e⟩
  · obtain ⟨μ, hm, ha⟩ := G h q
    have em : mOf c arg7 b f7 h (half q) (ix2 0 (lo q)) = (μ : EReal) := (mOf_apply c arg7 b f7 h (half q) (lo q)).trans (by rw [jn_half_lo]; exact hm)
    obtain ⟨μ', hμ'⟩ := lM_real (H h) (half q) _ (lo q) μ em
    refine ⟨μ', (read7_hit arg7.view f7 _ (!b) _ (L7_all _ _) h q (L7_mem _ _ h _)).trans hμ', fun r => ?_⟩
    have ea : aOf c arg8 b f8 h (half q) (ix2 r (lo q)) = ((pw (-μ) * T h r q : ℝ) : EReal) := (aOf_apply c arg8 b f8 h (half q) r (lo q)).trans (by rw [jn_half_lo]; exact ha r)
    refine (read8_hit arg8.view f8 _ (!b) _ (L8_all _ _) h r q (L8_mem _ _ h _)).trans ((lA_real (H h) (half q) _ _ r (lo q) μ μ' _ em ea hμ').trans ?_)
    rw [jn_half_lo]

omit H in
theorem mOf_other (b : Bool) (h h' : Fin 32) (hf' hf : Bool) (w : FVec Ideal S1x256 .f32) :
    mOf c arg7 b (arg7.view.writes (Elt Ideal) f7 [P7 (!b) h' hf' w]) h hf = mOf c arg7 b f7 h hf := by
  refine ext1 fun l => ?_
  rw [mOf_apply, mOf_apply]
  refine read7_miss arg7.view f7 _ b h _ fun p hp => ?_
  exact ⟨!b, h', hf', w, List.mem_singleton.mp hp, .inl (by cases b <;> decide)⟩
omit H in
theorem aOf_other (b : Bool) (h h' : Fin 32) (hf' hf : Bool) (w : FVec Ideal S80x256 .f32) :
    aOf c arg8 b (arg8.view.writes (Elt Ideal) f8 [P8 (!b) h' hf' w]) h hf = aOf c arg8 b f8 h hf := by
  refine ext80 fun r l => ?_
  rw [aOf_apply, aOf_apply]
  refine read8_miss arg8.view f8 _ b h _ _ fun p hp => ?_
  exact ⟨!b, h', hf', w, List.mem_singleton.mp hp, .inl (by cases b <;> decide)⟩

omit H in
/-- A trip's two halves both read the old slot as it was. -/
theorem t7_eq (b : Bool) (h : Fin 32) : t7 c arg3 arg4 arg7 f3 f4 f7 b h =
    [P7 (!b) h true (lM true (kOf c arg4 f4 h) (qOf c arg3 f3 h) (mOf c arg7 b f7 h true)), P7 (!b) h false (lM false (kOf c arg4 f4 h) (qOf c arg3 f3 h) (mOf c arg7 b f7 h false))] := by
  simp only [t7, mOf_other]
omit H in
theorem t8_eq (b : Bool) (h : Fin 32) : t8 c arg3 arg4 arg5 arg7 arg8 f3 f4 f5 f7 f8 b h =
    [P8 (!b) h true (tA true (kOf c arg4 f4 h) (qOf c arg3 f3 h) (vOf c arg5 f5 h) (mOf c arg7 b f7 h true) (aOf c arg8 b f8 h true)),
     P8 (!b) h false (tA false (kOf c arg4 f4 h) (qOf c arg3 f3 h) (vOf c arg5 f5 h) (mOf c arg7 b f7 h false) (aOf c arg8 b f8 h false))] := by
  simp only [t8, mOf_other, aOf_other]

theorem trip_good (b : Bool) (h₀ : Fin 32) (G : Good c arg7 arg8 T b f7 f8) (G' : Good c arg7 arg8 (fun h r q => T h r q + tot (s h) (v h) r q) (!b) f7 f8) :
    Good c arg7 arg8 T b (arg7.view.writes (Elt Ideal) f7 (t7 c arg3 arg4 arg7 f3 f4 f7 b h₀)) (arg8.view.writes (Elt Ideal) f8 (t8 c arg3 arg4 arg5 arg7 arg8 f3 f4 f5 f7 f8 b h₀))
    ∧ Good c arg7 arg8 (fun h r q => T h r q + tot (s h) (v h) r q) (!b)
      (arg7.view.writes (Elt Ideal) f7 (t7 c arg3 arg4 arg7 f3 f4 f7 b h₀)) (arg8.view.writes (Elt Ideal) f8 (t8 c arg3 arg4 arg5 arg7 arg8 f3 f4 f5 f7 f8 b h₀)) := by
  rw [t7_eq, t8_eq]
  have two : ∀ {α : Type} (P : α → Prop) {x y p : α}, p ∈ [x, y] → P x → P y → P p := by
    intro α P x y p hp hx hy
    rcases List.mem_cons.mp hp with rfl | hp
    · exact hx
    · rw [List.mem_singleton.mp hp]; exact hy
  refine ⟨good_miss c (fun p hp => two (fun p => ∃ h' hf w, p = P7 (!b) h' hf w) hp ⟨h₀, true, _, rfl⟩ ⟨h₀, false, _, rfl⟩) (fun p hp => two (fun p => ∃ h' hf w, p = P8 (!b) h' hf w) hp ⟨h₀, true, _, rfl⟩ ⟨h₀, false, _, rfl⟩) G, fun h q => ?_⟩
  by_cases e : h₀ = h
  · subst e
    obtain ⟨μ, hm, ha⟩ := G h₀ q
    have em : mOf c arg7 b f7 h₀ (half q) (ix2 0 (lo q)) = (μ : EReal) := (mOf_apply c arg7 b f7 h₀ (half q) (lo q)).trans (by rw [jn_half_lo]; exact hm)
    obtain ⟨μ', hμ'⟩ := lM_real (H h₀) (half q) _ (lo q) μ em
    refine ⟨μ', (read7_hit arg7.view f7 _ (!b) (fun h hf => lM hf (kOf c arg4 f4 h) (qOf c arg3 f3 h) (mOf c arg7 b f7 h hf)) (fun p hp => two (fun p => ∃ h hf, p = P7 (!b) h hf ((fun h hf => lM hf (kOf c arg4 f4 h) (qOf c arg3 f3 h) (mOf c arg7 b f7 h hf)) h hf)) hp ⟨h₀, true, rfl⟩ ⟨h₀, false, rfl⟩) h₀ q ?_).trans hμ', fun r => ?_⟩
    · cases half q
      · exact List.mem_cons_of_mem _ (List.mem_singleton.mpr rfl)
      · exact List.mem_cons_self
    have ea : aOf c arg8 b f8 h₀ (half q) (ix2 r (lo q)) = ((pw (-μ) * T h₀ r q : ℝ) : EReal) := (aOf_apply c arg8 b f8 h₀ (half q) r (lo q)).trans (by rw [jn_half_lo]; exact ha r)
    refine (read8_hit arg8.view f8 _ (!b) (fun h hf => tA hf (kOf c arg4 f4 h) (qOf c arg3 f3 h) (vOf c arg5 f5 h) (mOf c arg7 b f7 h hf) (aOf c arg8 b f8 h hf)) (fun p hp => two (fun p => ∃ h hf, p = P8 (!b) h hf ((fun h hf => tA hf (kOf c arg4 f4 h) (qOf c arg3 f3 h) (vOf c arg5 f5 h) (mOf c arg7 b f7 h hf) (aOf c arg8 b f8 h hf)) h hf)) hp ⟨h₀, true, rfl⟩ ⟨h₀, false, rfl⟩) h₀ r q ?_).trans ((tA_real (H h₀) (half q) _ _ r (lo q) μ μ' _ em ea hμ').trans ?_)
    · cases half q
      · exact List.mem_cons_of_mem _ (List.mem_singleton.mpr rfl)
      · exact List.mem_cons_self
    · rw [jn_half_lo]
  · obtain ⟨μ, hm, ha⟩ := G' h q
    refine ⟨μ, (read7_miss arg7.view f7 _ (!b) h q fun p hp => two (fun p => ∃ b' h' hf w, p = P7 b' h' hf w ∧ (b' ≠ !b ∨ h' ≠ h)) hp ⟨!b, h₀, true, _, rfl, .inr e⟩ ⟨!b, h₀, false, _, rfl, .inr e⟩).trans hm,
      fun r => (read8_miss arg8.view f8 _ (!b) h r q fun p hp => two (fun p => ∃ b' h' hf w, p = P8 b' h' hf w ∧ (b' ≠ !b ∨ h' ≠ h)) hp ⟨!b, h₀, true, _, rfl, .inr e⟩ ⟨!b, h₀, false, _, rfl, .inr e⟩).trans (ha r)⟩
end

end Cert.Kernel3Ideal.Mla
-- ==== Proof.MlaIdealPoint.lean ====
module

public import proofs.«01_k».proof.Proof.MlaIdealRuns

/-! One grid point of the attention body: what holds of the scratch and of the output block after it,
    from what holds of the scratch before it. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

section
variable (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32)

/-- The scratch: the slot word at a slot, the accumulators as `J` says of that slot. -/
def scr (J : Bool → Bf (F := F) c arg7 → Bf (F := F) c arg8 → Prop) : sProp 𝕄 :=
  iprop(∃ b f7 f8 f9, ⌜J b f7 f8⌝ ∗ pt c arg7 fullShare f7 ∗ pt c arg8 fullShare f8 ∗ pt c arg9 fullShare (arg9.view.writes (Elt F) f9 [⟨Rect.unit (s := S1) ![0] S1.size inb_S1_S1_0, fun _ => slot b⟩]))

/-- The body reads its pair of table words and runs the blocks of the pair. -/
theorem wordsRun (x1 : Bf (F := F) c arg1) (x2 : Bf (F := F) c arg2)
    (h1 : View.readAt (Elt F) arg1.view (Rect.unit (s := S136) (k0_off1 i) S1.size (k0_off1_inb i)).toLoadRect x1 (Shape.Idx.first (numel1_S1 ▸ Nat.one_pos)) = v1) (h2 : View.readAt (Elt F) arg2.view (Rect.unit (s := S136) (k0_off1 i) S1.size (k0_off1_inb i)).toLoadRect x2 (Shape.Idx.first (numel1_S1 ▸ Nat.one_pos)) = v3) (E : Set ℕ) (K : PUnit → sProp 𝕄) :
    iprop(pt c arg1 fullShare.right x1 ∗ pt c arg2 fullShare.right x2
      ∗ (iprop(pt c arg1 fullShare.right x1 ∗ pt c arg2 fullShare.right x2) -∗ wp frame (wpE (defs₀ (F := F)) Variants.none c none) E (blocks i arg1 harg1 arg2 harg2 arg3 harg3 arg4 harg4 arg5 harg5 arg6 harg6 arg7 harg7 arg8 harg8 arg9 harg9 v1 v3) K))
    ⊢ wp frame (wpE (defs₀ (F := F)) Variants.none c none) E (cc0_mla_attn (F := F) i arg1 harg1 arg2 harg2 arg3 harg3 arg4 harg4 arg5 harg5 arg6 harg6 arg7 harg7 arg8 harg8 arg9 harg9) K := by
  rw [body_eq]
  iintro ⟨H1, H2, Hk⟩
  sl_exec
  have e1 : wordsRun.sl.r c i arg1 x1 = v1 := h1
  have e2 : wordsRun.sl.r_1 c i arg2 x2 = v3 := h2
  rw [e1, e2]
  iapply Hk
  isplitl [H1]; · iexact H1
  iexact H2

/-- The closing division, when the pair asks for it. -/
theorem finStep (J : Bool → Bf (F := F) c arg7 → Bf (F := F) c arg8 → Prop) (O : Bf (F := F) c arg6 → Prop) (hO : ∀ (h4 : k0_cond4 v1 v3 = 1#1) (b : Bool) (f7 : Bf (F := F) c arg7) (f8 : Bf (F := F) c arg8) (f6 : Bf (F := F) c arg6), J b f7 f8 →
      O (arg6.view.writes (Elt F) f6 (finRun c i arg1 harg1 arg2 harg2 arg3 harg3 arg4 harg4 arg5 harg5 arg6 harg6 arg7 harg7 arg8 harg8 arg9 harg9 v1 v3 b h4 f8).1))
    (f6 : Bf (F := F) c arg6) (E : Set ℕ) (K : PUnit → sProp 𝕄) :
    iprop(scr c arg7 arg8 arg9 J ∗ pt c arg6 fullShare f6
      ∗ (iprop((∃ f6, ⌜∀ _ : k0_cond4 v1 v3 = 1#1, O f6⌝ ∗ pt c arg6 fullShare f6) ∗ scr c arg7 arg8 arg9 J) -∗ K ⟨⟩))
    ⊢ wp frame (wpE (defs₀ (F := F)) Variants.none c none) E (if k0_h4 : k0_cond4 v1 v3 = 1#1 then fin (F := F) i arg1 harg1 arg2 harg2 arg3 harg3 arg4 harg4 arg5 harg5 arg6 harg6 arg7 harg7 arg8 harg8 arg9 harg9 v1 v3 k0_h4 (fun _ => pure ⟨⟩) else pure ⟨⟩) K := by
  unfold scr
  iintro ⟨⟨%b, %f7, %f8, %f9, %hJ, H7, H8, H9⟩, H6, Hk⟩
  split
  · rename_i h4
    iapply ((finRun c i arg1 harg1 arg2 harg2 arg3 harg3 arg4 harg4 arg5 harg5 arg6 harg6 arg7 harg7 arg8 harg8 arg9 harg9 v1 v3 b h4 f8).2 f6 f9 _ E _)
    isplitl [H6]; · iexact H6
    isplitl [H8]; · iexact H8
    isplitl [H9]; · iexact H9
    iintro ⟨H6, H8, H9⟩
    sl_step
    iapply Hk
    isplitl [H6]
    · iexists _; isplitr; swap; · iexact H6
      ipureintro; exact fun _ => hO h4 b f7 f8 f6 hJ
    iexists b, f7, f8, f9
    isplitr; · ipureintro; exact hJ
    isplitl [H7]; · iexact H7
    isplitl [H8]; · iexact H8
    iexact H9
  · rename_i h4
    sl_step
    iapply Hk
    isplitl [H6]
    · iexists _; isplitr; swap; · iexact H6
      ipureintro; exact fun h => absurd h h4
    iexists b, f7, f8, f9
    isplitr; · ipureintro; exact hJ
    isplitl [H7]; · iexact H7
    isplitl [H8]; · iexact H8
    iexact H9

/-- A point on the diagonal, from any scratch. -/
theorem diagPoint (x1 : Bf (F := F) c arg1) (x2 : Bf (F := F) c arg2)
    (h1 : View.readAt (Elt F) arg1.view (Rect.unit (s := S136) (k0_off1 i) S1.size (k0_off1_inb i)).toLoadRect x1 (Shape.Idx.first (numel1_S1 ▸ Nat.one_pos)) = v1) (h2 : View.readAt (Elt F) arg2.view (Rect.unit (s := S136) (k0_off1 i) S1.size (k0_off1_inb i)).toLoadRect x2 (Shape.Idx.first (numel1_S1 ▸ Nat.one_pos)) = v3)
    (hd : Scalar.cmpi .ne (Scalar.extui (Scalar.cmpi .eq v3 v1) : BitVec 32) 0#32 = 1#1) (hn : ¬ k0_cond2 v1 v3 = 1#1)
    (f3 : Bf (F := F) c arg3) (f4 : Bf (F := F) c arg4) (f5 : Bf (F := F) c arg5)
    (J : Bool → Bf (F := F) c arg7 → Bf (F := F) c arg8 → Prop) (O : Bf (F := F) c arg6 → Prop) (hO : ∀ (h4 : k0_cond4 v1 v3 = 1#1) (b : Bool) (f7 : Bf (F := F) c arg7) (f8 : Bf (F := F) c arg8) (f6 : Bf (F := F) c arg6), J b f7 f8 →
      O (arg6.view.writes (Elt F) f6 (finRun c i arg1 harg1 arg2 harg2 arg3 harg3 arg4 harg4 arg5 harg5 arg6 harg6 arg7 harg7 arg8 harg8 arg9 harg9 v1 v3 b h4 f8).1))
    (hJ : ∀ (f7 : Bf (F := F) c arg7) (f8 : Bf (F := F) c arg8),
      J false (arg7.view.writes (Elt F) f7 (diagRun c i arg1 harg1 arg2 harg2 arg3 harg3 arg4 harg4 arg5 harg5 arg6 harg6 arg7 harg7 arg8 harg8 arg9 harg9 f3 f4 f5).1.1) (arg8.view.writes (Elt F) f8 (diagRun c i arg1 harg1 arg2 harg2 arg3 harg3 arg4 harg4 arg5 harg5 arg6 harg6 arg7 harg7 arg8 harg8 arg9 harg9 f3 f4 f5).1.2))
    (E : Set ℕ) (K : PUnit → sProp 𝕄) :
    iprop(pt c arg1 fullShare.right x1 ∗ pt c arg2 fullShare.right x2 ∗ pt c arg3 fullShare f3 ∗ pt c arg4 fullShare f4 ∗ pt c arg5 fullShare f5 ∗ (∃ f6, pt c arg6 fullShare f6)
      ∗ (∃ f7 f8 f9, pt c arg7 fullShare f7 ∗ pt c arg8 fullShare f8 ∗ pt c arg9 fullShare f9)
      ∗ (iprop(pt c arg1 fullShare.right x1 ∗ pt c arg2 fullShare.right x2 ∗ pt c arg3 fullShare f3 ∗ pt c arg4 fullShare f4 ∗ pt c arg5 fullShare f5 ∗ (∃ f6, ⌜∀ _ : k0_cond4 v1 v3 = 1#1, O f6⌝ ∗ pt c arg6 fullShare f6) ∗ scr c arg7 arg8 arg9 J) -∗ K ⟨⟩))
    ⊢ wp frame (wpE (defs₀ (F := F)) Variants.none c none) E (cc0_mla_attn (F := F) i arg1 harg1 arg2 harg2 arg3 harg3 arg4 harg4 arg5 harg5 arg6 harg6 arg7 harg7 arg8 harg8 arg9 harg9) K := by
  iintro ⟨H1, H2, H3, H4, H5, ⟨%f6, H6⟩, ⟨%f7, %f8, %f9, H7, H8, H9⟩, Hk⟩
  iapply (wordsRun c i arg1 harg1 arg2 harg2 arg3 harg3 arg4 harg4 arg5 harg5 arg6 harg6 arg7 harg7 arg8 harg8 arg9 harg9 v1 v3 x1 x2 h1 h2)
  isplitl [H1]; · iexact H1
  isplitl [H2]; · iexact H2
  iintro ⟨H1, H2⟩
  unfold blocks
  rw [if_pos hd]
  iapply ((diagRun c i arg1 harg1 arg2 harg2 arg3 harg3 arg4 harg4 arg5 harg5 arg6 harg6 arg7 harg7 arg8 harg8 arg9 harg9 f3 f4 f5).2 f7 f8 f9 _ E _)
  isplitl [H3]; · iexact H3
  isplitl [H4]; · iexact H4
  isplitl [H5]; · iexact H5
  isplitl [H7]; · iexact H7
  isplitl [H8]; · iexact H8
  isplitl [H9]; · iexact H9
  iintro ⟨H3, H4, H5, H7, H8, H9⟩
  rw [dif_neg hn]
  iapply (finStep c i arg1 harg1 arg2 harg2 arg3 harg3 arg4 harg4 arg5 harg5 arg6 harg6 arg7 harg7 arg8 harg8 arg9 harg9 v1 v3 J O hO f6)
  isplitl [H7 H8 H9]
  · unfold scr
    iexists false, _, _, f9
    isplitr; · ipureintro; exact hJ f7 f8
    isplitl [H7]; · iexact H7
    isplitl [H8]; · iexact H8
    iexact H9
  isplitl [H6]; · iexact H6
  iintro ⟨H6, HS⟩
  iapply Hk
  isplitl [H1]; · iexact H1
  isplitl [H2]; · iexact H2
  isplitl [H3]; · iexact H3
  isplitl [H4]; · iexact H4
  isplitl [H5]; · iexact H5
  isplitl [H6]; · iexact H6
  iexact HS

/-- The slot after `flip`. -/
theorem slot_flip (b : Bool) : Scalar.subi 1#32 (slot b) = slot (!b) := by cases b <;> rfl

set_option maxHeartbeats 1000000 in
/-- The slot word turned. -/
theorem flipRun (b : Bool) (f9 : Bf (F := F) c arg9) (jp : PUnit.{1} → Blk (F := F)) (E : Set ℕ) (K : PUnit → sProp 𝕄) :
    iprop(pt c arg9 fullShare (arg9.view.writes (Elt F) f9 [⟨Rect.unit (s := S1) ![0] S1.size inb_S1_S1_0, fun _ => slot b⟩]) ∗ (iprop(∃ f9, pt c arg9 fullShare (arg9.view.writes (Elt F) f9 [⟨Rect.unit (s := S1) ![0] S1.size inb_S1_S1_0, fun _ => slot !b⟩])) -∗ wp frame (wpE (defs₀ (F := F)) Variants.none c none) E (jp ⟨⟩) K))
    ⊢ wp frame (wpE (defs₀ (F := F)) Variants.none c none) E (flip arg9 (slot b) jp) K := by
  unfold flip
  rw [slot_flip]
  generalize (arg9.view.writes (Elt F) f9 [⟨Rect.unit (s := S1) ![0] S1.size inb_S1_S1_0, fun _ => slot b⟩]) = g
  iintro ⟨H9, Hk⟩
  sl_exec
  iapply Hk
  iexists g
  iexact H9

/-- A point below the diagonal. -/
theorem lazyPoint (x1 : Bf (F := F) c arg1) (x2 : Bf (F := F) c arg2)
    (h1 : View.readAt (Elt F) arg1.view (Rect.unit (s := S136) (k0_off1 i) S1.size (k0_off1_inb i)).toLoadRect x1 (Shape.Idx.first (numel1_S1 ▸ Nat.one_pos)) = v1) (h2 : View.readAt (Elt F) arg2.view (Rect.unit (s := S136) (k0_off1 i) S1.size (k0_off1_inb i)).toLoadRect x2 (Shape.Idx.first (numel1_S1 ▸ Nat.one_pos)) = v3)
    (hd : ¬ Scalar.cmpi .ne (Scalar.extui (Scalar.cmpi .eq v3 v1) : BitVec 32) 0#32 = 1#1) (hp : k0_cond2 v1 v3 = 1#1)
    (f3 : Bf (F := F) c arg3) (f4 : Bf (F := F) c arg4) (f5 : Bf (F := F) c arg5)
    (I J : Bool → Bf (F := F) c arg7 → Bf (F := F) c arg8 → Prop) (O : Bf (F := F) c arg6 → Prop) (hO : ∀ (h4 : k0_cond4 v1 v3 = 1#1) (b : Bool) (f7 : Bf (F := F) c arg7) (f8 : Bf (F := F) c arg8) (f6 : Bf (F := F) c arg6), J b f7 f8 →
      O (arg6.view.writes (Elt F) f6 (finRun c i arg1 harg1 arg2 harg2 arg3 harg3 arg4 harg4 arg5 harg5 arg6 harg6 arg7 harg7 arg8 harg8 arg9 harg9 v1 v3 b h4 f8).1))
    (hL : ∀ (b : Bool) (f7 : Bf (F := F) c arg7) (f8 : Bf (F := F) c arg8), I b f7 f8 →
      I b (arg7.view.writes (Elt F) f7 (lazyRun c i arg1 harg1 arg2 harg2 arg3 harg3 arg4 harg4 arg5 harg5 arg6 harg6 arg7 harg7 arg8 harg8 arg9 harg9 v1 v3 b hp f3 f4 f5 f7 f8).1.1) (arg8.view.writes (Elt F) f8 (lazyRun c i arg1 harg1 arg2 harg2 arg3 harg3 arg4 harg4 arg5 harg5 arg6 harg6 arg7 harg7 arg8 harg8 arg9 harg9 v1 v3 b hp f3 f4 f5 f7 f8).1.2.1)
      ∧ J (!b) (arg7.view.writes (Elt F) f7 (lazyRun c i arg1 harg1 arg2 harg2 arg3 harg3 arg4 harg4 arg5 harg5 arg6 harg6 arg7 harg7 arg8 harg8 arg9 harg9 v1 v3 b hp f3 f4 f5 f7 f8).1.1) (arg8.view.writes (Elt F) f8 (lazyRun c i arg1 harg1 arg2 harg2 arg3 harg3 arg4 harg4 arg5 harg5 arg6 harg6 arg7 harg7 arg8 harg8 arg9 harg9 v1 v3 b hp f3 f4 f5 f7 f8).1.2.1))
    (hT : ∀ (b : Bool) (w : BitVec 1) (hw : k0_chk2 v1 v3 (slot b) w) (h3 : k0_cond3 w = 1#1) (k : Fin k0_t1_loop.trips)
      (f7 : Bf (F := F) c arg7) (f8 : Bf (F := F) c arg8), I b f7 f8 ∧ J (!b) f7 f8 →
      I b (arg7.view.writes (Elt F) f7 (tripRun c i arg1 harg1 arg2 harg2 arg3 harg3 arg4 harg4 arg5 harg5 arg6 harg6 arg7 harg7 arg8 harg8 arg9 harg9 v1 v3 b hp w hw h3 k f3 f4 f5 f7 f8).1.1) (arg8.view.writes (Elt F) f8 (tripRun c i arg1 harg1 arg2 harg2 arg3 harg3 arg4 harg4 arg5 harg5 arg6 harg6 arg7 harg7 arg8 harg8 arg9 harg9 v1 v3 b hp w hw h3 k f3 f4 f5 f7 f8).1.2)
      ∧ J (!b) (arg7.view.writes (Elt F) f7 (tripRun c i arg1 harg1 arg2 harg2 arg3 harg3 arg4 harg4 arg5 harg5 arg6 harg6 arg7 harg7 arg8 harg8 arg9 harg9 v1 v3 b hp w hw h3 k f3 f4 f5 f7 f8).1.1) (arg8.view.writes (Elt F) f8 (tripRun c i arg1 harg1 arg2 harg2 arg3 harg3 arg4 harg4 arg5 harg5 arg6 harg6 arg7 harg7 arg8 harg8 arg9 harg9 v1 v3 b hp w hw h3 k f3 f4 f5 f7 f8).1.2))
    (E : Set ℕ) (K : PUnit → sProp 𝕄) :
    iprop(pt c arg1 fullShare.right x1 ∗ pt c arg2 fullShare.right x2 ∗ pt c arg3 fullShare f3 ∗ pt c arg4 fullShare f4 ∗ pt c arg5 fullShare f5 ∗ (∃ f6, pt c arg6 fullShare f6)
      ∗ scr c arg7 arg8 arg9 I
      ∗ (iprop(pt c arg1 fullShare.right x1 ∗ pt c arg2 fullShare.right x2 ∗ pt c arg3 fullShare f3 ∗ pt c arg4 fullShare f4 ∗ pt c arg5 fullShare f5 ∗ (∃ f6, ⌜∀ _ : k0_cond4 v1 v3 = 1#1, O f6⌝ ∗ pt c arg6 fullShare f6) ∗ scr c arg7 arg8 arg9 J) -∗ K ⟨⟩))
    ⊢ wp frame (wpE (defs₀ (F := F)) Variants.none c none) E (cc0_mla_attn (F := F) i arg1 harg1 arg2 harg2 arg3 harg3 arg4 harg4 arg5 harg5 arg6 harg6 arg7 harg7 arg8 harg8 arg9 harg9) K := by
  unfold scr
  iintro ⟨H1, H2, H3, H4, H5, ⟨%f6, H6⟩, ⟨%b, %f7, %f8, %f9, %hI, H7, H8, H9⟩, Hk⟩
  iapply (wordsRun c i arg1 harg1 arg2 harg2 arg3 harg3 arg4 harg4 arg5 harg5 arg6 harg6 arg7 harg7 arg8 harg8 arg9 harg9 v1 v3 x1 x2 h1 h2)
  isplitl [H1]; · iexact H1
  isplitl [H2]; · iexact H2
  iintro ⟨H1, H2⟩
  unfold blocks
  rw [if_neg hd]
  rw [dif_pos hp]
  iapply ((lazyRun c i arg1 harg1 arg2 harg2 arg3 harg3 arg4 harg4 arg5 harg5 arg6 harg6 arg7 harg7 arg8 harg8 arg9 harg9 v1 v3 b hp f3 f4 f5 f7 f8).2 f9 _ E _)
  isplitl [H3]; · iexact H3
  isplitl [H4]; · iexact H4
  isplitl [H5]; · iexact H5
  isplitl [H7]; · iexact H7
  isplitl [H8]; · iexact H8
  isplitl [H9]; · iexact H9
  iintro ⟨H3, H4, H5, H7, H8, H9⟩
  iapply (redoRun c i arg1 harg1 arg2 harg2 arg3 harg3 arg4 harg4 arg5 harg5 arg6 harg6 arg7 harg7 arg8 harg8 arg9 harg9 v1 v3 b hp _ _ f3 f4 f5 _ _ (fun f7 f8 => I b f7 f8 ∧ J (!b) f7 f8) (hL b f7 f8 hI) (fun h3 k f7 f8 h => hT b _ _ h3 k f7 f8 h))
  isplitl [H3]; · iexact H3
  isplitl [H4]; · iexact H4
  isplitl [H5]; · iexact H5
  isplitl [H7]; · iexact H7
  isplitl [H8]; · iexact H8
  iintro ⟨%g7, %g8, %hR, H3, H4, H5, H7, H8⟩
  iapply (flipRun c arg9 b f9)
  isplitl [H9]; · iexact H9
  iintro ⟨%g9, H9⟩
  iapply (finStep c i arg1 harg1 arg2 harg2 arg3 harg3 arg4 harg4 arg5 harg5 arg6 harg6 arg7 harg7 arg8 harg8 arg9 harg9 v1 v3 J O hO f6)
  isplitl [H7 H8 H9]
  · unfold scr
    iexists (!b), g7, g8, g9
    isplitr; · ipureintro; exact hR.2
    isplitl [H7]; · iexact H7
    isplitl [H8]; · iexact H8
    iexact H9
  isplitl [H6]; · iexact H6
  iintro ⟨H6, HS⟩
  iapply Hk
  isplitl [H1]; · iexact H1
  isplitl [H2]; · iexact H2
  isplitl [H3]; · iexact H3
  isplitl [H4]; · iexact H4
  isplitl [H5]; · iexact H5
  isplitl [H6]; · iexact H6
  unfold scr
  iexact HS
end

end Cert.Kernel3Ideal.Mla

end
-- ==== Proof.MlaIdealKit.lean ====
module

public import proofs.«01_k».proof.Proof.Gen.Kernel3Ideal.Launch
public import proofs.«01_k».proof.Proof.MlaIdealPoint
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.StableHlo.RunRead
public import Idealize.ShloMosaic.Lib.WordCmp
public import Idealize.ShloMosaic.Lib.VecWindow

/-! The attention call's host stretch, its two tables read off the launch memory, and its windows'
    blocks. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.Kernel3Ideal Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the call begins: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations, then the call. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- A buffer none of the host operations writes is as launched. -/
theorem V_of_not_written (c : Dev nD) (b : Ref sig .tc) (h : ∀ op ∈ (hostOps0 : List (HloOp τ sig (Elt F))), Proc.devRef .tc b ∉ op.writes) :
    V m c b = m ((c : Thread nD τ).loc b) :=
  StableHlo.after_of_forall_not_mem (b := Proc.devRef .tc b) _ _ h

/-- The five arguments are no host operation's result. -/
theorem arg_not_written (b : Ref sig .tc) (hb : b ∈ [main_arg0, main_arg1, main_arg2, main_arg3, main_arg4]) :
    ∀ op ∈ (hostOps0 : List (HloOp τ sig (Elt F))), Proc.devRef .tc b ∉ op.writes := by
  have key : ∀ b' ∈ [main_c, main_c_0, main_cst, main_v0, main_v1, main_cst_1, main_v2, main_v3, main_cst_2, main_v4, main_v5, main_v6, main_v7, main_v8, main_v9, main_v10, main_cst_3, main_v11, main_v12, main_v13, main_v14, main_cst_4, main_v15, main_cst_5, main_v16, main_v17, main_v18, main_v19], ∀ b ∈ [main_arg0, main_arg1, main_arg2, main_arg3, main_arg4], b ≠ b' := by decide
  refine List.forall_iff_forall_mem.mp ?_
  simp only [hostOps0, List.Forall, StableHlo.nullary_writes, StableHlo.unary_writes, StableHlo.binary_writes, StableHlo.nary_writes, Finset.mem_singleton]
  repeat' apply And.intro
  all_goals exact StableHlo.devRef_ne_of_ne (key _ (by decide) b hb)

theorem V_arg (c : Dev nD) (b : Ref sig .tc) (hb : b ∈ [main_arg0, main_arg1, main_arg2, main_arg3, main_arg4]) : V m c b = m ((c : Thread nD τ).loc b) :=
  V_of_not_written m c b (arg_not_written b hb)

/-- The tables' contents when the call begins. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tables as printed. -/
def lits : pre0.Contents (Elt F)
  | ⟨0, _⟩ => fun i => lit0 (S136.rowMajor i)
  | ⟨1, _⟩ => fun i => lit1 (S136.rowMajor i)

theorem tbl_eq : tbl (F := F) m = lits := by
  funext j
  match j with
  | ⟨0, _⟩ =>
    refine (StableHlo.after_last_write (ops := hostOps0) (r := main_c) (i := 0) (op := StableHlo.nullary main_c (fun i => lit0 (S136.rowMajor i))) [main_c_0, main_cst, main_v0, main_v1, main_cst_1, main_v2, main_v3, main_cst_2, main_v4, main_v5, main_v6, main_v7, main_v8, main_v9, main_v10, main_cst_3, main_v11, main_v12, main_v13, main_v14, main_cst_4, main_v15, main_cst_5, main_v16, main_v17, main_v18, main_v19] rfl rfl (by decide) _).trans ?_
    exact StableHlo.nullary_result' _ _ _
  | ⟨1, _⟩ =>
    refine (StableHlo.after_last_write (ops := hostOps0) (r := main_c_0) (i := 1) (op := StableHlo.nullary main_c_0 (fun i => lit1 (S136.rowMajor i))) [main_cst, main_v0, main_v1, main_cst_1, main_v2, main_v3, main_cst_2, main_v4, main_v5, main_v6, main_v7, main_v8, main_v9, main_v10, main_cst_3, main_v11, main_v12, main_v13, main_v14, main_cst_4, main_v15, main_cst_5, main_v16, main_v17, main_v18, main_v19] rfl rfl (by decide) _).trans ?_
    exact StableHlo.nullary_result' ..

set_option maxHeartbeats 800000 in
theorem ok_lits : ok0 (F := F) lits := of_decide_eq_true (by sl_kernel_rfl)

/-- The grid point as a position of the tables. -/
abbrev pos (t : Fin grid0.N) : Fin 136 := t.cast N_0

/-- What the body reads of the tables at point `t`. -/
theorem word0 : ∀ t : Fin grid0.N, View.readAt (Elt F) (Memref.whole main_c : Memref sig .tc .smem S136 .i32).view (Rect.unit (s := S136) (k0_off1 (grid0.coords t)) S1.size (k0_off1_inb (grid0.coords t))).toLoadRect (lits (F := F) 0) (Shape.Idx.first (numel1_S1 ▸ Nat.one_pos)) = lit0 (pos t) :=
  of_decide_eq_true (p := ∀ t : Fin grid0.N, @Eq (BitVec 32) (View.readAt (Elt F) (Memref.whole main_c : Memref sig .tc .smem S136 .i32).view (Rect.unit (s := S136) (k0_off1 (grid0.coords t)) S1.size (k0_off1_inb (grid0.coords t))).toLoadRect (lits (F := F) 0) (Shape.Idx.first (numel1_S1 ▸ Nat.one_pos))) (lit0 (pos t))) (by sl_kernel_rfl)
theorem word1 : ∀ t : Fin grid0.N, View.readAt (Elt F) (Memref.whole main_c_0 : Memref sig .tc .smem S136 .i32).view (Rect.unit (s := S136) (k0_off1 (grid0.coords t)) S1.size (k0_off1_inb (grid0.coords t))).toLoadRect (lits (F := F) 1) (Shape.Idx.first (numel1_S1 ▸ Nat.one_pos)) = lit1 (pos t) :=
  of_decide_eq_true (p := ∀ t : Fin grid0.N, @Eq (BitVec 32) (View.readAt (Elt F) (Memref.whole main_c_0 : Memref sig .tc .smem S136 .i32).view (Rect.unit (s := S136) (k0_off1 (grid0.coords t)) S1.size (k0_off1_inb (grid0.coords t))).toLoadRect (lits (F := F) 1) (Shape.Idx.first (numel1_S1 ▸ Nat.one_pos))) (lit1 (pos t))) (by sl_kernel_rfl)

/-- A point's pair is on the diagonal or below it; the first point's is on it. -/
theorem pair_cases : ∀ t : Fin 136,
    ((Scalar.cmpi .ne (Scalar.extui (Scalar.cmpi .eq (lit1 t) (lit0 t)) : BitVec 32) 0#32 = 1#1 ∧ ¬ k0_cond2 (lit0 t) (lit1 t) = 1#1)
      ∨ (0 < t.val ∧ ¬ Scalar.cmpi .ne (Scalar.extui (Scalar.cmpi .eq (lit1 t) (lit0 t)) : BitVec 32) 0#32 = 1#1 ∧ k0_cond2 (lit0 t) (lit1 t) = 1#1)) := by
  decide +kernel

end Cert.Kernel3Ideal.Mla
-- ==== Proof.MlaIdealLaunch.lean ====
module

public import proofs.«01_k».proof.Proof.Gen.Kernel3Ideal.Launch
public import proofs.«01_k».proof.Proof.MlaIdealKit
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.StableHlo.RunRead
public import Idealize.ShloMosaic.Lib.WordCmp
public import Idealize.ShloMosaic.Lib.VecWindow
public import Idealize.ShloMosaic.Lib.Claim

/-! The attention call launched: what a track of the scratch from point to point makes of the output
    array; the argument arrays unchanged. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.Kernel3Ideal Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tables' contents are admissible; the pipeline at them. -/
abbrev adm : (pcfg0 (F := F)).Adm := ⟨tbl m, by rw [tbl_eq]; exact ok_lits⟩
abbrev cfgM : Pipeline.Cfg sig Λ₀ := cfg0 (adm m)

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev tb0 : Memref sig .tc .smem S136 .i32 := Memref.whole main_c
abbrev tb1 : Memref sig .tc .smem S136 .i32 := Memref.whole main_c_0
abbrev ms0 (t : Fin (cfgM m).N) : Memref sig .tc .vmem S4x8x128x512 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4x8x512x128 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S4x8x80x512 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S4x512x512 .bf16 := spec0_3.stage ((cfgM m).slots t 3)
abbrev hs3 (t : Fin (cfgM m).N) : (ms3 m t).IsWhole := hstage0_3 (((cfgM m).slots t 3).cast nbuf0_3)
abbrev sc0 : Memref sig .tc .vmem S2x32x1x512 .f32 := Memref.whole cc0_scratch0
abbrev sc1 : Memref sig .tc .vmem S2x32x80x512 .f32 := Memref.whole cc0_scratch1
abbrev sc2 : Memref sig .tc .smem S1 .i32 := Memref.whole cc0_scratch2

/-- The words of point `t`'s pair. -/
abbrev w0 (t : Fin (cfgM m).N) : BitVec 32 := lit0 (pos t)
abbrev w1 (t : Fin (cfgM m).N) : BitVec 32 := lit1 (pos t)

/-- A track: after point `t` the scratch's current slot is as `J t` says, and the block of a pair that
    closes its queries is as `O t` says. -/
structure Track (c : Dev nD) (J : ℕ → Bool → Bf (F := F) c sc0 → Bf (F := F) c sc1 → Prop) (O : Fin (cfgM m).N → Vec F S4x512x512 .bf16 → Prop) : Prop where
  diag : ∀ (t : Fin (cfgM m).N), ¬ k0_cond2 (w0 m t) (w1 m t) = 1#1 → ∀ (f7 : Bf (F := F) c sc0) (f8 : Bf (F := F) c sc1),
    J t.val false (sc0.view.writes (Elt F) f7 (diagRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) ((hs0 m t).unread (iblk m c 0 t)) ((hs1 m t).unread (iblk m c 1 t)) ((hs2 m t).unread (iblk m c 2 t))).1.1) (sc1.view.writes (Elt F) f8 (diagRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) ((hs0 m t).unread (iblk m c 0 t)) ((hs1 m t).unread (iblk m c 1 t)) ((hs2 m t).unread (iblk m c 2 t))).1.2)
  lazy : ∀ (t : Fin (cfgM m).N) (n : ℕ), t.val = n + 1 → ∀ (hp : k0_cond2 (w0 m t) (w1 m t) = 1#1) (b : Bool) (f7 : Bf (F := F) c sc0) (f8 : Bf (F := F) c sc1), J n b f7 f8 →
    J n b (sc0.view.writes (Elt F) f7 (lazyRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp ((hs0 m t).unread (iblk m c 0 t)) ((hs1 m t).unread (iblk m c 1 t)) ((hs2 m t).unread (iblk m c 2 t)) f7 f8).1.1) (sc1.view.writes (Elt F) f8 (lazyRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp ((hs0 m t).unread (iblk m c 0 t)) ((hs1 m t).unread (iblk m c 1 t)) ((hs2 m t).unread (iblk m c 2 t)) f7 f8).1.2.1)
    ∧ J t.val (!b) (sc0.view.writes (Elt F) f7 (lazyRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp ((hs0 m t).unread (iblk m c 0 t)) ((hs1 m t).unread (iblk m c 1 t)) ((hs2 m t).unread (iblk m c 2 t)) f7 f8).1.1) (sc1.view.writes (Elt F) f8 (lazyRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp ((hs0 m t).unread (iblk m c 0 t)) ((hs1 m t).unread (iblk m c 1 t)) ((hs2 m t).unread (iblk m c 2 t)) f7 f8).1.2.1)
  trip : ∀ (t : Fin (cfgM m).N) (n : ℕ), t.val = n + 1 → ∀ (hp : k0_cond2 (w0 m t) (w1 m t) = 1#1) (b : Bool) (w : BitVec 1) (hw : k0_chk2 (w0 m t) (w1 m t) (slot b) w) (h3 : k0_cond3 w = 1#1) (k : Fin k0_t1_loop.trips) (f7 : Bf (F := F) c sc0) (f8 : Bf (F := F) c sc1), J n b f7 f8 ∧ J t.val (!b) f7 f8 →
    J n b (sc0.view.writes (Elt F) f7 (tripRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp w hw h3 k ((hs0 m t).unread (iblk m c 0 t)) ((hs1 m t).unread (iblk m c 1 t)) ((hs2 m t).unread (iblk m c 2 t)) f7 f8).1.1) (sc1.view.writes (Elt F) f8 (tripRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp w hw h3 k ((hs0 m t).unread (iblk m c 0 t)) ((hs1 m t).unread (iblk m c 1 t)) ((hs2 m t).unread (iblk m c 2 t)) f7 f8).1.2)
    ∧ J t.val (!b) (sc0.view.writes (Elt F) f7 (tripRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp w hw h3 k ((hs0 m t).unread (iblk m c 0 t)) ((hs1 m t).unread (iblk m c 1 t)) ((hs2 m t).unread (iblk m c 2 t)) f7 f8).1.1) (sc1.view.writes (Elt F) f8 (tripRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b hp w hw h3 k ((hs0 m t).unread (iblk m c 0 t)) ((hs1 m t).unread (iblk m c 1 t)) ((hs2 m t).unread (iblk m c 2 t)) f7 f8).1.2)
  fin : ∀ (t : Fin (cfgM m).N) (h4 : k0_cond4 (w0 m t) (w1 m t) = 1#1) (b : Bool) (f7 : Bf (F := F) c sc0) (f8 : Bf (F := F) c sc1) (f6 : Bf (F := F) c (ms3 m t)), J t.val b f7 f8 →
    O t ((ms3 m t).view.read (Elt F) ((ms3 m t).view.writes (Elt F) f6 (finRun c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) b h4 f8).1))

/-- The scratch at some contents. -/
abbrev anyScr (c : Dev nD) : sProp 𝕄 := iprop(∃ f7 f8 f9, pt (F := F) c sc0 fullShare f7 ∗ pt (F := F) c sc1 fullShare f8 ∗ pt (F := F) c sc2 fullShare f9)

/-- The scratch before the `n`-th point. -/
def trk (c : Dev nD) (J : ℕ → Bool → Bf (F := F) c sc0 → Bf (F := F) c sc1 → Prop) : ℕ → sProp 𝕄
  | 0 => anyScr c
  | n + 1 => scr c sc0 sc1 sc2 (J n)

theorem trk_zero (c : Dev nD) (J : ℕ → Bool → Bf (F := F) c sc0 → Bf (F := F) c sc1 → Prop) : trk c J 0 = anyScr (F := F) c := rfl
theorem trk_succ (c : Dev nD) (J : ℕ → Bool → Bf (F := F) c sc0 → Bf (F := F) c sc1 → Prop) (n : ℕ) : trk c J (n + 1) = scr c sc0 sc1 sc2 (J n) := rfl

theorem trk_any (c : Dev nD) (J : ℕ → Bool → Bf (F := F) c sc0 → Bf (F := F) c sc1 → Prop) (n : ℕ) : trk c J n ⊢ anyScr (F := F) c := by
  cases n with
  | zero => exact .rfl
  | succ n =>
    unfold trk scr
    iintro ⟨%b, %f7, %f8, %f9, -, H7, H8, H9⟩
    iexists f7, f8, _
    isplitl [H7]; · iexact H7
    isplitl [H8]; · iexact H8
    iexact H9

theorem any_of_phi (c : Dev nD) : (Pipeline.ΦA spec0 c : sProp 𝕄) ⊢ iprop(anyScr (F := F) c ∗ (∃ r, prngReg c r)) := by
  unfold Pipeline.ΦA; rw [scopedRest0_eq]
  unfold anyScr pt
  simp only [sc0, sc1, sc2, Memref.view_whole, View.set_whole]
  iintro ⟨⟨⟨%f7, H7⟩, ⟨%f8, H8⟩, ⟨%f9, H9⟩⟩, Hg⟩
  isplitr [Hg]
  · iexists f7, f8, f9
    isplitl [H7]; · iexact H7
    isplitl [H8]; · iexact H8
    iexact H9
  iexact Hg

theorem phi_of_any (c : Dev nD) : iprop(anyScr (F := F) c ∗ (∃ r, prngReg c r)) ⊢ (Pipeline.ΦA spec0 c : sProp 𝕄) := by
  unfold Pipeline.ΦA; rw [scopedRest0_eq]
  unfold anyScr pt
  simp only [sc0, sc1, sc2, Memref.view_whole, View.set_whole]
  iintro ⟨⟨%f7, %f8, %f9, H7, H8, H9⟩, Hg⟩
  isplitr [Hg]
  · isplitl [H7]; · iexists f7; iexact H7
    isplitl [H8]; · iexists f8; iexact H8
    iexists f9; iexact H9
  iexact Hg

/-- The tables' halves the body reads. -/
theorem tables_eq (c : Dev nD) : (Pipeline.ΦT pre0 (tbl m) c : sProp 𝕄) = iprop(pt (F := F) c tb0 fullShare.right (lits 0) ∗ pt (F := F) c tb1 fullShare.right (lits 1)) := by
  rw [tbl_eq]
  unfold Pipeline.ΦT Pipeline.prefHeld pt
  rw [show (Finset.univ : Finset (Fin 2)) = insert (0 : Fin 2) {(1 : Fin 2)} from by decide,
    bigSep_insert (by decide), bigSep_singleton]
  simp only [tb0, tb1, Memref.view_whole, View.set_whole]
  rfl

/-- The proof data: the inputs' blocks stay; the scratch along the track. -/
def dats (J : (c : Dev nD) → ℕ → Bool → Bf (F := F) c sc0 → Bf (F := F) c sc1 → Prop) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (ms3 m t).view.read (Elt F) (ms3 m t).view.junk
  Φ n := iprop(trk c (J c) n.val ∗ (∃ r, prngReg c r) ∗ Pipeline.ΦT pre0 (tbl m) c)
  q _ := fullShare
  owed _ := 0

/-- The output window is held to the track's word. -/
abbrev outw : Fin (cfgM m).W → Bool := fun w => w == 3
/-- What the track says of the output window. -/
def rel (O : Fin (cfgM m).N → Vec F S4x512x512 .bf16 → Prop) : (w : Fin (cfgM m).W) → (t : Fin (cfgM m).N) → (((cfgM m).win w).block.Idx → Elt F ((cfgM m).win w).elt) → Prop
  | ⟨3, _⟩ => fun t X => k0_cond4 (w0 m t) (w1 m t) = 1#1 → O t X
  | _ => fun _ _ => True

variable (J : (c : Dev nD) → ℕ → Bool → Bf (F := F) c sc0 → Bf (F := F) c sc1 → Prop) (O : Fin (cfgM m).N → Vec F S4x512x512 .bf16 → Prop)

theorem A_eq (c : Dev nD) (w : Fin (cfgM m).W) : (dats m J c).A w = V m c (Pipeline.arrRef spec0 w) := by
  dsimp only [dats]

theorem after0 (c : Dev nD) (t : Fin (cfgM m).N) : (dats m J c).after 0 t = iblk m c 0 t := by dsimp only [dats]; try rfl
theorem before0 (c : Dev nD) (t : Fin (cfgM m).N) (d) : (dats m J c).before 0 t d = iblk m c 0 t :=
  ((dats m J c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin (cfgM m).N) : (dats m J c).after 1 t = iblk m c 1 t := by dsimp only [dats]; try rfl
theorem before1 (c : Dev nD) (t : Fin (cfgM m).N) (d) : (dats m J c).before 1 t d = iblk m c 1 t :=
  ((dats m J c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin (cfgM m).N) : (dats m J c).after 2 t = iblk m c 2 t := by dsimp only [dats]; try rfl
theorem before2 (c : Dev nD) (t : Fin (cfgM m).N) (d) : (dats m J c).before 2 t d = iblk m c 2 t :=
  ((dats m J c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- What the body is called with at point `t`. -/
def bodyPre (c : Dev nD) (t : Fin (cfgM m).N) : sProp 𝕄 :=
  iprop((dats m J c).Φ t.castSucc ∗ (dats m J c).owesAt () t.castSucc
    ∗ (∃ d, owns (c : Thread nD τ) (ms0 m t) fullShare ((dats m J c).before 0 t d))
    ∗ (∃ d, owns (c : Thread nD τ) (ms1 m t) fullShare ((dats m J c).before 1 t d))
    ∗ (∃ d, owns (c : Thread nD τ) (ms2 m t) fullShare ((dats m J c).before 2 t d))
    ∗ (∃ Y, ⌜((dats m J c).toRRel (outw m) (rel m O)).Finds 3 t Y⌝ ∗ owns (c : Thread nD τ) (ms3 m t) fullShare Y))

/-- and what it returns. -/
def bodyPost (c : Dev nD) (t : Fin (cfgM m).N) : sProp 𝕄 :=
  iprop((dats m J c).Φ t.succ ∗ (dats m J c).owesAt () t.succ
    ∗ owns (c : Thread nD τ) (ms0 m t) fullShare ((dats m J c).after 0 t)
    ∗ owns (c : Thread nD τ) (ms1 m t) fullShare ((dats m J c).after 1 t)
    ∗ owns (c : Thread nD τ) (ms2 m t) fullShare ((dats m J c).after 2 t)
    ∗ (∃ X, ⌜rel m O 3 t X⌝ ∗ owns (c : Thread nD τ) (ms3 m t) fullShare X))

/-- The kernel body at point `t`, on what the pipeline calls it with. -/
abbrev bodyAt (t : Fin (cfgM m).N) : Prog (TpuEff nD τ sig (Elt F) Λ₀ .tc) PUnit :=
  cc0_mla_attn (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _)

/-- Each input's memref at its block: at the contents that read it. -/
theorem owns_pt (c : Dev nD) {sp : Space} {s : Shape} {e : EltTy} (M : Memref sig .tc sp s e) (hM : M.IsWhole) (X : s.Idx → Elt F e) :
    (owns (c : Thread nD τ) M fullShare X : sProp 𝕄) ⊢ pt (F := F) c M fullShare (hM.unread X) := by
  unfold owns pt
  iintro ⟨%f, %hf, H⟩
  obtain rfl := hM.eq_unread hf
  iexact H
theorem pt_owns (c : Dev nD) {sp : Space} {s : Shape} {e : EltTy} (M : Memref sig .tc sp s e) (hM : M.IsWhole) (X : s.Idx → Elt F e) :
    pt (F := F) c M fullShare (hM.unread X) ⊢ (owns (c : Thread nD τ) M fullShare X : sProp 𝕄) := by
  unfold owns pt
  iintro H
  iexists _
  isplitr; · ipureintro; exact hM.read_unread X
  iexact H

variable (htrk : ∀ c, Track m c (J c) O)
include htrk

/-- The body at any point. -/
theorem sound_body (c : Dev nD) (t : Fin (cfgM m).N) :
    bodyPre m J O c t ⊢ wp frame (wpE (defs₀ (F := F)) Variants.none c none) Set.univ (bodyAt m t) (fun _ => bodyPost m J O c t) := by
  unfold bodyPre bodyPost bodyAt
  simp only [before0, before1, before2]
  rw [show (dats m J c).owesAt () t.succ = (dats m J c).owesAt () t.castSucc from rfl,
    after0, after1, after2]
  rw [show (dats m J c).Φ t.castSucc = iprop(trk c (J c) t.val ∗ (∃ r, prngReg c r) ∗ Pipeline.ΦT pre0 (tbl m) c) from rfl,
    show (dats m J c).Φ t.succ = iprop(scr c sc0 sc1 sc2 (J c t.val) ∗ (∃ r, prngReg c r) ∗ Pipeline.ΦT pre0 (tbl m) c) from rfl, tables_eq]
  iintro ⟨⟨HS, Hg, HT0, HT1⟩, Ho, ⟨%d0, H0⟩, ⟨%d1, H1⟩, ⟨%d2, H2⟩, ⟨%Y, -, H3⟩⟩
  ihave H0 := (owns_pt c (ms0 m t) (hs0 m t) (iblk m c 0 t)) $$ H0
  ihave H1 := (owns_pt c (ms1 m t) (hs1 m t) (iblk m c 1 t)) $$ H1
  ihave H2 := (owns_pt c (ms2 m t) (hs2 m t) (iblk m c 2 t)) $$ H2
  ihave H3 := (owns_pt c (ms3 m t) (hs3 m t) Y) $$ H3
  have hpost : iprop((∃ r, prngReg (τ := τ) c r) ∗ (dats m J c).owesAt () t.castSucc) ⊢ iprop(iprop(pt (F := F) c tb0 fullShare.right (lits 0) ∗ pt (F := F) c tb1 fullShare.right (lits 1) ∗ pt (F := F) c (ms0 m t) fullShare ((hs0 m t).unread (iblk m c 0 t)) ∗ pt (F := F) c (ms1 m t) fullShare ((hs1 m t).unread (iblk m c 1 t)) ∗ pt (F := F) c (ms2 m t) fullShare ((hs2 m t).unread (iblk m c 2 t)) ∗ (∃ f6, ⌜∀ _ : k0_cond4 (w0 m t) (w1 m t) = 1#1, O t ((ms3 m t).view.read (Elt F) f6)⌝ ∗ pt (F := F) c (ms3 m t) fullShare f6) ∗ scr c sc0 sc1 sc2 (J c t.val)) -∗ iprop(iprop(scr c sc0 sc1 sc2 (J c t.val) ∗ (∃ r, prngReg c r) ∗ pt (F := F) c tb0 fullShare.right (lits 0) ∗ pt (F := F) c tb1 fullShare.right (lits 1)) ∗ (dats m J c).owesAt () t.castSucc
      ∗ owns (c : Thread nD τ) (ms0 m t) fullShare (iblk m c 0 t) ∗ owns (c : Thread nD τ) (ms1 m t) fullShare (iblk m c 1 t) ∗ owns (c : Thread nD τ) (ms2 m t) fullShare (iblk m c 2 t)
      ∗ (∃ X, ⌜rel m O 3 t X⌝ ∗ owns (c : Thread nD τ) (ms3 m t) fullShare X))) := by
    iintro ⟨Hg, Ho⟩ ⟨HT0, HT1, H0, H1, H2, ⟨%f6, %h6, H3⟩, HS⟩
    isplitl [HS Hg HT0 HT1]
    · isplitl [HS]; · iexact HS
      isplitl [Hg]; · iexact Hg
      isplitl [HT0]; · iexact HT0
      iexact HT1
    isplitl [Ho]; · iexact Ho
    isplitl [H0]; · iapply (pt_owns c (ms0 m t) (hs0 m t) (iblk m c 0 t)); iexact H0
    isplitl [H1]; · iapply (pt_owns c (ms1 m t) (hs1 m t) (iblk m c 1 t)); iexact H1
    isplitl [H2]; · iapply (pt_owns c (ms2 m t) (hs2 m t) (iblk m c 2 t)); iexact H2
    iexists ((ms3 m t).view.read (Elt F) f6)
    isplitr; · ipureintro; exact h6
    unfold owns; iexists f6
    isplitr; · ipureintro; rfl
    iexact H3
  rcases pair_cases (pos t) with ⟨hd, hn⟩ | ⟨h0, hd, hp⟩
  · iapply (diagPoint c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) (lits 0) (lits 1) (word0 t) (word1 t) hd hn ((hs0 m t).unread (iblk m c 0 t)) ((hs1 m t).unread (iblk m c 1 t)) ((hs2 m t).unread (iblk m c 2 t)) (J c t.val) (fun f6 => O t ((ms3 m t).view.read (Elt F) f6)) (fun h4 b f7 f8 f6 h => (htrk c).fin t h4 b f7 f8 f6 h) (fun f7 f8 => (htrk c).diag t hn f7 f8) Set.univ _)
    isplitl [HT0]; · iexact HT0
    isplitl [HT1]; · iexact HT1
    isplitl [H0]; · iexact H0
    isplitl [H1]; · iexact H1
    isplitl [H2]; · iexact H2
    isplitl [H3]; · iexists _; iexact H3
    isplitl [HS]; · iapply (trk_any c (J c) t.val); iexact HS
    iapply hpost
    isplitl [Hg]; · iexact Hg
    iexact Ho
  · obtain ⟨n, hn⟩ : ∃ n, t.val = n + 1 := ⟨t.val - 1, by have h0' : 0 < t.val := h0; omega⟩
    have hs : trk c (J c) t.val ⊢ scr c sc0 sc1 sc2 (J c n) := by rw [hn, trk_succ]
    iapply (lazyPoint c (grid0.coords t) tb0 (Memref.isWhole_whole _) tb1 (Memref.isWhole_whole _) (ms0 m t) (hs0 m t) (ms1 m t) (hs1 m t) (ms2 m t) (hs2 m t) (ms3 m t) (hs3 m t) sc0 (Memref.isWhole_whole _) sc1 (Memref.isWhole_whole _) sc2 (Memref.isWhole_whole _) (w0 m t) (w1 m t) (lits 0) (lits 1) (word0 t) (word1 t) hd hp ((hs0 m t).unread (iblk m c 0 t)) ((hs1 m t).unread (iblk m c 1 t)) ((hs2 m t).unread (iblk m c 2 t)) (J c n) (J c t.val) (fun f6 => O t ((ms3 m t).view.read (Elt F) f6)) (fun h4 b f7 f8 f6 h => (htrk c).fin t h4 b f7 f8 f6 h) (fun b f7 f8 h => (htrk c).lazy t n hn hp b f7 f8 h) (fun b w hw h3 k f7 f8 h => (htrk c).trip t n hn hp b w hw h3 k f7 f8 h) Set.univ _)
    isplitl [HT0]; · iexact HT0
    isplitl [HT1]; · iexact HT1
    isplitl [H0]; · iexact H0
    isplitl [H1]; · iexact H1
    isplitl [H2]; · iexact H2
    isplitl [H3]; · iexists _; iexact H3
    isplitl [HS]; · iapply hs; iexact HS
    iapply hpost
    isplitl [Hg]; · iexact Hg
    iexact Ho

omit htrk in
/-- The body table's row at point `t`'s slots is the body. -/
theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : Pipeline.BodyObligationRel (dats (F := F) m J c) (defs₀ (F := F)) Variants.none () Set.univ (outw m) (rel m O) := fun t => by
  rw [bigSep_W0, bigSep_W0, defs₀_row m]
  exact triple_restated (sound_body m J O htrk c t) rfl .rfl fun _ => .rfl

set_option backward.isDefEq.respectTransparency.types false in
/-- The launch: every array as the track makes it, every other buffer as the call found it, the
    counters back at zero. -/
theorem run_main : θ_run defs (onTc (τ := τ) (main (F := F))) (s₀ m ρ) (fun r => (Pipeline.RDat.FramePost (cfgM m) (fun c => (dats m J c).toRRel (outw m) (rel m O)) (V m)) r ∧ r.2.sem = fun _ => 0) :=
  Pipeline.RDat.θ_run_frameP_track (Q' := _) pcfgs (fun _ => adm m) (0 : Fin 1) launch0 defs₀ Variants.none (fun c => (dats m J c).toRRel (outw m) (rel m O)) m ρ main
    (hbody := fun c => (body_obligation m J O htrk c).toRRel) (hshare := fun c => ((dats m J c).toRRel (outw m) (rel m O)).share_full fun _ => rfl)
    (howed := fun _ _ => rfl) (V := V m) (hmain := hmain m) (hA := fun c w => A_eq m J c w) (hpf := V_pre m)
    (hin := fun c => by
      show iprop(Pipeline.ΦA spec0 c ∗ Pipeline.ΦT pre0 (tbl m) c) ⊢ iprop(trk c (J c) 0 ∗ (∃ r, prngReg c r) ∗ Pipeline.ΦT pre0 (tbl m) c)
      rw [trk_zero]
      iintro ⟨HA, HT⟩
      ihave HA := (any_of_phi (F := F) c) $$ HA
      icases HA with ⟨HS, Hg⟩
      isplitl [HS]; · iexact HS
      isplitl [Hg]; · iexact Hg
      iexact HT)
    (hout := fun c => by
      show iprop(trk c (J c) (Fin.last (cfgM m).N).val ∗ (∃ r, prngReg c r) ∗ Pipeline.ΦT pre0 (tbl m) c) ⊢ Pipeline.ΦA spec0 c
      iintro ⟨HS, Hg, -⟩
      iapply (phi_of_any (F := F) c)
      isplitl [HS]; · iapply (trk_any c (J c) _); iexact HS
      iexact Hg)

omit htrk in
/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have ht : ∀ c, Track m c (fun _ _ _ _ => True) (fun _ _ => True) := fun c =>
    ⟨fun _ _ _ _ => trivial, fun _ _ _ _ _ _ _ _ => ⟨trivial, trivial⟩, fun _ _ _ _ _ _ _ _ _ _ _ _ => ⟨trivial, trivial⟩, fun _ _ _ _ _ _ _ => trivial⟩
  refine (θ_run defs _ _).mono (fun r h => ⟨fun c => ?_, h.2⟩) (run_main m ρ (fun _ _ _ _ _ => True) (fun _ _ => True) ht)
  exact ⟨((h.1 c).2 main_arg0 (by decide : main_arg0 ∈ Pipeline.restRefs sig spec0)).trans (V_arg m c _ (by decide)),
      ((h.1 c).2 main_arg1 (by decide : main_arg1 ∈ Pipeline.restRefs sig spec0)).trans (V_arg m c _ (by decide)),
      ((h.1 c).2 main_arg2 (by decide : main_arg2 ∈ Pipeline.restRefs sig spec0)).trans (V_arg m c _ (by decide)),
      ((h.1 c).2 main_arg3 (by decide : main_arg3 ∈ Pipeline.restRefs sig spec0)).trans (V_arg m c _ (by decide)),
      ((h.1 c).2 main_arg4 (by decide : main_arg4 ∈ Pipeline.restRefs sig spec0)).trans (V_arg m c _ (by decide))⟩

end Cert.Kernel3Ideal.Mla
-- ==== Proof.MlaIdealArr.lean ====
module

public import proofs.«01_k».proof.Proof.MlaIdealGood
public import proofs.«01_k».proof.Proof.MlaIdealLaunch

/-! The attention call's tables and blocks: which rows of the arrays a point's pair sees, and the order the pairs come in. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- The pipeline at the tables' own contents. -/
abbrev admL : (pcfg0 (F := Ideal)).Adm := ⟨lits, ok_lits⟩

/-- The windows' block indices are the tables' words. -/
def IdxOk (a : (pcfg0 (F := Ideal)).Adm) : Prop :=
  ∀ t : Fin grid0.N, ((cfg0 a).win 0).index t = ![0, 0, 0, (lit0 (pos t)).toNat]
    ∧ ((cfg0 a).win 1).index t = ![0, 0, (lit1 (pos t)).toNat, 0]
    ∧ ((cfg0 a).win 2).index t = ![0, 0, 0, (lit1 (pos t)).toNat]
    ∧ ((cfg0 a).win 3).index t = ![0, (lit0 (pos t)).toNat, 0]
set_option maxHeartbeats 800000 in
theorem idxL : IdxOk admL := by unfold IdxOk; decide +kernel

/-- The output block is put back only after a pair that closes its queries. -/
def FlushOk (a : (pcfg0 (F := Ideal)).Adm) : Prop :=
  ∀ t : Fin grid0.N, ((cfg0 a).win 3).flush t = true → k0_cond4 (lit0 (pos t)) (lit1 (pos t)) = 1#1
set_option maxHeartbeats 800000 in
theorem flushL : FlushOk admL := by unfold FlushOk; decide +kernel

/-- Every block of queries is put back at some point. -/
def CoverOk (a : (pcfg0 (F := Ideal)).Adm) : Prop :=
  ∀ n : Fin 16, ∃ t : Fin grid0.N, ((cfg0 a).win 3).flush t = true ∧ (lit0 (pos t)).toNat = n.val
set_option maxHeartbeats 800000 in
theorem coverL : CoverOk admL := by unfold CoverOk; decide +kernel

/-- A point's blocks of queries and of keys; how many blocks of keys below the queries' own it has seen. -/
def qn (p : Fin 136) : ℕ := (lit0 p).toNat
def kn (p : Fin 136) : ℕ := (lit1 p).toNat
def cnt (p : Fin 136) : ℕ := if kn p = qn p then 0 else kn p + 1

theorem qn_lt : ∀ p : Fin 136, qn p < 16 := by decide +kernel
theorem kn_lt : ∀ p : Fin 136, kn p < 16 := by decide +kernel
theorem at_diag : ∀ p : Fin 136, ¬ k0_cond2 (lit0 p) (lit1 p) = 1#1 → kn p = qn p := by decide +kernel
theorem at_lazy : ∀ p p' : Fin 136, p.val = p'.val + 1 → k0_cond2 (lit0 p) (lit1 p) = 1#1 → qn p' = qn p ∧ kn p = cnt p' ∧ cnt p = cnt p' + 1 := by
  have h : ∀ n : Fin 135, k0_cond2 (lit0 n.succ) (lit1 n.succ) = 1#1 → qn n.castSucc = qn n.succ ∧ kn n.succ = cnt n.castSucc ∧ cnt n.succ = cnt n.castSucc + 1 := by decide +kernel
  intro p p' e
  have e1 : p = (⟨p'.val, by omega⟩ : Fin 135).succ := Fin.ext e
  have := h ⟨p'.val, by omega⟩
  rw [← e1] at this
  exact this
theorem at_close : ∀ p : Fin 136, k0_cond4 (lit0 p) (lit1 p) = 1#1 → cnt p = qn p := by decide +kernel

/-- Row `q` of block `n`. -/
def gl (n : ℕ) (q : Fin 512) : Fin 8192 := ⟨(512 * n + q.val) % 8192, Nat.mod_lt _ (by decide)⟩
theorem gl_val {n : ℕ} (h : n < 16) (q : Fin 512) : (gl n q).val = 512 * n + q.val := Nat.mod_eq_of_lt (by have := q.isLt; omega)

section
variable (m : (ℓ : Loc nD τ sig) → Buf (Elt Ideal) ℓ)
theorem adm_eq : adm m = admL := Subtype.ext (tbl_eq m)
theorem idx : IdxOk (adm m) := by rw [adm_eq]; exact idxL
theorem flush_close : FlushOk (adm m) := by rw [adm_eq]; exact flushL
theorem cover : CoverOk (adm m) := by rw [adm_eq]; exact coverL

theorem blk0 (c : Dev nD) (t : Fin (cfgM m).N) (b : Fin 4) (h : Fin 8) (d : Fin 128) (q : Fin 512) :
    iblk m c 0 t (ix4 b h d q) = V m c main_v8 (ix4 b h d (gl (qn (pos t)) q)) := by
  have e : iblk m c 0 t (ix4 b h d q) = V m c main_v8 (ix4 b h d (⟨(lit0 (pos t)).toNat * 512 + q.val, by have := qn_lt (pos t); unfold qn at this; omega⟩ : Fin 8192)) := by
    blk_ext [iblk, (idx m t).1]
  rw [e]
  refine congrArg (V m c main_v8) (congrArg (ix4 b h d) (Fin.ext ?_))
  refine Eq.trans ?_ (gl_val (qn_lt _) _).symm
  show (lit0 (pos t)).toNat * 512 + q.val = 512 * (lit0 (pos t)).toNat + q.val
  omega
theorem blk1 (c : Dev nD) (t : Fin (cfgM m).N) (b : Fin 4) (h : Fin 8) (k : Fin 512) (d : Fin 128) :
    iblk m c 1 t (ix4 b h k d) = V m c main_v14 (ix4 b h (gl (kn (pos t)) k) d) := by
  have e : iblk m c 1 t (ix4 b h k d) = V m c main_v14 (ix4 b h (⟨(lit1 (pos t)).toNat * 512 + k.val, by have := kn_lt (pos t); unfold kn at this; omega⟩ : Fin 8192) d) := by
    blk_ext [iblk, (idx m t).2.1]
  rw [e]
  refine congrArg (V m c main_v14) (congrArg (fun z => ix4 b h z d) (Fin.ext ?_))
  refine Eq.trans ?_ (gl_val (kn_lt _) _).symm
  show (lit1 (pos t)).toNat * 512 + k.val = 512 * (lit1 (pos t)).toNat + k.val
  omega
theorem blk2 (c : Dev nD) (t : Fin (cfgM m).N) (b : Fin 4) (h : Fin 8) (r : Fin 80) (k : Fin 512) :
    iblk m c 2 t (ix4 b h r k) = V m c main_v19 (ix4 b h r (gl (kn (pos t)) k)) := by
  have e : iblk m c 2 t (ix4 b h r k) = V m c main_v19 (ix4 b h r (⟨(lit1 (pos t)).toNat * 512 + k.val, by have := kn_lt (pos t); unfold kn at this; omega⟩ : Fin 8192)) := by
    blk_ext [iblk, (idx m t).2.2.1]
  rw [e]
  refine congrArg (V m c main_v19) (congrArg (ix4 b h r) (Fin.ext ?_))
  refine Eq.trans ?_ (gl_val (kn_lt _) _).symm
  show (lit1 (pos t)).toNat * 512 + k.val = 512 * (lit1 (pos t)).toNat + k.val
  omega
end

end Cert.Kernel3Ideal.Mla
-- ==== Proof.MlaIdealFinPay.lean ====
module

public import proofs.«01_k».proof.Proof.MlaIdealPay
public import proofs.«01_k».proof.Proof.MlaIdealRead

/-! The closing division: its four pieces, one per sequence, and what the output block then holds. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Eight heads' sums, and their weights' totals, in a slot. -/
abbrev UR (e : Fin 4) : Rect S32x80x512 := Rect.unit (s := S32x80x512) ![8 * e.val, 0, 0] S8x64x512.size (by revert e; decide)
abbrev UL (e : Fin 4) : Rect S32x80x512 := Rect.unit (s := S32x80x512) ![8 * e.val, 64, 0] S8x1x512.size (by revert e; decide)
abbrev CR (e : Fin 4) : Rect ⟨4, ![1, 32, 80, 512]⟩ := (UR e).consLift ![1, 32, 80, 512] (by decide) (by decide)
abbrev CL (e : Fin 4) : Rect ⟨4, ![1, 32, 80, 512]⟩ := (UL e).consLift ![1, 32, 80, 512] (by decide) (by decide)
theorem nR (e : Fin 4) : (CR e).shape.numel = (UR e).shape.numel := Rect.numel_consLift _ _ _ _
theorem nL (e : Fin 4) : (CL e).shape.numel = (UL e).shape.numel := Rect.numel_consLift _ _ _ _

section
variable (c : Dev nD) (arg8 : Memref sig .tc .vmem S2x32x80x512 .f32)
def rowsOf (b : Bool) (f8 : Bf (F := F) c arg8) (e : Fin 4) : FVec F S8x64x512 .f32 :=
  fun x : S8x64x512.Idx => View.readAt (Elt F) arg8.view ((T8 b).withinL (CR e).toLoadRect (by intro _; rfl)) f8 (Shape.reshapeEquiv (nR e).symm x)
def lastOf (b : Bool) (f8 : Bf (F := F) c arg8) (e : Fin 4) : FVec F S8x1x512 .f32 :=
  fun x : S8x1x512.Idx => View.readAt (Elt F) arg8.view ((T8 b).withinL (CL e).toLoadRect (by intro _; rfl)) f8 (Shape.reshapeEquiv (nL e).symm x)

/-- A sequence's piece of the output block. -/
def P6 (b : Bool) (f8 : Bf (F := F) c arg8) (e : Fin 4) : View.Piece (Elt F) S4x512x512 .bf16 :=
  ⟨Rect.unit (s := S4x512x512) ![e.val, 0, 0] S1x512x512.size (by revert e; decide), k0_pay7 (rowsOf c arg8 b f8 e) (lastOf c arg8 b f8 e)⟩
end

section
variable (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32) (k0_h4 : k0_cond4 v1 v3 = 1#1) (f8 : Bf (F := F) c arg8)
theorem fin0_L : (finRun0 c i arg1 harg1 arg2 harg2 arg3 harg3 arg4 harg4 arg5 harg5 arg6 harg6 arg7 harg7 arg8 harg8 arg9 harg9 v1 v3 k0_h4 f8).1 = [P6 c arg8 false f8 3, P6 c arg8 false f8 2, P6 c arg8 false f8 1, P6 c arg8 false f8 0] := by
  sl_kernel_rfl
theorem fin1_L : (finRun1 c i arg1 harg1 arg2 harg2 arg3 harg3 arg4 harg4 arg5 harg5 arg6 harg6 arg7 harg7 arg8 harg8 arg9 harg9 v1 v3 k0_h4 f8).1 = [P6 c arg8 true f8 3, P6 c arg8 true f8 2, P6 c arg8 true f8 1, P6 c arg8 true f8 0] := by
  sl_kernel_rfl
end

section
variable (c : Dev nD) (arg8 : Memref sig .tc .vmem S2x32x80x512 .f32)

theorem rowsOf_apply (b : Bool) (f8 : Bf (F := F) c arg8) (e : Fin 4) (k : Fin 8) (r : Fin 64) (q : Fin 512) :
    rowsOf c arg8 b f8 e (ix3 k r q) = arg8.view.read (Elt F) f8 (ix4 (sc b) (⟨8 * e.val + k.val, by omega⟩ : Fin 32) (⟨r.val, by omega⟩ : Fin 80) q) := by
  unfold rowsOf
  have e0 : (Shape.reshapeEquiv (nR e).symm (ix3 k r q) : (CR e).shape.Idx) = fun a => match a with | ⟨0, _⟩ => (0 : Fin 1) | ⟨1, _⟩ => k | ⟨2, _⟩ => r | ⟨3, _⟩ => q := by
    refine (Shape.reshapeEquiv_cons_one (d := (UR e).size) _ _).trans ?_
    funext a; fin_cases a <;> rfl
  refine congrArg (arg8.view.read (Elt F) f8) ?_
  refine (congrArg _ e0).trans ?_
  funext a; apply Fin.ext
  fin_cases a
  · show b.toNat + 0 + 1 * 0 = b.toNat; omega
  · show 0 + 8 * e.val + 1 * k.val = 8 * e.val + k.val; omega
  · show 0 + 0 + 1 * r.val = r.val; omega
  · show 0 + 0 + 1 * q.val = q.val; omega
theorem lastOf_apply (b : Bool) (f8 : Bf (F := F) c arg8) (e : Fin 4) (k : Fin 8) (q : Fin 512) :
    lastOf c arg8 b f8 e (ix3 k (0 : Fin 1) q) = arg8.view.read (Elt F) f8 (ix4 (sc b) (⟨8 * e.val + k.val, by omega⟩ : Fin 32) (64 : Fin 80) q) := by
  unfold lastOf
  have e0 : (Shape.reshapeEquiv (nL e).symm (ix3 k (0 : Fin 1) q) : (CL e).shape.Idx) = fun a => match a with | ⟨0, _⟩ => (0 : Fin 1) | ⟨1, _⟩ => k | ⟨2, _⟩ => (0 : Fin 1) | ⟨3, _⟩ => q := by
    refine (Shape.reshapeEquiv_cons_one (d := (UL e).size) _ _).trans ?_
    funext a; fin_cases a <;> rfl
  refine congrArg (arg8.view.read (Elt F) f8) ?_
  refine (congrArg _ e0).trans ?_
  funext a; apply Fin.ext
  fin_cases a
  · show b.toNat + 0 + 1 * 0 = b.toNat; omega
  · show 0 + 8 * e.val + 1 * k.val = 8 * e.val + k.val; omega
  · show 0 + 64 + 1 * 0 = 64; omega
  · show 0 + 0 + 1 * q.val = q.val; omega

theorem pay7_apply (x : FVec Ideal S8x64x512 .f32) (y : FVec Ideal S8x1x512 .f32) (q j : Fin 512) :
    (k0_pay7 (F := Ideal) x y (ix3 (0 : Fin 1) q j) : EReal) = (x (ix3 (⟨j.val / 64, by omega⟩ : Fin 8) (⟨j.val % 64, by omega⟩ : Fin 64) q) : EReal) * FloatOps.divf (F := Ideal) (φ := .f32) (1 : EReal) (y (ix3 (⟨j.val / 64, by omega⟩ : Fin 8) (0 : Fin 1) q)) := by
  unfold k0_pay7
  pointwise

theorem read6 {κ : Kind} {sp : Space} (v : View sig κ sp S4x512x512 .bf16) (f : v.ty.Contents (Elt F)) (b : Bool) (f8 : Bf (F := F) c arg8) (e : Fin 4) (q j : Fin 512) :
    v.read (Elt F) (v.writes (Elt F) f [P6 c arg8 b f8 3, P6 c arg8 b f8 2, P6 c arg8 b f8 1, P6 c arg8 b f8 0]) (ix3 e q j) = k0_pay7 (rowsOf c arg8 b f8 e) (lastOf c arg8 b f8 e) (ix3 (0 : Fin 1) q j) := by
  have em : ∀ (e : Fin 4) (x : (P6 c arg8 b f8 e).1.shape.Idx), (P6 c arg8 b f8 e).1.emb x = ix3 e (⟨(x (1 : Fin 3)).val, (x (1 : Fin 3)).isLt⟩ : Fin 512) (⟨(x (2 : Fin 3)).val, (x (2 : Fin 3)).isLt⟩ : Fin 512) := by
    intro e x
    have h0 := (x (0 : Fin 3)).isLt; change (x (0 : Fin 3)).val < 1 at h0
    funext a; apply Fin.ext; fin_cases a
    · show e.val + 1 * (x (0 : Fin 3)).val = e.val; omega
    · show 0 + 1 * (x (1 : Fin 3)).val = (x (1 : Fin 3)).val; omega
    · show 0 + 1 * (x (2 : Fin 3)).val = (x (2 : Fin 3)).val; omega
  have all : ∀ p ∈ [P6 c arg8 b f8 3, P6 c arg8 b f8 2, P6 c arg8 b f8 1, P6 c arg8 b f8 0], ∃ e, p = P6 c arg8 b f8 e := by
    intro p hp
    simp only [List.mem_cons, List.not_mem_nil, or_false] at hp
    rcases hp with rfl | rfl | rfl | rfl
    exacts [⟨3, rfl⟩, ⟨2, rfl⟩, ⟨1, rfl⟩, ⟨0, rfl⟩]
  refine View.read_writes_apply_of_pieces v f (fun y => k0_pay7 (rowsOf c arg8 b f8 ⟨(y (0 : Fin 3)).val, (y (0 : Fin 3)).isLt⟩) (lastOf c arg8 b f8 ⟨(y (0 : Fin 3)).val, (y (0 : Fin 3)).isLt⟩)
    (ix3 (0 : Fin 1) (⟨(y (1 : Fin 3)).val, (y (1 : Fin 3)).isLt⟩ : Fin 512) (⟨(y (2 : Fin 3)).val, (y (2 : Fin 3)).isLt⟩ : Fin 512))) _ ?_ _ ?_
  · intro p hp x
    obtain ⟨e', rfl⟩ := all p hp
    rw [em]
    refine congrArg (k0_pay7 (rowsOf c arg8 b f8 e') (lastOf c arg8 b f8 e')) ?_
    have h0 := (x (0 : Fin 3)).isLt; change (x (0 : Fin 3)).val < 1 at h0
    funext a; apply Fin.ext; fin_cases a
    · show (x (0 : Fin 3)).val = 0; omega
    · rfl
    · rfl
  · refine ⟨P6 c arg8 b f8 e, ?_, ?_⟩
    · fin_cases e <;> simp
    · have := em e (fun a => match a with | ⟨0, _⟩ => (0 : Fin 1) | ⟨1, _⟩ => q | ⟨2, _⟩ => j)
      rw [show (ix3 e q j : S4x512x512.Idx) = (P6 c arg8 b f8 e).1.emb (fun a => match a with | ⟨0, _⟩ => (0 : Fin 1) | ⟨1, _⟩ => q | ⟨2, _⟩ => j) from this.symm]
      exact emb_mem _ _
end

end Cert.Kernel3Ideal.Mla
-- ==== Proof.MlaIdealTrack.lean ====
module

public import proofs.«01_k».proof.Proof.MlaIdealArr
public import proofs.«01_k».proof.Proof.MlaIdealFinPay

/-! The track of the attention's slots over the reals: which sums they hold after each point, and the quotient a closing point writes. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

section
variable (c : Dev nD) (i : grid0.Coords) (arg1 : Memref sig .tc .smem S136 .i32) (harg1 : arg1.IsWhole) (arg2 : Memref sig .tc .smem S136 .i32) (harg2 : arg2.IsWhole) (arg3 : Memref sig .tc .vmem S4x8x128x512 .bf16) (harg3 : arg3.IsWhole) (arg4 : Memref sig .tc .vmem S4x8x512x128 .bf16) (harg4 : arg4.IsWhole) (arg5 : Memref sig .tc .vmem S4x8x80x512 .bf16) (harg5 : arg5.IsWhole) (arg6 : Memref sig .tc .vmem S4x512x512 .bf16) (harg6 : arg6.IsWhole) (arg7 : Memref sig .tc .vmem S2x32x1x512 .f32) (harg7 : arg7.IsWhole) (arg8 : Memref sig .tc .vmem S2x32x80x512 .f32) (harg8 : arg8.IsWhole) (arg9 : Memref sig .tc .smem S1 .i32) (harg9 : arg9.IsWhole) (v1 v3 : BitVec 32)
  (f3 : Bf (F := F) c arg3) (f4 : Bf (F := F) c arg4) (f5 : Bf (F := F) c arg5) (f7 : Bf (F := F) c arg7) (f8 : Bf (F := F) c arg8)
theorem lazy_L7 (b : Bool) (h2 : k0_cond2 v1 v3 = 1#1) : (lazyRun c i arg1 harg1 arg2 harg2 arg3 harg3 arg4 harg4 arg5 harg5 arg6 harg6 arg7 harg7 arg8 harg8 arg9 harg9 v1 v3 b h2 f3 f4 f5 f7 f8).1.1 = L7 (!b) fun h hf => lM hf (kOf c arg4 f4 h) (qOf c arg3 f3 h) (mOf c arg7 b f7 h hf) := by
  cases b
  · exact lazy0_L7 (h2 := h2) ..
  · exact lazy1_L7 (h2 := h2) ..
theorem lazy_L8 (b : Bool) (h2 : k0_cond2 v1 v3 = 1#1) : (lazyRun c i arg1 harg1 arg2 harg2 arg3 harg3 arg4 harg4 arg5 harg5 arg6 harg6 arg7 harg7 arg8 harg8 arg9 harg9 v1 v3 b h2 f3 f4 f5 f7 f8).1.2.1 = L8 (!b) fun h hf => lA hf (kOf c arg4 f4 h) (qOf c arg3 f3 h) (vOf c arg5 f5 h) (mOf c arg7 b f7 h hf) (aOf c arg8 b f8 h hf) := by
  cases b
  · exact lazy0_L8 (h2 := h2) ..
  · exact lazy1_L8 (h2 := h2) ..
theorem trip_L7 (b : Bool) (h2 : k0_cond2 v1 v3 = 1#1) (w : BitVec 1) (hw : k0_chk2 v1 v3 (slot b) w) (h3 : k0_cond3 w = 1#1) (k : Fin k0_t1_loop.trips) :
    (tripRun c i arg1 harg1 arg2 harg2 arg3 harg3 arg4 harg4 arg5 harg5 arg6 harg6 arg7 harg7 arg8 harg8 arg9 harg9 v1 v3 b h2 w hw h3 k f3 f4 f5 f7 f8).1.1 = t7 c arg3 arg4 arg7 f3 f4 f7 b (hd k) := by
  cases b
  · exact trip0_L7 (h2 := h2) (h3 := h3) (hw := hw) ..
  · exact trip1_L7 (h2 := h2) (h3 := h3) (hw := hw) ..
theorem trip_L8 (b : Bool) (h2 : k0_cond2 v1 v3 = 1#1) (w : BitVec 1) (hw : k0_chk2 v1 v3 (slot b) w) (h3 : k0_cond3 w = 1#1) (k : Fin k0_t1_loop.trips) :
    (tripRun c i arg1 harg1 arg2 harg2 arg3 harg3 arg4 harg4 arg5 harg5 arg6 harg6 arg7 harg7 arg8 harg8 arg9 harg9 v1 v3 b h2 w hw h3 k f3 f4 f5 f7 f8).1.2 = t8 c arg3 arg4 arg5 arg7 arg8 f3 f4 f5 f7 f8 b (hd k) := by
  cases b
  · exact trip0_L8 (h2 := h2) (h3 := h3) (hw := hw) ..
  · exact trip1_L8 (h2 := h2) (h3 := h3) (hw := hw) ..
theorem fin_L (b : Bool) (h4 : k0_cond4 v1 v3 = 1#1) : (finRun c i arg1 harg1 arg2 harg2 arg3 harg3 arg4 harg4 arg5 harg5 arg6 harg6 arg7 harg7 arg8 harg8 arg9 harg9 v1 v3 b h4 f8).1 = [P6 c arg8 b f8 3, P6 c arg8 b f8 2, P6 c arg8 b f8 1, P6 c arg8 b f8 0] := by
  cases b
  · exact fin0_L (k0_h4 := h4) ..
  · exact fin1_L (k0_h4 := h4) ..
end

section
variable (m : (ℓ : Loc nD τ sig) → Buf (Elt Ideal) ℓ) (c : Dev nD)
variable (S : Fin 4 → Fin 8 → Fin 8192 → Fin 8192 → ℝ) (W : Fin 4 → Fin 8 → Fin 80 → Fin 8192 → ℝ)

/-- The keys, the queries and the values the call reads. -/
def KM (b : Fin 4) (h : Fin 8) (k : Fin 8192) (d : Fin 128) : EReal := V m c main_v14 (ix4 b h k d)
def QM (b : Fin 4) (h : Fin 8) (d : Fin 128) (q : Fin 8192) : EReal := V m c main_v8 (ix4 b h d q)
def VM (b : Fin 4) (h : Fin 8) (r : Fin 80) (k : Fin 8192) : EReal := V m c main_v19 (ix4 b h r k)

/-- The arrays the call reads, as reals: scores `S` by key and query, rows of values `W` whose row 64 is ones. -/
structure Arr : Prop where
  sc : ∀ (b : Fin 4) (h : Fin 8) (k q : Fin 8192), ∑ d : Fin 128, KM m c b h k d * QM m c b h d q = ((S b h k q : ℝ) : EReal)
  vl : ∀ (b : Fin 4) (h : Fin 8) (r : Fin 80) (k : Fin 8192), VM m c b h r k = ((W b h r k : ℝ) : EReal)
  one : ∀ (b : Fin 4) (h : Fin 8) (k : Fin 8192), W b h 64 k = 1

/-- The scores of block `n`'s queries with block `n'`'s keys, and that block's values; a head and its sequence as one number. -/
def sB (n n' : ℕ) (h : Fin 32) (k q : Fin 512) : ℝ := S ⟨h.val / 8, b8 h⟩ ⟨h.val % 8, h8 h⟩ (gl n' k) (gl n q)
def vB (n' : ℕ) (h : Fin 32) (r : Fin 80) (k : Fin 512) : ℝ := W ⟨h.val / 8, b8 h⟩ ⟨h.val % 8, h8 h⟩ r (gl n' k)

/-- The sums for block `n`'s queries: their own block's keys up to the query, and the `j` first blocks. -/
def acc (n j : ℕ) (h : Fin 32) (r : Fin 80) (q : Fin 512) : ℝ :=
  upto (sB S n n h) (vB W n h) r q + ∑ i ∈ Finset.range j, tot (sB S n i h) (vB W i h) r q

theorem acc_succ (n j : ℕ) : acc S W n (j + 1) = fun h r q => acc S W n j h r q + tot (sB S n j h) (vB W j h) r q := by
  funext h r q; unfold acc; rw [Finset.sum_range_succ, add_assoc]
theorem acc_zero (n : ℕ) : acc S W n 0 = fun h r q => upto (sB S n n h) (vB W n h) r q := by
  funext h r q; unfold acc; rw [Finset.sum_range_zero, add_zero]

variable {S W} in
theorem acc_pos (H : ∀ (b : Fin 4) (h : Fin 8) (k : Fin 8192), W b h 64 k = 1) (n j : ℕ) (h : Fin 32) (q : Fin 512) : 0 < acc S W n j h 64 q := by
  unfold acc upto tot
  refine add_pos_of_pos_of_nonneg ?_ (Finset.sum_nonneg fun i _ => Finset.sum_nonneg fun k _ => ?_)
  · refine Finset.sum_pos' (fun k _ => ?_) ⟨q, Finset.mem_univ _, ?_⟩
    · split
      · unfold vB; rw [H, one_mul]; exact (pw_pos _).le
      · exact le_refl _
    · rw [if_pos (le_refl q)]; unfold vB; rw [H, one_mul]; exact pw_pos _
  · unfold vB; rw [H, one_mul]; exact (pw_pos _).le

/-- The point before which the track stands. -/
def tp (n : ℕ) : Fin 136 := ⟨n % 136, Nat.mod_lt _ (by decide)⟩
theorem tp_eq (p : Fin 136) : tp p.val = p := Fin.ext (Nat.mod_eq_of_lt p.isLt)

/-- After a point the current slot holds its queries' sums so far. -/
def J (n : ℕ) (b : Bool) (f7 : Bf (F := Ideal) c sc0) (f8 : Bf (F := Ideal) c sc1) : Prop := Good c sc0 sc1 (acc S W (qn (tp n)) (cnt (tp n))) b f7 f8

/-- A closing point's block holds each query's quotient. -/
def O (t : Fin (cfgM m).N) (Y : Vec Ideal S4x512x512 .bf16) : Prop :=
  ∀ (b : Fin 4) (q j : Fin 512), (Y (ix3 b q j) : EReal)
    = ((acc S W (qn (pos t)) (qn (pos t)) (⟨8 * b.val + j.val / 64, by omega⟩ : Fin 32) (⟨j.val % 64, by omega⟩ : Fin 80) q
        / acc S W (qn (pos t)) (qn (pos t)) (⟨8 * b.val + j.val / 64, by omega⟩ : Fin 32) (64 : Fin 80) q : ℝ) : EReal)

variable {m c S W} (A : Arr m c S W)
include A

theorem reals_at (t : Fin (cfgM m).N) (h : Fin 32) :
    Reals (kOf c (ms1 m t) ((hs1 m t).unread (iblk m c 1 t)) h) (qOf c (ms0 m t) ((hs0 m t).unread (iblk m c 0 t)) h) (vOf c (ms2 m t) ((hs2 m t).unread (iblk m c 2 t)) h)
      (sB S (qn (pos t)) (kn (pos t)) h) (vB W (kn (pos t)) h) := by
  constructor
  · intro k q
    refine Eq.trans (Finset.sum_congr rfl fun d _ => ?_) (A.sc ⟨h.val / 8, b8 h⟩ ⟨h.val % 8, h8 h⟩ (gl (kn (pos t)) k) (gl (qn (pos t)) q))
    exact congrArg₂ (fun x y : EReal => x * y) ((kOf_apply (F := Ideal) c (ms1 m t) (hs1 m t) _ h k d).trans (blk1 m c t _ _ k d)) ((qOf_apply (F := Ideal) c (ms0 m t) (hs0 m t) _ h d q).trans (blk0 m c t _ _ d q))
  · intro r k
    refine Eq.trans ?_ (A.vl ⟨h.val / 8, b8 h⟩ ⟨h.val % 8, h8 h⟩ r (gl (kn (pos t)) k))
    exact (vOf_apply (F := Ideal) c (ms2 m t) (hs2 m t) _ h r k).trans (blk2 m c t _ _ r k)

theorem quotient (b : Bool) (T : Fin 32 → Fin 80 → Fin 512 → ℝ) (f7 : Bf (F := Ideal) c sc0) (f8 : Bf (F := Ideal) c sc1) (G : Good c sc0 sc1 T b f7 f8)
    (hT : ∀ h q, 0 < T h 64 q) (e : Fin 4) (q j : Fin 512) :
    (k0_pay7 (F := Ideal) (rowsOf c sc1 b f8 e) (lastOf c sc1 b f8 e) (ix3 (0 : Fin 1) q j) : EReal)
      = ((T (⟨8 * e.val + j.val / 64, by omega⟩ : Fin 32) (⟨j.val % 64, by omega⟩ : Fin 80) q / T (⟨8 * e.val + j.val / 64, by omega⟩ : Fin 32) (64 : Fin 80) q : ℝ) : EReal) := by
  obtain ⟨μ, -, hμ⟩ := G (⟨8 * e.val + j.val / 64, by omega⟩ : Fin 32) q
  have p1 : 0 < pw (-μ) := pw_pos _
  have p2 := hT (⟨8 * e.val + j.val / 64, by omega⟩ : Fin 32) q
  have e1 := (rowsOf_apply c sc1 b f8 e (⟨j.val / 64, by omega⟩ : Fin 8) (⟨j.val % 64, by omega⟩ : Fin 64) q).trans (hμ (⟨j.val % 64, by omega⟩ : Fin 80))
  have e2 := (lastOf_apply c sc1 b f8 e (⟨j.val / 64, by omega⟩ : Fin 8) q).trans (hμ 64)
  refine (pay7_apply _ _ q j).trans ?_
  rw [e1, e2]
  show _ * Ideal.div 1 _ = _
  rw [Ideal.div_coe (mul_pos p1 p2).ne', one_mul, ← EReal.coe_mul]
  refine congrArg _ ?_
  field_simp

theorem track : Track m c (J c S W) (O m S W) where
  diag t h2 f7 f8 := by
    rw [diag_L7, diag_L8]
    have e : acc S W (qn (tp t.val)) (cnt (tp t.val)) = fun h r q => upto (sB S (qn (pos t)) (kn (pos t)) h) (vB W (kn (pos t)) h) r q := by
      rw [show tp t.val = pos t from tp_eq (pos t), show cnt (pos t) = 0 from if_pos (at_diag _ h2), acc_zero, at_diag _ h2]
    unfold J; rw [e]
    exact diag_good c (reals_at A t)
  lazy t n ht h2 b f7 f8 G := by
    have a := at_lazy (pos t) (tp n) (by have : t.val < 136 := (pos t).isLt; show t.val = n % 136 + 1; omega) h2
    have e : acc S W (qn (tp t.val)) (cnt (tp t.val)) = fun h r q => acc S W (qn (tp n)) (cnt (tp n)) h r q + tot (sB S (qn (pos t)) (kn (pos t)) h) (vB W (kn (pos t)) h) r q := by
      rw [show tp t.val = pos t from tp_eq (pos t), a.2.2, acc_succ, a.1, a.2.1]
    have := lazy_good (c := c) (reals_at A t) b G
    unfold J; rw [e]
    rw [lazy_L7, lazy_L8]
    exact this
  trip t n ht h2 b w hw h3 k f7 f8 G₀ := by
    obtain ⟨G, G'⟩ := G₀
    have a := at_lazy (pos t) (tp n) (by have : t.val < 136 := (pos t).isLt; show t.val = n % 136 + 1; omega) h2
    have e : acc S W (qn (tp t.val)) (cnt (tp t.val)) = fun h r q => acc S W (qn (tp n)) (cnt (tp n)) h r q + tot (sB S (qn (pos t)) (kn (pos t)) h) (vB W (kn (pos t)) h) r q := by
      rw [show tp t.val = pos t from tp_eq (pos t), a.2.2, acc_succ, a.1, a.2.1]
    unfold J at G G' ⊢
    rw [e] at G' ⊢
    have := trip_good (c := c) (reals_at A t) b (hd k) G G'
    rw [trip_L7, trip_L8]
    exact this
  fin t h4 b f7 f8 f6 G := by
    have e : acc S W (qn (tp t.val)) (cnt (tp t.val)) = acc S W (qn (pos t)) (qn (pos t)) := by
      rw [show tp t.val = pos t from tp_eq (pos t), at_close _ h4]
    unfold J at G; rw [e] at G
    intro e q j
    refine Eq.trans ?_ (quotient A b _ f7 f8 G (acc_pos A.one _ _) e q j)
    rw [fin_L]
    exact read6 (F := Ideal) c sc1 (ms3 m t).view f6 b f8 e q j
end

end Cert.Kernel3Ideal.Mla
-- ==== Proof.MlaIdealIns.lean ====
module

public import proofs.«01_k».proof.Proof.MlaIdealEval

/-! The arguments as reals, and the score and the weighed mean they name. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- The arguments as reals: queries and keys in two parts, values. -/
structure Ins where
  q0 : Fin 4 → Fin 8192 → Fin 8 → Fin 64 → ℝ
  q1 : Fin 4 → Fin 8192 → Fin 8 → Fin 32 → ℝ
  k0 : Fin 4 → Fin 8192 → Fin 8 → Fin 64 → ℝ
  k1 : Fin 4 → Fin 8192 → Fin 32 → ℝ
  vv : Fin 4 → Fin 8192 → Fin 8 → Fin 64 → ℝ

/-- Arrays whose elements are those reals. -/
structure Is (R : Ins) (a0 : FVec Ideal S4x8192x8x64 .f32) (a1 : FVec Ideal S4x8192x8x32 .f32) (a2 : FVec Ideal S4x8192x8x64 .f32)
    (a3 : FVec Ideal S4x8192x32 .f32) (a4 : FVec Ideal S4x8192x8x64 .f32) : Prop where
  e0 : ∀ b t h d, (a0 (ix4 b t h d) : EReal) = ((R.q0 b t h d : ℝ) : EReal)
  e1 : ∀ b t h d, (a1 (ix4 b t h d) : EReal) = ((R.q1 b t h d : ℝ) : EReal)
  e2 : ∀ b t h d, (a2 (ix4 b t h d) : EReal) = ((R.k0 b t h d : ℝ) : EReal)
  e3 : ∀ b t d, (a3 (ix3 b t d) : EReal) = ((R.k1 b t d : ℝ) : EReal)
  e4 : ∀ b t h d, (a4 (ix4 b t h d) : EReal) = ((R.vv b t h d : ℝ) : EReal)

/-- The scale, as a real. -/
def kap : ℝ := (Ideal.ofBits .f32 0x3DD105EC#32).toReal
theorem kap_coe : Ideal.ofBits .f32 0x3DD105EC#32 = ((kap : ℝ) : EReal) := by
  have : ∃ x : ℝ, Ideal.ofBits .f32 0x3DD105EC#32 = x := by
    simp only [Ideal.ofBits, Ideal.ieee]
    rw [if_neg (by decide), if_neg (by decide)]
    exact ⟨_, rfl⟩
  obtain ⟨x, hx⟩ := this
  unfold kap
  rw [hx, EReal.toReal_coe]

/-- The score of a key for a query. -/
def Ins.sc (R : Ins) (b : Fin 4) (h : Fin 8) (q k : Fin 8192) : ℝ :=
  (∑ x, R.q0 b q h x * R.k0 b k h x + ∑ x, R.k1 b k x * R.q1 b q h x) * kap

/-- The mean of the values of the keys up to the query, weighed by the scores' exponentials. -/
def Ins.mean (R : Ins) (b : Fin 4) (h : Fin 8) (q : Fin 8192) (r : Fin 64) : ℝ :=
  (∑ k, if k ≤ q then R.vv b k h r * Real.exp (R.sc b h q k) else 0) / (∑ k, if k ≤ q then Real.exp (R.sc b h q k) else 0)

end Cert.Kernel3Ideal.Mla
-- ==== Proof.MlaIdealHost.lean ====
module

public import proofs.«01_k».proof.Proof.MlaIdealTrack
public import proofs.«01_k».proof.Proof.MlaIdealIns

/-! What the host hands the attention call: keys, scaled queries and values with their row of ones, as terms of the arguments. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Keys: each head's own part, the part all heads share, zeros. -/
def kHost (a2 : FVec F S4x8192x8x64 .f32) (a3 : FVec F S4x8192x32 .f32) : FVec F S4x8x8192x128 .bf16 :=
  truncf .bf16 (transpose S4x8x8192x128 [0, 2, 1, 3] (concatenate S4x8192x8x128 3 [⟨S4x8192x8x64, a2⟩,
    ⟨S4x8192x8x32, broadcastInDim S4x8192x8x32 ![0, 1, 2, 3] bcast_S4x8192x1x32_S4x8192x8x32_0_1_2_3 (broadcastInDim S4x8192x1x32 ![0, 1, 3] bcast_S4x8192x32_S4x8192x1x32_0_1_3 a3)⟩,
    ⟨S4x8192x8x32, broadcastInDim S4x8192x8x32 ![] bcast_S_S4x8192x8x32 (constant S_ .f32 0x00000000#32)⟩] concatenates_S4x8192x8x64_S4x8192x8x32_S4x8192x8x32_S4x8192x8x128_d3) transposes_S4x8192x8x128_S4x8x8192x128_0_2_1_3) bitsLt_bf16_f32

/-- Queries, times the scale, over the logarithm of two. -/
def qHost (a0 : FVec F S4x8192x8x64 .f32) (a1 : FVec F S4x8192x8x32 .f32) : FVec F S4x8x128x8192 .bf16 :=
  truncf .bf16 (transpose S4x8x128x8192 [0, 2, 3, 1] (Host.divf (mulf (concatenate S4x8192x8x128 3 [⟨S4x8192x8x64, a0⟩, ⟨S4x8192x8x32, a1⟩,
    ⟨S4x8192x8x32, broadcastInDim S4x8192x8x32 ![] bcast_S_S4x8192x8x32 (constant S_ .f32 0x00000000#32)⟩] concatenates_S4x8192x8x64_S4x8192x8x32_S4x8192x8x32_S4x8192x8x128_d3)
      (broadcastInDim S4x8192x8x128 ![] bcast_S_S4x8192x8x128 (constant S_ .f32 0x3DD105EC#32)))
      (broadcastInDim S4x8192x8x128 ![] bcast_S_S4x8192x8x128 (Host.log (constant S_ .f32 0x40000000#32)))) transposes_S4x8192x8x128_S4x8x128x8192_0_2_3_1) bitsLt_bf16_f32

/-- Values, a row of ones, zeros. -/
def vHost (a4 : FVec F S4x8192x8x64 .f32) : FVec F S4x8x80x8192 .bf16 :=
  truncf .bf16 (concatenate S4x8x80x8192 2 [⟨S4x8x64x8192, transpose S4x8x64x8192 [0, 2, 3, 1] a4 transposes_S4x8192x8x64_S4x8x64x8192_0_2_3_1⟩,
    ⟨S4x8x1x8192, broadcastInDim S4x8x1x8192 ![] bcast_S_S4x8x1x8192 (constant S_ .f32 0x3F800000#32)⟩,
    ⟨S4x8x15x8192, broadcastInDim S4x8x15x8192 ![] bcast_S_S4x8x15x8192 (constant S_ .f32 0x00000000#32)⟩] concatenates_S4x8x64x8192_S4x8x1x8192_S4x8x15x8192_S4x8x80x8192_d2) bitsLt_bf16_f32

section
variable (m : (ℓ : Loc nD τ sig) → Buf (Elt F) ℓ) (c : Dev nD)
theorem V14 : V m c main_v14 = kHost (m ((c.tc : Thread nD τ).loc main_arg2)) (m ((c.tc : Thread nD τ).loc main_arg3)) := by
  sl_kernel_rfl
theorem V8 : V m c main_v8 = qHost (m ((c.tc : Thread nD τ).loc main_arg0)) (m ((c.tc : Thread nD τ).loc main_arg1)) := by
  sl_kernel_rfl
theorem V19 : V m c main_v19 = vHost (m ((c.tc : Thread nD τ).loc main_arg4)) := by
  sl_kernel_rfl
end

/-- A part of a row of 128: 64, then 32, then zeros. -/
def parts (f : Fin 64 → ℝ) (g : Fin 32 → ℝ) (d : Fin 128) : ℝ :=
  if h : d.val < 64 then f ⟨d.val, h⟩ else if h : d.val - 64 < 32 then g ⟨d.val - 64, h⟩ else 0

theorem sum_parts (f f' : Fin 64 → ℝ) (g g' : Fin 32 → ℝ) :
    ∑ d, parts f g d * parts f' g' d = ∑ x, f x * f' x + ∑ x, g x * g' x := by
  refine (Fin.sum_univ_add (a := 64) (b := 64) fun d => parts f g d * parts f' g' d).trans (congrArg₂ (· + ·) ?_ ?_)
  · refine Finset.sum_congr rfl fun d _ => ?_
    have hd : (Fin.castAdd 64 d).val < 64 := d.isLt
    unfold parts
    rw [dif_pos hd, dif_pos hd]
    rfl
  · refine (Fin.sum_univ_add (a := 32) (b := 32) fun d : Fin 64 => parts f g (Fin.natAdd 64 d) * parts f' g' (Fin.natAdd 64 d)).trans ?_
    rw [show ∑ x, g x * g' x = ∑ x, g x * g' x + ∑ _x : Fin 32, (0 : ℝ) by rw [Finset.sum_const_zero, add_zero]]
    refine congrArg₂ (· + ·) (Finset.sum_congr rfl fun d _ => ?_) (Finset.sum_congr rfl fun d _ => ?_)
    · have hv : (Fin.natAdd 64 (Fin.castAdd 32 d)).val = 64 + d.val := rfl
      have hd := d.isLt
      have h1 : ¬ (Fin.natAdd 64 (Fin.castAdd 32 d)).val < 64 := by omega
      have h2 : (Fin.natAdd 64 (Fin.castAdd 32 d)).val - 64 < 32 := by omega
      have h3 : (⟨(Fin.natAdd 64 (Fin.castAdd 32 d)).val - 64, h2⟩ : Fin 32) = d := Fin.ext (by show (Fin.natAdd 64 (Fin.castAdd 32 d)).val - 64 = d.val; omega)
      unfold parts
      rw [dif_neg h1, dif_neg h1, dif_pos h2, dif_pos h2, h3]
    · have hv : (Fin.natAdd 64 (Fin.natAdd 32 d)).val = 64 + (32 + d.val) := rfl
      have h1 : ¬ (Fin.natAdd 64 (Fin.natAdd 32 d)).val < 64 := by omega
      have h2 : ¬ (Fin.natAdd 64 (Fin.natAdd 32 d)).val - 64 < 32 := by omega
      unfold parts
      rw [dif_neg h1, dif_neg h1, dif_neg h2, dif_neg h2, mul_zero]

/-- Two, and its logarithm. -/
theorem two_coe : Ideal.ofBits .f32 0x40000000#32 = ((2 : ℝ) : EReal) := by
  simp only [Ideal.ofBits, Ideal.ieee]
  rw [if_neg (by decide), if_neg (by decide)]
  refine congrArg _ ?_
  rw [if_neg (by decide)]
  norm_num [Nat.shiftRight_eq_div_pow]
theorem log_two : Ideal.log (Ideal.ofBits .f32 0x40000000#32) = ((Real.log 2 : ℝ) : EReal) := by
  rw [two_coe, Ideal.log_coe, if_neg (by norm_num)]

/-- The scores in powers of two, and the values with their row of ones. -/
def Ins.s2 (R : Ins) (b : Fin 4) (h : Fin 8) (k q : Fin 8192) : ℝ := R.sc b h q k * (1 / Real.log 2)
def Ins.w1 (R : Ins) (b : Fin 4) (h : Fin 8) (r : Fin 80) (k : Fin 8192) : ℝ :=
  if hr : r.val < 64 then R.vv b k h ⟨r.val, hr⟩ else if r.val - 64 < 1 then 1 else 0

section
variable (R : Ins) (a0 : FVec Ideal S4x8192x8x64 .f32) (a1 : FVec Ideal S4x8192x8x32 .f32) (a2 : FVec Ideal S4x8192x8x64 .f32) (a3 : FVec Ideal S4x8192x32 .f32) (a4 : FVec Ideal S4x8192x8x64 .f32)
  (A : Is R a0 a1 a2 a3 a4)
include A
theorem kHost_apply (b : Fin 4) (h : Fin 8) (k : Fin 8192) (d : Fin 128) :
    (kHost a2 a3 (ix4 b h k d) : EReal) = ((parts (R.k0 b k h) (R.k1 b k) d : ℝ) : EReal) := by
  unfold kHost; pointwise
  unfold parts
  split
  · exact A.e2 ..
  · split
    · exact A.e3 ..
    · exact EReal.coe_zero.symm
theorem qHost_apply (b : Fin 4) (h : Fin 8) (q : Fin 8192) (d : Fin 128) :
    (qHost a0 a1 (ix4 b h d q) : EReal) = ((parts (R.q0 b q h) (R.q1 b q h) d * kap * (1 / Real.log 2) : ℝ) : EReal) := by
  unfold qHost; pointwise
  rw [log_two, kap_coe, Ideal.div_coe (Real.log_pos (by norm_num)).ne', EReal.coe_mul, EReal.coe_mul]
  refine congrArg (· * _) (congrArg (· * _) ?_)
  unfold parts
  split
  · exact A.e0 ..
  · split
    · exact A.e1 ..
    · exact EReal.coe_zero.symm
theorem vHost_apply (b : Fin 4) (h : Fin 8) (r : Fin 80) (k : Fin 8192) :
    (vHost a4 (ix4 b h r k) : EReal) = ((R.w1 b h r k : ℝ) : EReal) := by
  unfold vHost; pointwise
  unfold Ins.w1
  split
  · exact A.e4 ..
  · split
    · exact EReal.coe_one.symm
    · exact EReal.coe_zero.symm
end

/-- On real arguments the arrays handed to the call hold those reals. -/
theorem arr (m : (ℓ : Loc nD τ sig) → Buf (Elt Ideal) ℓ) (c : Dev nD) (R : Ins)
    (A : Is R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    Arr m c R.s2 R.w1 where
  sc b h k q := by
    have e : ∀ d, KM m c b h k d * QM m c b h d q = ((parts (R.k0 b k h) (R.k1 b k) d * (parts (R.q0 b q h) (R.q1 b q h) d * kap * (1 / Real.log 2)) : ℝ) : EReal) := by
      intro d
      unfold KM QM
      rw [V14, V8, EReal.coe_mul]
      exact congrArg₂ (· * ·) (kHost_apply R _ _ _ _ _ A b h k d) (qHost_apply R _ _ _ _ _ A b h q d)
    simp only [e]
    rw [sum_coe]
    refine congrArg _ ?_
    unfold Ins.s2 Ins.sc
    rw [← Finset.sum_congr rfl (fun x _ => mul_comm (R.k0 b k h x) (R.q0 b q h x)), ← sum_parts, Finset.sum_mul, Finset.sum_mul]
    exact Finset.sum_congr rfl fun d _ => by ring
  vl b h r k := by
    unfold VM
    rw [V19]
    exact vHost_apply R _ _ _ _ _ A b h r k
  one b h k := by
    unfold Ins.w1
    rw [dif_neg (by decide), if_pos (by decide)]

end Cert.Kernel3Ideal.Mla
-- ==== Proof.MlaIdealReal.lean ====
module

public import proofs.«01_k».proof.Defs
public import proofs.«01_k».proof.Proof.MlaIdealHost

/-! Arguments below infinity in absolute value are reals. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- A number whose absolute value is below infinity is real. -/
theorem real_of_abs {x : EReal} (h : max x (-x) < ⊤) : x = ((x.toReal : ℝ) : EReal) := by
  have h1 := lt_of_le_of_lt (le_max_left _ _) h
  have h2 := lt_of_le_of_lt (le_max_right _ _) h
  refine (EReal.coe_toReal h1.ne fun e => ?_).symm
  rw [e, EReal.neg_bot] at h2
  exact lt_irrefl _ h2

/-- Five rows side by side. -/
def five (f0 : Fin 64 → EReal) (f1 : Fin 32 → EReal) (f2 : Fin 64 → EReal) (f3 : Fin 32 → EReal) (f4 : Fin 64 → EReal) (d : Fin 256) : EReal :=
  if h : d.val < 64 then f0 ⟨d.val, h⟩ else if h : d.val - 64 < 32 then f1 ⟨d.val - 64, h⟩ else if h : d.val - 64 - 32 < 64 then f2 ⟨d.val - 64 - 32, h⟩
  else if h : d.val - 64 - 32 - 64 < 32 then f3 ⟨d.val - 64 - 32 - 64, h⟩ else f4 ⟨d.val - 64 - 32 - 64 - 32, by omega⟩

theorem five_real {f0 f1 f2 f3 f4} (h : ∀ d, max (five f0 f1 f2 f3 f4 d) (-five f0 f1 f2 f3 f4 d) < ⊤) :
    (∀ d, f0 d = (((f0 d).toReal : ℝ) : EReal)) ∧ (∀ d, f1 d = (((f1 d).toReal : ℝ) : EReal)) ∧ (∀ d, f2 d = (((f2 d).toReal : ℝ) : EReal))
      ∧ (∀ d, f3 d = (((f3 d).toReal : ℝ) : EReal)) ∧ (∀ d, f4 d = (((f4 d).toReal : ℝ) : EReal)) := by
  have key : ∀ (x : EReal) (d : Fin 256), five f0 f1 f2 f3 f4 d = x → x = ((x.toReal : ℝ) : EReal) := by
    intro x d e
    have := h d
    rw [e] at this
    exact real_of_abs this
  refine ⟨fun d => key _ ⟨d.val, by omega⟩ ?_, fun d => key _ ⟨64 + d.val, by omega⟩ ?_, fun d => key _ ⟨96 + d.val, by omega⟩ ?_,
    fun d => key _ ⟨160 + d.val, by omega⟩ ?_, fun d => key _ ⟨192 + d.val, by omega⟩ ?_⟩ <;> (have hd := d.isLt; unfold five)
  · rw [dif_pos (show d.val < 64 by omega)]
  · rw [dif_neg (show ¬ 64 + d.val < 64 by omega), dif_pos (show 64 + d.val - 64 < 32 by omega)]
    exact congrArg f1 (Fin.ext (show 64 + d.val - 64 = d.val by omega))
  · rw [dif_neg (show ¬ 96 + d.val < 64 by omega), dif_neg (show ¬ 96 + d.val - 64 < 32 by omega), dif_pos (show 96 + d.val - 64 - 32 < 64 by omega)]
    exact congrArg f2 (Fin.ext (show 96 + d.val - 64 - 32 = d.val by omega))
  · rw [dif_neg (show ¬ 160 + d.val < 64 by omega), dif_neg (show ¬ 160 + d.val - 64 < 32 by omega), dif_neg (show ¬ 160 + d.val - 64 - 32 < 64 by omega), dif_pos (show 160 + d.val - 64 - 32 - 64 < 32 by omega)]
    exact congrArg f3 (Fin.ext (show 160 + d.val - 64 - 32 - 64 = d.val by omega))
  · rw [dif_neg (show ¬ 192 + d.val < 64 by omega), dif_neg (show ¬ 192 + d.val - 64 < 32 by omega), dif_neg (show ¬ 192 + d.val - 64 - 32 < 64 by omega), dif_neg (show ¬ 192 + d.val - 64 - 32 - 64 < 32 by omega)]
    exact congrArg f4 (Fin.ext (show 192 + d.val - 64 - 32 - 64 - 32 = d.val by omega))

section
variable [Cert.Pre_finite.Facts] (a0 : FVec Ideal S4x8192x8x64 .f32) (a1 : FVec Ideal S4x8192x8x32 .f32) (a2 : FVec Ideal S4x8192x8x64 .f32) (a3 : FVec Ideal S4x8192x32 .f32) (a4 : FVec Ideal S4x8192x8x64 .f32)

/-- The arguments' reals. -/
def ins : Ins where
  q0 b t h d := (a0 (ix4 b t h d) : EReal).toReal
  q1 b t h d := (a1 (ix4 b t h d) : EReal).toReal
  k0 b t h d := (a2 (ix4 b t h d) : EReal).toReal
  k1 b t d := (a3 (ix3 b t d) : EReal).toReal
  vv b t h d := (a4 (ix4 b t h d) : EReal).toReal

theorem inf_top : Ideal.ofBits .f32 0x7F800000#32 = ⊤ := by simp [Ideal.ofBits, Ideal.ieee]

theorem fn_row (hp : Cert.Pre_finite.fn (F := Ideal) a0 a1 a2 a3 a4 = fun _ => 1#1) (b : Fin 4) (t : Fin 8192) (h : Fin 8) (d : Fin 256) :
    max (five (fun d => a0 (ix4 b t h d)) (fun d => a1 (ix4 b t h d)) (fun d => a2 (ix4 b t h d)) (fun d => a3 (ix3 b t d)) (fun d => a4 (ix4 b t h d)) d)
      (-five (fun d => a0 (ix4 b t h d)) (fun d => a1 (ix4 b t h d)) (fun d => a2 (ix4 b t h d)) (fun d => a3 (ix3 b t d)) (fun d => a4 (ix4 b t h d)) d) < ⊤ := by
  have := congrFun hp (ix4 b t h d)
  unfold Cert.Pre_finite.fn at this
  pointwise at this
  rw [inf_top] at this
  have of_one : ∀ {p : Prop} [Decidable p], BitVec.ofBool (decide p) = 1#1 → p := by
    intro p _ e
    by_contra hn
    rw [decide_eq_false hn] at e
    exact absurd e (by decide)
  exact of_one this

theorem is_ins (hp : Cert.Pre_finite.fn (F := Ideal) a0 a1 a2 a3 a4 = fun _ => 1#1) : Is (ins a0 a1 a2 a3 a4) a0 a1 a2 a3 a4 where
  e0 b t h d := (five_real (fn_row a0 a1 a2 a3 a4 hp b t h)).1 d
  e1 b t h d := (five_real (fn_row a0 a1 a2 a3 a4 hp b t h)).2.1 d
  e2 b t h d := (five_real (fn_row a0 a1 a2 a3 a4 hp b t h)).2.2.1 d
  e3 b t d := (five_real (fn_row a0 a1 a2 a3 a4 hp b t 0)).2.2.2.1 d
  e4 b t h d := (five_real (fn_row a0 a1 a2 a3 a4 hp b t h)).2.2.2.2 d
end

end Cert.Kernel3Ideal.Mla
-- ==== Proof.MlaIdealOut.lean ====
module

public import proofs.«01_k».proof.Proof.MlaIdealTrack

/-! The attention call's output array: every query's quotient of sums. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

open Idealize.ShloMosaic.Pipeline (Dat RDat Cfg Window cellOf)

def CoversOk (a : (pcfg0 (F := Ideal)).Adm) : Prop := ((cfg0 a).win 3).Covers
set_option maxHeartbeats 800000 in
theorem coversL : CoversOk admL := by unfold CoversOk; decide +kernel

section
variable (m : (ℓ : Loc nD τ sig) → Buf (Elt Ideal) ℓ) (ρ : Dev nD → PrngReg)
variable (S : Dev nD → Fin 4 → Fin 8 → Fin 8192 → Fin 8192 → ℝ) (W : Dev nD → Fin 4 → Fin 8 → Fin 80 → Fin 8192 → ℝ)

theorem covers : ((cfgM m).win 3).Covers := by
  have h : CoversOk (adm m) := by rw [adm_eq]; exact coversL
  exact h

/-- A query's sum of the values' column `j`, over the sum of its weights. -/
def quo (c : Dev nD) (b : Fin 4) (n : ℕ) (q j : Fin 512) : ℝ :=
  acc (S c) (W c) n n (⟨8 * b.val + j.val / 64, by omega⟩ : Fin 32) (⟨j.val % 64, by omega⟩ : Fin 80) q
    / acc (S c) (W c) n n (⟨8 * b.val + j.val / 64, by omega⟩ : Fin 32) (64 : Fin 80) q

/-- The output array. -/
def outG (c : Dev nD) : Vec Ideal S4x8192x512 .bf16 := fun i =>
  ((quo S W c ⟨(i (0 : Fin 3)).val, (i (0 : Fin 3)).isLt⟩ ((i (1 : Fin 3)).val / 512) ⟨(i (1 : Fin 3)).val % 512, Nat.mod_lt _ (by decide)⟩ ⟨(i (2 : Fin 3)).val, (i (2 : Fin 3)).isLt⟩ : ℝ) : EReal)

theorem outG_apply (c : Dev nD) (b : Fin 4) (n : ℕ) (hn : n < 16) (q j : Fin 512) (i : S4x8192x512.Idx)
    (h0 : (i (0 : Fin 3)).val = b.val) (h1 : (i (1 : Fin 3)).val = 512 * n + q.val) (h2 : (i (2 : Fin 3)).val = j.val) :
    (outG S W c i : EReal) = ((quo S W c b n q j : ℝ) : EReal) := by
  have hq := q.isLt
  unfold outG
  have e0 : (⟨(i (0 : Fin 3)).val, (i (0 : Fin 3)).isLt⟩ : Fin 4) = b := Fin.ext h0
  have e2 : (⟨(i (2 : Fin 3)).val, (i (2 : Fin 3)).isLt⟩ : Fin 512) = j := Fin.ext h2
  have e1 : (i (1 : Fin 3)).val / 512 = n := by omega
  have e3 : (⟨(i (1 : Fin 3)).val % 512, Nat.mod_lt _ (by decide)⟩ : Fin 512) = q := Fin.ext (show (i (1 : Fin 3)).val % 512 = q.val by omega)
  refine congrArg _ ?_
  exact congr (congr (congr (congrArg (quo S W c) e0) e1) e3) e2

variable {S W} (A : ∀ c, Arr m c (S c) (W c))
include A

set_option backward.isDefEq.respectTransparency.types false in
theorem run_out : θ_run defs (onTc (τ := τ) (main (F := Ideal))) ⟨m, fun _ => 0, ρ⟩ (fun r => (∀ c : Dev nD,
      (r.2.mem ((c.tc : Thread nD τ).loc main_v20) = outG S W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩)
    (run_main m ρ (fun c => J c (S c) (W c)) (fun t Y => ∀ c, O m (S c) (W c) t Y) fun c => ?_)
  · refine ⟨?_, ((h.1 c).2 main_arg0 (by decide : main_arg0 ∈ Pipeline.restRefs sig spec0)).trans (V_arg m c _ (by decide)),
      ((h.1 c).2 main_arg1 (by decide : main_arg1 ∈ Pipeline.restRefs sig spec0)).trans (V_arg m c _ (by decide)),
      ((h.1 c).2 main_arg2 (by decide : main_arg2 ∈ Pipeline.restRefs sig spec0)).trans (V_arg m c _ (by decide)),
      ((h.1 c).2 main_arg3 (by decide : main_arg3 ∈ Pipeline.restRefs sig spec0)).trans (V_arg m c _ (by decide)),
      ((h.1 c).2 main_arg4 (by decide : main_arg4 ∈ Pipeline.restRefs sig spec0)).trans (V_arg m c _ (by decide))⟩
    obtain ⟨after, hL, hA⟩ := RDat.FramePost.exists_exact h.1 c
    refine (hA (3 : Fin 4)).trans ?_
    refine Dat.arrAt_eq_of_covers (RDat.withAfter _ after) (3 : Fin 4) (outG S W c) (covers m) (fun t hf y => ?_) (Memref.isWhole_whole _)
    have hO := Dat.toRRel_leaves (dats m (fun c => J c (S c) (W c)) c) (fgt := outw m) (Rl := rel m (fun t Y => ∀ c, O m (S c) (W c) t Y)) (w := (3 : Fin 4)) rfl (hL (3 : Fin 4) t hf) (flush_close m t hf) c
    refine Eq.trans (b := after (3 : Fin 4) t y) (congrFun (congrFun (congrFun (RDat.withAfter_after _ _) _) _) _) ?_
    have e : (y : S4x512x512.Idx) = ix3 (⟨(y (0 : Fin 3)).val, (y (0 : Fin 3)).isLt⟩ : Fin 4) (⟨(y (1 : Fin 3)).val, (y (1 : Fin 3)).isLt⟩ : Fin 512) (⟨(y (2 : Fin 3)).val, (y (2 : Fin 3)).isLt⟩ : Fin 512) := by
      funext a; fin_cases a <;> rfl
    refine Eq.trans (congrArg (after (3 : Fin 4) t) e) ((hO _ _ _).trans (outG_apply S W c _ _ (qn_lt (pos t)) _ _ _ ?_ ?_ ?_).symm)
    · blk_simp
      refine Eq.trans (congrArg (fun z => z * 4 + _) (congrFun (idx m t).2.2.2 (0 : Fin 3))) ?_
      show 0 * 4 + (y (0 : Fin 3)).val = (y (0 : Fin 3)).val; omega
    · blk_simp
      refine Eq.trans (congrArg (fun z => z * 512 + _) (congrFun (idx m t).2.2.2 (1 : Fin 3))) ?_
      show (lit0 (pos t)).toNat * 512 + (y (1 : Fin 3)).val = 512 * (lit0 (pos t)).toNat + (y (1 : Fin 3)).val; omega
    · blk_simp
      refine Eq.trans (congrArg (fun z => z * 512 + _) (congrFun (idx m t).2.2.2 (2 : Fin 3))) ?_
      show 0 * 512 + (y (2 : Fin 3)).val = (y (2 : Fin 3)).val; omega
  · have T := track (A c)
    exact ⟨T.diag, T.lazy, T.trip, fun t h4 b f7 f8 f6 G c' => by
      obtain rfl : c' = c := Subsingleton.elim (α := Fin 1) c' c
      exact T.fin t h4 b f7 f8 f6 G⟩
end

end Cert.Kernel3Ideal.Mla
-- ==== Proof.MlaIdealSum.lean ====
module

public import proofs.«01_k».proof.Proof.MlaIdealOut

/-! A closing point's sums are the sums over every key up to the query. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- Sixteen blocks of 512 rows are the 8192. -/
theorem sum_blocks (f : Fin 8192 → ℝ) : ∑ x, f x = ∑ n ∈ Finset.range 16, ∑ k : Fin 512, f (gl n k) := by
  rw [Finset.sum_range]
  refine Eq.trans ?_ (Fintype.sum_prod_type (fun p : Fin 16 × Fin 512 => f (gl p.1.val p.2)))
  refine (Fintype.sum_equiv (finProdFinEquiv (m := 16) (n := 512)) (fun p => f (gl p.1.val p.2)) f fun p => congrArg f (Fin.ext ?_)).symm
  rw [gl_val p.1.isLt]
  show 512 * p.1.val + p.2.val = p.2.val + 512 * p.1.val
  omega

section
variable (S : Fin 4 → Fin 8 → Fin 8192 → Fin 8192 → ℝ) (W : Fin 4 → Fin 8 → Fin 80 → Fin 8192 → ℝ)

theorem acc_closed (n : ℕ) (hn : n < 16) (h : Fin 32) (r : Fin 80) (q : Fin 512) :
    acc S W n n h r q = ∑ k : Fin 8192, if k ≤ gl n q then W ⟨h.val / 8, b8 h⟩ ⟨h.val % 8, h8 h⟩ r k * pw (S ⟨h.val / 8, b8 h⟩ ⟨h.val % 8, h8 h⟩ k (gl n q)) else 0 := by
  have hq := q.isLt
  rw [sum_blocks]
  have below : ∀ i ∈ Finset.range n, (∑ k : Fin 512, if gl i k ≤ gl n q then W ⟨h.val / 8, b8 h⟩ ⟨h.val % 8, h8 h⟩ r (gl i k) * pw (S ⟨h.val / 8, b8 h⟩ ⟨h.val % 8, h8 h⟩ (gl i k) (gl n q)) else 0)
      = tot (sB S n i h) (vB W i h) r q := by
    intro i hi
    have hi := Finset.mem_range.mp hi
    refine Finset.sum_congr rfl fun k _ => if_pos ?_
    have hk := k.isLt
    rw [Fin.le_def, gl_val (by omega), gl_val hn]; omega
  have self : (∑ k : Fin 512, if gl n k ≤ gl n q then W ⟨h.val / 8, b8 h⟩ ⟨h.val % 8, h8 h⟩ r (gl n k) * pw (S ⟨h.val / 8, b8 h⟩ ⟨h.val % 8, h8 h⟩ (gl n k) (gl n q)) else 0)
      = upto (sB S n n h) (vB W n h) r q := by
    refine Finset.sum_congr rfl fun k _ => ?_
    have e : (gl n k ≤ gl n q) ↔ k ≤ q := by
      rw [Fin.le_def, gl_val hn, gl_val hn, Fin.le_def]; omega
    by_cases hk : k ≤ q
    · rw [if_pos hk, if_pos (e.mpr hk)]; rfl
    · rw [if_neg hk, if_neg (fun x => hk (e.mp x))]
  have above : ∀ i ∈ Finset.range 16, i ∉ Finset.range (n + 1) → (∑ k : Fin 512, if gl i k ≤ gl n q then W ⟨h.val / 8, b8 h⟩ ⟨h.val % 8, h8 h⟩ r (gl i k) * pw (S ⟨h.val / 8, b8 h⟩ ⟨h.val % 8, h8 h⟩ (gl i k) (gl n q)) else 0) = 0 := by
    intro i hi hi'
    have hi := Finset.mem_range.mp hi
    have hi' : n + 1 ≤ i := by
      by_contra hc
      exact hi' (Finset.mem_range.mpr (by omega))
    refine Finset.sum_eq_zero fun k _ => if_neg ?_
    rw [Fin.le_def, gl_val hi, gl_val hn]; omega
  rw [← Finset.sum_subset (Finset.range_subset_range.mpr (by omega : n + 1 ≤ 16)) above, Finset.sum_range_succ, Finset.sum_congr rfl below, self, add_comm]
  rfl
end

end Cert.Kernel3Ideal.Mla
-- ==== Proof.MlaRef.lean ====
module
public import proofs.«01_k».proof.Proof.Gen.Reference3Ideal.Run
public import proofs.«01_k».proof.Proof.MlaIdealIns

/-! The reference's attention, stage by stage. -/

@[expose] public section
set_option maxRecDepth 16384
noncomputable section
namespace Cert.Reference3Ideal.Ref
open Idealize.ShloMosaic Idealize.ShloMosaic.TcCoe Idealize.SL.Sem Cert.Reference3Ideal Cert.Reference3Ideal.Gen
open Cert.Kernel3Ideal.Mla (Ins Is kap kap_coe neg_inf sum_coe)

section
variable {F : FTy → Type} [FloatOps F]

/-- The masked scores: batch, head, query, key. -/
def mskT (a0 : FVec F S4x8192x8x64 .f32) (a1 : FVec F S4x8192x8x32 .f32) (a2 : FVec F S4x8192x8x64 .f32) (a3 : FVec F S4x8192x32 .f32) : FVec F S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (mulf (addf (Host.dotGeneral dot_S4x8192x8x64_S4x8192x8x64_S4x8x8192x8192_3_3_1_1_02_02 none a0 a2) (transpose S4x8x8192x8192 [0, 3, 2, 1] (Host.dotGeneral dot_S4x8192x32_S4x8192x8x32_S4x8192x8192x8_2_3_1_12_0_0 none a3 a1) transposes_S4x8192x8192x8_S4x8x8192x8192_0_3_2_1)) (broadcastInDim S4x8x8192x8192 ![] bcast_S_S4x8x8192x8192 (constant S_ .f32 0x3DD105EC#32)))
    (broadcastInDim S4x8x8192x8192 ![] bcast_S_S4x8x8192x8192 (id (constant S_ .f32 0xFF800000#32)))

/-- The largest score of each query. -/
def topT (x : FVec F S4x8x8192x8192 .f32) : FVec F S4x8x8192 .f32 :=
  maximumf (broadcastInDim S4x8x8192 ![] bcast_S_S4x8x8192 (constant S_ .f32 0xFF800000#32)) (Host.reduce FloatOps.maximumf x (constant S_ .f32 0xFF800000#32) reducesTo_S4x8x8192x8192_S4x8x8192_d3 h_S_)

/-- A number per query, along its row. -/
def rowT (x : FVec F S4x8x8192 .f32) : FVec F S4x8x8192x8192 .f32 :=
  broadcastInDim S4x8x8192x8192 ![0, 1, 2, 3] bcast_S4x8x8192x1_S4x8x8192x8192_0_1_2_3 (broadcastInDim S4x8x8192x1 ![0, 1, 2] bcast_S4x8x8192_S4x8x8192x1_0_1_2 x)

/-- The exponentials of the scores less a number per query. -/
def expT (x : FVec F S4x8x8192x8192 .f32) (M : FVec F S4x8x8192 .f32) : FVec F S4x8x8192x8192 .f32 := Host.exp (subf x (rowT M))

/-- Each query's sum. -/
def sumT (e : FVec F S4x8x8192x8192 .f32) : FVec F S4x8x8192 .f32 := Host.reduceAdd e (constant S_ .f32 0x00000000#32) reducesTo_S4x8x8192x8192_S4x8x8192_d3 h_S_

/-- The weighted values. -/
def outT (a4 : FVec F S4x8192x8x64 .f32) (e : FVec F S4x8x8192x8192 .f32) : FVec F S4x8192x512 .bf16 :=
  truncf .bf16 (shapeCast _ (transpose S4x8192x8x64 [0, 3, 1, 2] (Host.dotGeneral dot_S4x8192x8x64_S4x8x8192x8192_S4x8x64x8192_1_3_3_2_02_01 none a4 (Host.divf e (rowT (sumT e)))) transposes_S4x8x64x8192_S4x8192x8x64_0_3_1_2) shapeCasts_S4x8192x8x64_S4x8192x512) bitsLt_bf16_f32

theorem res_eq (m : (ℓ : Loc nD τ sig) → Buf (Elt F) ℓ) (c : Dev nD) : Value.res_main_v27 m c =
    outT (m ((c.tc : Thread nD τ).loc main_arg4)) (expT (mskT (m ((c.tc : Thread nD τ).loc main_arg0)) (m ((c.tc : Thread nD τ).loc main_arg1)) (m ((c.tc : Thread nD τ).loc main_arg2)) (m ((c.tc : Thread nD τ).loc main_arg3)))
      (topT (mskT (m ((c.tc : Thread nD τ).loc main_arg0)) (m ((c.tc : Thread nD τ).loc main_arg1)) (m ((c.tc : Thread nD τ).loc main_arg2)) (m ((c.tc : Thread nD τ).loc main_arg3))))) := by
  unfold Value.res_main_v27; rfl
end

section
variable (a0 : FVec Ideal S4x8192x8x64 .f32) (a1 : FVec Ideal S4x8192x8x32 .f32) (a2 : FVec Ideal S4x8192x8x64 .f32) (a3 : FVec Ideal S4x8192x32 .f32) (a4 : FVec Ideal S4x8192x8x64 .f32)
  (x : FVec Ideal S4x8x8192x8192 .f32) (M : FVec Ideal S4x8x8192 .f32)

/-- A key's number against a query's. -/
theorem le_word (k q : Fin 8192) : (IntOp.cmpi CmpIPredicate.sle (BitVec.ofNat 32 k.val) (BitVec.ofNat 32 q.val) = (1 : BitVec 1)) ↔ k ≤ q := by
  have e1 : ∀ a : Fin 8192, (BitVec.ofNat 32 a.val).toInt = a.val := by
    intro a
    have ha := a.isLt
    rw [BitVec.toInt_eq_toNat_of_lt (by rw [BitVec.toNat_ofNat]; omega), BitVec.toNat_ofNat]; omega
  rw [Fin.le_def]
  simp only [IntOp.cmpi, BitVec.sle, e1]
  by_cases h : k.val ≤ q.val <;> simp [h]

theorem msk_apply (R : Ins) (A : Is R a0 a1 a2 a3 a4) (b : Fin 4) (h : Fin 8) (q k : Fin 8192) :
    (mskT a0 a1 a2 a3 (ix4 b h q k) : EReal) = if k ≤ q then ((R.sc b h q k : ℝ) : EReal) else ⊥ := by
  have e : (mskT a0 a1 a2 a3 (ix4 b h q k) : EReal) = Scalar.select (IntOp.cmpi CmpIPredicate.sle (BitVec.ofNat 32 k.val) (BitVec.ofNat 32 q.val))
      ((∑ x, a0 (ix4 b q h x) * a2 (ix4 b k h x) + ∑ x, a3 (ix3 b k x) * a1 (ix4 b q h x)) * Ideal.ofBits FTy.f32 0x3DD105EC#32 : EReal)
      (Ideal.ofBits FTy.f32 0xFF800000#32) := by
    unfold mskT
    pointwise
    rfl
  rw [e, neg_inf, kap_coe]
  unfold Scalar.select
  by_cases hk : k ≤ q
  · rw [if_pos ((le_word k q).mpr hk), if_pos hk]
    unfold Ins.sc
    rw [EReal.coe_mul, EReal.coe_add, ← sum_coe, ← sum_coe]
    refine congrArg (· * _) (congrArg₂ (· + ·) (Finset.sum_congr rfl fun d _ => ?_) (Finset.sum_congr rfl fun d _ => ?_))
    · rw [A.e0, A.e2, EReal.coe_mul]
    · rw [A.e3, A.e1, EReal.coe_mul]
  · rw [if_neg (fun e => hk ((le_word k q).mp e)), if_neg hk]

/-- A fold of maxima from −∞ over numbers below ∞, one of them above −∞, is real. -/
theorem fold_real {ι : Type} (s : Finset ι) (f : ι → EReal) (hf : ∀ i, f i ≠ ⊤) (i0 : ι) (h0 : i0 ∈ s) (hb : f i0 ≠ ⊥) :
    ∃ μ : ℝ, s.fold max (⊥ : EReal) f = ((μ : ℝ) : EReal) := by
  have ht : s.fold max (⊥ : EReal) f ≠ ⊤ := ne_of_lt ((Finset.fold_max_lt _).mpr ⟨bot_lt_top, fun k _ => lt_top_iff_ne_top.mpr (hf k)⟩)
  have hl : s.fold max (⊥ : EReal) f ≠ ⊥ := ne_of_gt ((Finset.lt_fold_max _).mpr (Or.inr ⟨i0, h0, bot_lt_iff_ne_bot.mpr hb⟩))
  exact ⟨_, (EReal.coe_toReal ht hl).symm⟩

/-- A host maximum of such numbers is real. -/
theorem reduce_real {s t u : Shape} {axes : List (Fin s.rank)} (x : FVec Ideal s .f32) (init : FVec Ideal u .f32) (hr : s.ReducesTo axes t) (hu : 0 < u.numel)
    (hi : ∀ z, (init z : EReal) = ⊥) (hx : ∀ i, (x i : EReal) ≠ ⊤) (j : t.Idx) (i0 : s.Idx) (hd : hr.drop i0 = j) (hb : (x i0 : EReal) ≠ ⊥) :
    ∃ μ : ℝ, Host.reduce (FloatOps.maximumf (F := Ideal) (φ := .f32)) x init hr hu j = ((μ : ℝ) : EReal) := by
  rw [Host.reduce_eq_fold, hi]
  exact fold_real _ x hx i0 (Finset.mem_filter.mpr ⟨Finset.mem_univ _, hd⟩) hb

/-- A query's row drops to the query. -/
theorem drop_row (b : Fin 4) (h : Fin 8) (q k : Fin 8192) :
    reducesTo_S4x8x8192x8192_S4x8x8192_d3.drop (ix4 b h q k) = ix3 b h q := by
  funext a; fin_cases a <;> rfl

theorem max_apply (y : FVec Ideal S4x8x8192 .f32) (j : S4x8x8192.Idx) :
    (maximumf (broadcastInDim S4x8x8192 ![] bcast_S_S4x8x8192 (constant S_ .f32 0xFF800000#32)) y j : EReal) = max (Ideal.ofBits .f32 0xFF800000#32) (y j) := rfl

theorem top_real (hx : ∀ i, (x i : EReal) ≠ ⊤) (b : Fin 4) (h : Fin 8) (q : Fin 8192) (hb : (x (ix4 b h q q) : EReal) ≠ ⊥) :
    ∃ μ : ℝ, (topT x (ix3 b h q) : EReal) = ((μ : ℝ) : EReal) := by
  obtain ⟨μ, hμ⟩ := reduce_real x (constant S_ .f32 0xFF800000#32) reducesTo_S4x8x8192x8192_S4x8x8192_d3 h_S_
    (fun _ => neg_inf) hx (ix3 b h q) (ix4 b h q q) (drop_row b h q q) hb
  refine ⟨μ, ?_⟩
  unfold topT
  rw [max_apply]
  rw [hμ, neg_inf]
  exact max_eq_right bot_le

theorem exp_apply (b : Fin 4) (h : Fin 8) (q k : Fin 8192) : (expT x M (ix4 b h q k) : EReal) = Ideal.exp (x (ix4 b h q k) - M (ix3 b h q)) := by
  unfold expT rowT; pointwise
theorem sum_apply (b : Fin 4) (h : Fin 8) (q : Fin 8192) : (sumT x (ix3 b h q) : EReal) = ∑ k, (x (ix4 b h q k) : EReal) := by
  unfold sumT; pointwise
theorem out_apply (b : Fin 4) (q : Fin 8192) (j : Fin 512) : (outT a4 x (ix3 b q j) : EReal) =
    ∑ k, (a4 (ix4 b k (⟨j.val / 64, by omega⟩ : Fin 8) (⟨j.val % 64, by omega⟩ : Fin 64)) : EReal) * Ideal.div (x (ix4 b (⟨j.val / 64, by omega⟩ : Fin 8) q k)) (sumT x (ix3 b (⟨j.val / 64, by omega⟩ : Fin 8) q)) := by
  unfold outT rowT; pointwise

/-- The reference's element is the weighed mean. -/
theorem mean_apply (R : Ins) (A : Is R a0 a1 a2 a3 a4) (b : Fin 4) (q : Fin 8192) (j : Fin 512) :
    (outT a4 (expT (mskT a0 a1 a2 a3) (topT (mskT a0 a1 a2 a3))) (ix3 b q j) : EReal)
      = ((R.mean b (⟨j.val / 64, by omega⟩ : Fin 8) q (⟨j.val % 64, by omega⟩ : Fin 64) : ℝ) : EReal) := by
  rw [out_apply]
  generalize (⟨j.val / 64, by omega⟩ : Fin 8) = h
  generalize (⟨j.val % 64, by omega⟩ : Fin 64) = r
  have hx : ∀ i, (mskT a0 a1 a2 a3 i : EReal) ≠ ⊤ := by
    intro i
    obtain ⟨b, h, q, k, rfl⟩ : ∃ b h q k, i = ix4 b h q k := ⟨i 0, i 1, i 2, i 3, by funext a; fin_cases a <;> rfl⟩
    rw [msk_apply a0 a1 a2 a3 a4 R A]
    split
    · exact EReal.coe_ne_top _
    · exact bot_ne_top
  obtain ⟨μ, hμ⟩ := top_real (mskT a0 a1 a2 a3) hx b h q (by rw [msk_apply a0 a1 a2 a3 a4 R A, if_pos le_rfl]; exact EReal.coe_ne_bot _)
  have he : ∀ k, (expT (mskT a0 a1 a2 a3) (topT (mskT a0 a1 a2 a3)) (ix4 b h q k) : EReal)
      = ((Real.exp (-μ) * (if k ≤ q then Real.exp (R.sc b h q k) else 0) : ℝ) : EReal) := by
    intro k
    rw [exp_apply, hμ, msk_apply a0 a1 a2 a3 a4 R A]
    by_cases hk : k ≤ q
    · rw [if_pos hk, if_pos hk, ← EReal.coe_sub, Ideal.exp_coe, ← Real.exp_add]
      exact congrArg _ (congrArg Real.exp (by ring))
    · rw [if_neg hk, if_neg hk, EReal.bot_sub, Ideal.exp_bot, mul_zero, EReal.coe_zero]
  have hs : (sumT (expT (mskT a0 a1 a2 a3) (topT (mskT a0 a1 a2 a3))) (ix3 b h q) : EReal)
      = ((Real.exp (-μ) * ∑ k, (if k ≤ q then Real.exp (R.sc b h q k) else 0) : ℝ) : EReal) := by
    rw [sum_apply, Finset.mul_sum, ← sum_coe]
    exact Finset.sum_congr rfl fun k _ => he k
  have hp : 0 < ∑ k, (if k ≤ q then Real.exp (R.sc b h q k) else 0) :=
    Finset.sum_pos' (fun k _ => by split; exacts [(Real.exp_pos _).le, le_rfl]) ⟨q, Finset.mem_univ _, by rw [if_pos le_rfl]; exact Real.exp_pos _⟩
  have hz : Real.exp (-μ) * ∑ k, (if k ≤ q then Real.exp (R.sc b h q k) else 0) ≠ 0 := (mul_pos (Real.exp_pos _) hp).ne'
  unfold Ins.mean
  rw [Finset.sum_div, ← sum_coe]
  refine Finset.sum_congr rfl fun k _ => ?_
  rw [hs, he, Ideal.div_coe hz, A.e4, ← EReal.coe_mul, ← EReal.coe_mul]
  refine congrArg _ ?_
  have h1 := (Real.exp_pos (-μ)).ne'
  have h2 := hp.ne'
  by_cases hk : k ≤ q
  · rw [if_pos hk, if_pos hk]; field_simp
  · rw [if_neg hk, if_neg hk]; simp
end

end Cert.Reference3Ideal.Ref
-- ==== Proof.MlaIdealTie.lean ====
module

public import proofs.«01_k».proof.Proof.MlaIdealReal
public import proofs.«01_k».proof.Proof.MlaIdealOut
public import proofs.«01_k».proof.Proof.MlaIdealSum
public import proofs.«01_k».proof.Proof.MlaRef

/-! On real arguments the call's output array is the reference's. -/

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-- A power of two of a score over the logarithm of two is the score's exponential. -/
theorem pw_log (x : ℝ) : pw (x * (1 / Real.log 2)) = Real.exp x := by
  unfold pw
  refine (Real.rpow_def_of_pos (by norm_num) _).trans (congrArg Real.exp ?_)
  have := (Real.log_pos (by norm_num : (1 : ℝ) < 2)).ne'
  field_simp

section
variable (R : Dev nD → Ins) (c : Dev nD)

/-- The output array's elements are the weighed means. -/
theorem quo_mean (b : Fin 4) (n : ℕ) (hn : n < 16) (q j : Fin 512) :
    quo (fun c => (R c).s2) (fun c => (R c).w1) c b n q j
      = (R c).mean b (⟨j.val / 64, by omega⟩ : Fin 8) (gl n q) (⟨j.val % 64, by omega⟩ : Fin 64) := by
  unfold quo Ins.mean
  rw [acc_closed _ _ n hn, acc_closed _ _ n hn]
  have hj := j.isLt
  have eb : ∀ h, (⟨(8 * b.val + j.val / 64) / 8, h⟩ : Fin 4) = b := fun h => Fin.ext (show (8 * b.val + j.val / 64) / 8 = b.val by omega)
  have eh : ∀ h, (⟨(8 * b.val + j.val / 64) % 8, h⟩ : Fin 8) = ⟨j.val / 64, by omega⟩ := fun h => Fin.ext (show (8 * b.val + j.val / 64) % 8 = j.val / 64 by omega)
  have hr : j.val % 64 < 64 := by omega
  refine congrArg₂ (· / ·) (Finset.sum_congr rfl fun k _ => ?_) (Finset.sum_congr rfl fun k _ => ?_)
  · by_cases hk : k ≤ gl n q
    · rw [if_pos hk, if_pos hk]
      refine congrArg₂ (· * ·) ?_ ?_
      · show (R c).w1 _ _ _ k = _
        rw [eb, eh]
        unfold Ins.w1
        rw [dif_pos hr]
      · show pw ((R c).s2 _ _ k (gl n q)) = _
        rw [eb, eh]
        exact pw_log _
    · rw [if_neg hk, if_neg hk]
  · by_cases hk : k ≤ gl n q
    · rw [if_pos hk, if_pos hk]
      have e1 : (R c).w1 b (⟨j.val / 64, by omega⟩ : Fin 8) 64 k = 1 := by
        unfold Ins.w1
        rw [dif_neg (by decide), if_pos (by decide)]
      show (R c).w1 _ _ 64 k * pw ((R c).s2 _ _ k (gl n q)) = _
      rw [eb, eh, e1, one_mul]
      exact pw_log _
    · rw [if_neg hk, if_neg hk]

/-- The two sides' arrays. -/
theorem out_eq (a0 : FVec Ideal S4x8192x8x64 .f32) (a1 : FVec Ideal S4x8192x8x32 .f32) (a2 : FVec Ideal S4x8192x8x64 .f32) (a3 : FVec Ideal S4x8192x32 .f32) (a4 : FVec Ideal S4x8192x8x64 .f32)
    (A : Is (R c) a0 a1 a2 a3 a4) :
    Cert.Reference3Ideal.Ref.outT (F := Ideal) a4 (Cert.Reference3Ideal.Ref.expT (Cert.Reference3Ideal.Ref.mskT a0 a1 a2 a3) (Cert.Reference3Ideal.Ref.topT (Cert.Reference3Ideal.Ref.mskT a0 a1 a2 a3)))
      = outG (fun c => (R c).s2) (fun c => (R c).w1) c := by
  funext i
  obtain ⟨b, s, j, rfl⟩ : ∃ (b : Fin 4) (s : Fin 8192) (j : Fin 512), i = ix3 b s j := ⟨i 0, i 1, i 2, by funext a; fin_cases a <;> rfl⟩
  have hs := s.isLt
  have hn : s.val / 512 < 16 := by omega
  refine (Cert.Reference3Ideal.Ref.mean_apply a0 a1 a2 a3 a4 (R c) A b s j).trans ?_
  refine Eq.trans ?_ (outG_apply _ _ c b (s.val / 512) hn (⟨s.val % 512, by omega⟩ : Fin 512) j (ix3 b s j) rfl (show s.val = 512 * (s.val / 512) + s.val % 512 by omega) rfl).symm
  rw [quo_mean R c b _ hn]
  have e : gl (s.val / 512) (⟨s.val % 512, by omega⟩ : Fin 512) = s := Fin.ext ((gl_val hn _).trans (show 512 * (s.val / 512) + s.val % 512 = s.val by omega))
  rw [e]
end

end Cert.Kernel3Ideal.Mla
-- ==== Proof.lean ====
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.KernelIdeal.Value
public import proofs.«01_k».proof.Proof.Gen.Reference2Ideal.Run
public import proofs.«01_k».proof.Proof.Gen.ReferenceIdeal.Run
public import proofs.«01_k».proof.Proof.FfnTie
public import proofs.«01_k».proof.Proof.MergeTie
public import Idealize.ShloMosaic.Adequacy
public import Idealize.ShloMosaic.Init
public import Idealize.ShloMosaic.Lib.Quiescent

public import proofs.«01_k».proof.Proof.Gen.Reference3Ideal.Run
public import proofs.«01_k».proof.Proof.Gen.Pre_finite
public import proofs.«01_k».proof.Proof.MlaRawLaunch
public import proofs.«01_k».proof.Proof.MlaIdealTie

/-! The three calls' claims: each kernel's frame and value run, each reference's run, and the two
    sides' equality from `FfnTie`, `MergeTie` and `MlaIdealTie`. -/

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6⟩ := hagree c
  exact Cert.Ffn.tie m m' c h0 h1 h2 h3 h4 h5 h6

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4, h5, h6, h7, h8, h9, h10, h11, h12, h13⟩ := hagree c
  exact Cert.Merge.tie m m' c h0 h1 h2 h3 h4 h5 h6 h7 h8 h9 h10 h11 h12 h13

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal_pre_finite := by
  intro m ρ m' ρ' hp hagree
  have A := fun c => Cert.Kernel3Ideal.Mla.is_ins _ _ _ _ _ (hp c)
  refine ⟨_, (θ_run Cert.Kernel3Ideal.defs _ _).mono (fun _ h => h.1) (Cert.Kernel3Ideal.Mla.run_out m ρ fun c => Cert.Kernel3Ideal.Mla.arr m c _ (A c)), ?_⟩
  refine (θ_run Cert.Reference3Ideal.defs _ _).mono (fun _ h c => ⟨?_, (h c).2⟩) (Cert.Reference3Ideal.Value.run (F := Ideal) m' ρ')
  rw [(h c).1, Cert.Reference3Ideal.Ref.res_eq]
  obtain ⟨h0, h1, h2, h3, h4⟩ := hagree c
  rw [h0, h1, h2, h3, h4]
  exact Cert.Kernel3Ideal.Mla.out_eq _ c _ _ _ _ _ (A c)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, quiescent_ReferenceIdeal, fun m ρ _ => Cert.Kernel2.Gen.frame m ρ, fun m ρ _ => Cert.Kernel2Ideal.Gen.frame m ρ, quiescent_Reference2Ideal,
  fun m ρ _ => Cert.Kernel3.Mla.frame m ρ, fun m ρ _ => Cert.Kernel3Ideal.Mla.frame m ρ, fun m ρ _ => Cert.Kernel3Ideal.Mla.frame m ρ, quiescent_Reference3Ideal, fun m ρ _ => quiescent_Reference3Ideal m ρ trivial,
  (trivial : preserves_Kernel_KernelIdeal), algebraic_KernelIdeal_ReferenceIdeal, (trivial : preserves_Kernel2_Kernel2Ideal), algebraic_Kernel2Ideal_Reference2Ideal, IdealRules.named_const.statement _ _ _ _ _ rfl, algebraic_Kernel3Ideal_Reference3Ideal⟩

end Cert.Proof

end
